-- ==== Defs.lean ====
def Pre_Kernel [hPre_tables_ok : Cert.Pre_tables_ok.Facts] (m : (ℓ : Loc Cert.Kernel.nD Cert.Kernel.τ Cert.Kernel.sig) → Buf (Elt Bits) ℓ) : Prop :=
  ∀ c : Dev Cert.Kernel.nD,
    (Cert.Pre_tables_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_tables_ok : Cert.Pre_tables_ok.Facts] (m : (ℓ : Loc Cert.KernelIdeal.nD Cert.KernelIdeal.τ Cert.KernelIdeal.sig) → Buf (Elt Ideal) ℓ) : Prop :=
  ∀ c : Dev Cert.KernelIdeal.nD,
    (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_ok [hPre_tables_ok : Cert.Pre_tables_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ranks (m : (ℓ : Loc Cert.Ranks.nD Cert.Ranks.τ Cert.Ranks.sig) → Buf (Elt Bits) ℓ) : Prop :=
  True

def Pre_RanksReference (m : (ℓ : Loc Cert.RanksReference.nD Cert.RanksReference.τ Cert.RanksReference.sig) → Buf (Elt Bits) ℓ) : Prop :=
  True

def Pre_Unsort [hPre_rank_ok : Cert.Pre_rank_ok.Facts] (m : (ℓ : Loc Cert.Unsort.nD Cert.Unsort.τ Cert.Unsort.sig) → Buf (Elt Bits) ℓ) : Prop :=
  ∀ c : Dev Cert.Unsort.nD,
    (Cert.Pre_rank_ok.fn (F := Bits) (m ((c.tc : Thread Cert.Unsort.nD Cert.Unsort.τ).loc Cert.Unsort.main_arg0)) (m ((c.tc : Thread Cert.Unsort.nD Cert.Unsort.τ).loc Cert.Unsort.main_arg1)) (m ((c.tc : Thread Cert.Unsort.nD Cert.Unsort.τ).loc Cert.Unsort.main_arg2))) = (fun _ => 1#1)

def Pre_UnsortIdeal [hPre_rank_ok : Cert.Pre_rank_ok.Facts] (m : (ℓ : Loc Cert.UnsortIdeal.nD Cert.UnsortIdeal.τ Cert.UnsortIdeal.sig) → Buf (Elt Ideal) ℓ) : Prop :=
  ∀ c : Dev Cert.UnsortIdeal.nD,
    (Cert.Pre_rank_ok.fn (F := Ideal) (m ((c.tc : Thread Cert.UnsortIdeal.nD Cert.UnsortIdeal.τ).loc Cert.UnsortIdeal.main_arg0)) (m ((c.tc : Thread Cert.UnsortIdeal.nD Cert.UnsortIdeal.τ).loc Cert.UnsortIdeal.main_arg1)) (m ((c.tc : Thread Cert.UnsortIdeal.nD Cert.UnsortIdeal.τ).loc Cert.UnsortIdeal.main_arg2))) = (fun _ => 1#1)

def Pre_UnsortReferenceIdeal (m : (ℓ : Loc Cert.UnsortReferenceIdeal.nD Cert.UnsortReferenceIdeal.τ Cert.UnsortReferenceIdeal.sig) → Buf (Elt Ideal) ℓ) : Prop :=
  True

def Pre_UnsortReferenceIdeal_rank_ok [hPre_rank_ok : Cert.Pre_rank_ok.Facts] (m : (ℓ : Loc Cert.UnsortReferenceIdeal.nD Cert.UnsortReferenceIdeal.τ Cert.UnsortReferenceIdeal.sig) → Buf (Elt Ideal) ℓ) : Prop :=
  ∀ c : Dev Cert.UnsortReferenceIdeal.nD,
    (Cert.Pre_rank_ok.fn (F := Ideal) (m ((c.tc : Thread Cert.UnsortReferenceIdeal.nD Cert.UnsortReferenceIdeal.τ).loc Cert.UnsortReferenceIdeal.main_arg0)) (m ((c.tc : Thread Cert.UnsortReferenceIdeal.nD Cert.UnsortReferenceIdeal.τ).loc Cert.UnsortReferenceIdeal.main_arg1)) (m ((c.tc : Thread Cert.UnsortReferenceIdeal.nD Cert.UnsortReferenceIdeal.τ).loc Cert.UnsortReferenceIdeal.main_arg2))) = (fun _ => 1#1)

def Pre_Sums (m : (ℓ : Loc Cert.Sums.nD Cert.Sums.τ Cert.Sums.sig) → Buf (Elt Bits) ℓ) : Prop :=
  True

def Pre_SumsIdeal (m : (ℓ : Loc Cert.SumsIdeal.nD Cert.SumsIdeal.τ Cert.SumsIdeal.sig) → Buf (Elt Ideal) ℓ) : Prop :=
  True

def Pre_SumsReferenceIdeal (m : (ℓ : Loc Cert.SumsReferenceIdeal.nD Cert.SumsReferenceIdeal.τ Cert.SumsReferenceIdeal.sig) → Buf (Elt Ideal) ℓ) : Prop :=
  True

def quiescent_Kernel [hKernel : Cert.Kernel.Facts] [hPre_tables_ok : Cert.Pre_tables_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_tables_ok : Cert.Pre_tables_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tables_ok [hReferenceIdeal : Cert.ReferenceIdeal.Facts] [hPre_tables_ok : Cert.Pre_tables_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ranks [hRanks : Cert.Ranks.Facts] : Prop :=
  ∀ (m : (ℓ : Loc Cert.Ranks.nD Cert.Ranks.τ Cert.Ranks.sig) → Buf (Elt Bits) ℓ) (g : Dev Cert.Ranks.nD → PrngReg), Pre_Ranks m →
    θ_run (Cert.Ranks.defs (F := Bits)) (onTc (τ := Cert.Ranks.τ) (Cert.Ranks.main (F := Bits))) ⟨m, fun _ => 0, g⟩ (fun r => (∀ c : Dev Cert.Ranks.nD,
      r.2.mem ((c.tc : Thread Cert.Ranks.nD Cert.Ranks.τ).loc Cert.Ranks.main_arg0) = m ((c.tc : Thread Cert.Ranks.nD Cert.Ranks.τ).loc Cert.Ranks.main_arg0)
      ∧ r.2.mem ((c.tc : Thread Cert.Ranks.nD Cert.Ranks.τ).loc Cert.Ranks.main_arg1) = m ((c.tc : Thread Cert.Ranks.nD Cert.Ranks.τ).loc Cert.Ranks.main_arg1))
      ∧ r.2.sem = fun _ => 0)

def quiescent_RanksReference [hRanksReference : Cert.RanksReference.Facts] : Prop :=
  ∀ (m : (ℓ : Loc Cert.RanksReference.nD Cert.RanksReference.τ Cert.RanksReference.sig) → Buf (Elt Bits) ℓ) (g : Dev Cert.RanksReference.nD → PrngReg), Pre_RanksReference m →
    θ_run (Cert.RanksReference.defs (F := Bits)) (onTc (τ := Cert.RanksReference.τ) (Cert.RanksReference.main (F := Bits))) ⟨m, fun _ => 0, g⟩ (fun r => (∀ c : Dev Cert.RanksReference.nD,
      r.2.mem ((c.tc : Thread Cert.RanksReference.nD Cert.RanksReference.τ).loc Cert.RanksReference.main_arg0) = m ((c.tc : Thread Cert.RanksReference.nD Cert.RanksReference.τ).loc Cert.RanksReference.main_arg0)
      ∧ r.2.mem ((c.tc : Thread Cert.RanksReference.nD Cert.RanksReference.τ).loc Cert.RanksReference.main_arg1) = m ((c.tc : Thread Cert.RanksReference.nD Cert.RanksReference.τ).loc Cert.RanksReference.main_arg1))
      ∧ r.2.sem = fun _ => 0)

def quiescent_Unsort [hUnsort : Cert.Unsort.Facts] [hPre_rank_ok : Cert.Pre_rank_ok.Facts] : Prop :=
  ∀ (m : (ℓ : Loc Cert.Unsort.nD Cert.Unsort.τ Cert.Unsort.sig) → Buf (Elt Bits) ℓ) (g : Dev Cert.Unsort.nD → PrngReg), Pre_Unsort m →
    θ_run (Cert.Unsort.defs (F := Bits)) (Cert.Unsort.threads (F := Bits)) ⟨m, fun _ => 0, g⟩ (fun r => (∀ c : Dev Cert.Unsort.nD,
      r.2.mem ((c.tc : Thread Cert.Unsort.nD Cert.Unsort.τ).loc Cert.Unsort.main_arg0) = m ((c.tc : Thread Cert.Unsort.nD Cert.Unsort.τ).loc Cert.Unsort.main_arg0)
      ∧ r.2.mem ((c.tc : Thread Cert.Unsort.nD Cert.Unsort.τ).loc Cert.Unsort.main_arg1) = m ((c.tc : Thread Cert.Unsort.nD Cert.Unsort.τ).loc Cert.Unsort.main_arg1)
      ∧ r.2.mem ((c.tc : Thread Cert.Unsort.nD Cert.Unsort.τ).loc Cert.Unsort.main_arg2) = m ((c.tc : Thread Cert.Unsort.nD Cert.Unsort.τ).loc Cert.Unsort.main_arg2))
      ∧ r.2.sem = fun _ => 0)

def quiescent_UnsortIdeal [hUnsortIdeal : Cert.UnsortIdeal.Facts] [hPre_rank_ok : Cert.Pre_rank_ok.Facts] : Prop :=
  ∀ (m : (ℓ : Loc Cert.UnsortIdeal.nD Cert.UnsortIdeal.τ Cert.UnsortIdeal.sig) → Buf (Elt Ideal) ℓ) (g : Dev Cert.UnsortIdeal.nD → PrngReg), Pre_UnsortIdeal m →
    θ_run (Cert.UnsortIdeal.defs (F := Ideal)) (Cert.UnsortIdeal.threads (F := Ideal)) ⟨m, fun _ => 0, g⟩ (fun r => (∀ c : Dev Cert.UnsortIdeal.nD,
      r.2.mem ((c.tc : Thread Cert.UnsortIdeal.nD Cert.UnsortIdeal.τ).loc Cert.UnsortIdeal.main_arg0) = m ((c.tc : Thread Cert.UnsortIdeal.nD Cert.UnsortIdeal.τ).loc Cert.UnsortIdeal.main_arg0)
      ∧ r.2.mem ((c.tc : Thread Cert.UnsortIdeal.nD Cert.UnsortIdeal.τ).loc Cert.UnsortIdeal.main_arg1) = m ((c.tc : Thread Cert.UnsortIdeal.nD Cert.UnsortIdeal.τ).loc Cert.UnsortIdeal.main_arg1)
      ∧ r.2.mem ((c.tc : Thread Cert.UnsortIdeal.nD Cert.UnsortIdeal.τ).loc Cert.UnsortIdeal.main_arg2) = m ((c.tc : Thread Cert.UnsortIdeal.nD Cert.UnsortIdeal.τ).loc Cert.UnsortIdeal.main_arg2))
      ∧ r.2.sem = fun _ => 0)

def quiescent_UnsortReferenceIdeal [hUnsortReferenceIdeal : Cert.UnsortReferenceIdeal.Facts] : Prop :=
  ∀ (m : (ℓ : Loc Cert.UnsortReferenceIdeal.nD Cert.UnsortReferenceIdeal.τ Cert.UnsortReferenceIdeal.sig) → Buf (Elt Ideal) ℓ) (g : Dev Cert.UnsortReferenceIdeal.nD → PrngReg), Pre_UnsortReferenceIdeal m →
    θ_run (Cert.UnsortReferenceIdeal.defs (F := Ideal)) (onTc (τ := Cert.UnsortReferenceIdeal.τ) (Cert.UnsortReferenceIdeal.main (F := Ideal))) ⟨m, fun _ => 0, g⟩ (fun r => (∀ c : Dev Cert.UnsortReferenceIdeal.nD,
      r.2.mem ((c.tc : Thread Cert.UnsortReferenceIdeal.nD Cert.UnsortReferenceIdeal.τ).loc Cert.UnsortReferenceIdeal.main_arg0) = m ((c.tc : Thread Cert.UnsortReferenceIdeal.nD Cert.UnsortReferenceIdeal.τ).loc Cert.UnsortReferenceIdeal.main_arg0)
      ∧ r.2.mem ((c.tc : Thread Cert.UnsortReferenceIdeal.nD Cert.UnsortReferenceIdeal.τ).loc Cert.UnsortReferenceIdeal.main_arg1) = m ((c.tc : Thread Cert.UnsortReferenceIdeal.nD Cert.UnsortReferenceIdeal.τ).loc Cert.UnsortReferenceIdeal.main_arg1)
      ∧ r.2.mem ((c.tc : Thread Cert.UnsortReferenceIdeal.nD Cert.UnsortReferenceIdeal.τ).loc Cert.UnsortReferenceIdeal.main_arg2) = m ((c.tc : Thread Cert.UnsortReferenceIdeal.nD Cert.UnsortReferenceIdeal.τ).loc Cert.UnsortReferenceIdeal.main_arg2))
      ∧ r.2.sem = fun _ => 0)

def quiescent_UnsortReferenceIdeal_pre_rank_ok [hUnsortReferenceIdeal : Cert.UnsortReferenceIdeal.Facts] [hPre_rank_ok : Cert.Pre_rank_ok.Facts] : Prop :=
  ∀ (m : (ℓ : Loc Cert.UnsortReferenceIdeal.nD Cert.UnsortReferenceIdeal.τ Cert.UnsortReferenceIdeal.sig) → Buf (Elt Ideal) ℓ) (g : Dev Cert.UnsortReferenceIdeal.nD → PrngReg), Pre_UnsortReferenceIdeal_rank_ok m →
    θ_run (Cert.UnsortReferenceIdeal.defs (F := Ideal)) (onTc (τ := Cert.UnsortReferenceIdeal.τ) (Cert.UnsortReferenceIdeal.main (F := Ideal))) ⟨m, fun _ => 0, g⟩ (fun r => (∀ c : Dev Cert.UnsortReferenceIdeal.nD,
      r.2.mem ((c.tc : Thread Cert.UnsortReferenceIdeal.nD Cert.UnsortReferenceIdeal.τ).loc Cert.UnsortReferenceIdeal.main_arg0) = m ((c.tc : Thread Cert.UnsortReferenceIdeal.nD Cert.UnsortReferenceIdeal.τ).loc Cert.UnsortReferenceIdeal.main_arg0)
      ∧ r.2.mem ((c.tc : Thread Cert.UnsortReferenceIdeal.nD Cert.UnsortReferenceIdeal.τ).loc Cert.UnsortReferenceIdeal.main_arg1) = m ((c.tc : Thread Cert.UnsortReferenceIdeal.nD Cert.UnsortReferenceIdeal.τ).loc Cert.UnsortReferenceIdeal.main_arg1)
      ∧ r.2.mem ((c.tc : Thread Cert.UnsortReferenceIdeal.nD Cert.UnsortReferenceIdeal.τ).loc Cert.UnsortReferenceIdeal.main_arg2) = m ((c.tc : Thread Cert.UnsortReferenceIdeal.nD Cert.UnsortReferenceIdeal.τ).loc Cert.UnsortReferenceIdeal.main_arg2))
      ∧ r.2.sem = fun _ => 0)

def quiescent_Sums [hSums : Cert.Sums.Facts] : Prop :=
  ∀ (m : (ℓ : Loc Cert.Sums.nD Cert.Sums.τ Cert.Sums.sig) → Buf (Elt Bits) ℓ) (g : Dev Cert.Sums.nD → PrngReg), Pre_Sums m →
    θ_run (Cert.Sums.defs (F := Bits)) (onTc (τ := Cert.Sums.τ) (Cert.Sums.main (F := Bits))) ⟨m, fun _ => 0, g⟩ (fun r => (∀ c : Dev Cert.Sums.nD,
      r.2.mem ((c.tc : Thread Cert.Sums.nD Cert.Sums.τ).loc Cert.Sums.main_arg0) = m ((c.tc : Thread Cert.Sums.nD Cert.Sums.τ).loc Cert.Sums.main_arg0))
      ∧ r.2.sem = fun _ => 0)

def quiescent_SumsIdeal [hSumsIdeal : Cert.SumsIdeal.Facts] : Prop :=
  ∀ (m : (ℓ : Loc Cert.SumsIdeal.nD Cert.SumsIdeal.τ Cert.SumsIdeal.sig) → Buf (Elt Ideal) ℓ) (g : Dev Cert.SumsIdeal.nD → PrngReg), Pre_SumsIdeal m →
    θ_run (Cert.SumsIdeal.defs (F := Ideal)) (onTc (τ := Cert.SumsIdeal.τ) (Cert.SumsIdeal.main (F := Ideal))) ⟨m, fun _ => 0, g⟩ (fun r => (∀ c : Dev Cert.SumsIdeal.nD,
      r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0))
      ∧ r.2.sem = fun _ => 0)

def quiescent_SumsReferenceIdeal [hSumsReferenceIdeal : Cert.SumsReferenceIdeal.Facts] : Prop :=
  ∀ (m : (ℓ : Loc Cert.SumsReferenceIdeal.nD Cert.SumsReferenceIdeal.τ Cert.SumsReferenceIdeal.sig) → Buf (Elt Ideal) ℓ) (g : Dev Cert.SumsReferenceIdeal.nD → PrngReg), Pre_SumsReferenceIdeal m →
    θ_run (Cert.SumsReferenceIdeal.defs (F := Ideal)) (onTc (τ := Cert.SumsReferenceIdeal.τ) (Cert.SumsReferenceIdeal.main (F := Ideal))) ⟨m, fun _ => 0, g⟩ (fun r => (∀ c : Dev Cert.SumsReferenceIdeal.nD,
      r.2.mem ((c.tc : Thread Cert.SumsReferenceIdeal.nD Cert.SumsReferenceIdeal.τ).loc Cert.SumsReferenceIdeal.main_arg0) = m ((c.tc : Thread Cert.SumsReferenceIdeal.nD Cert.SumsReferenceIdeal.τ).loc Cert.SumsReferenceIdeal.main_arg0))
      ∧ r.2.sem = fun _ => 0)

def preserves_Kernel_KernelIdeal : Prop :=
  True

def algebraic_KernelIdeal_ReferenceIdeal_on_doc_blocks [hKernelIdeal : Cert.KernelIdeal.Facts] [hReferenceIdeal : Cert.ReferenceIdeal.Facts] [hPre_tables_ok : Cert.Pre_tables_ok.Facts] [hOn_doc_blocks : Cert.On_doc_blocks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![41, 768, 128]⟩ : Shape).Idx, (Cert.On_doc_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![41, 768, 128]⟩ : Shape).Idx, (Cert.On_doc_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.ReferenceIdeal.nD Cert.ReferenceIdeal.τ).loc Cert.ReferenceIdeal.main_v16) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Ranks_RanksReference_on_words_only [hRanks : Cert.Ranks.Facts] [hRanksReference : Cert.RanksReference.Facts] [hOn_words_only : Cert.On_words_only.Facts] : Prop :=
  ∀ (m : (ℓ : Loc Cert.Ranks.nD Cert.Ranks.τ Cert.Ranks.sig) → Buf (Elt Bits) ℓ) (g : Dev Cert.Ranks.nD → PrngReg)
    (m' : (ℓ : Loc Cert.RanksReference.nD Cert.RanksReference.τ Cert.RanksReference.sig) → Buf (Elt Bits) ℓ) (g' : Dev Cert.RanksReference.nD → PrngReg), Pre_Ranks m →
    (∀ c : Dev Cert.Ranks.nD,
      m' ((c.tc : Thread Cert.RanksReference.nD Cert.RanksReference.τ).loc Cert.RanksReference.main_arg0) = m ((c.tc : Thread Cert.Ranks.nD Cert.Ranks.τ).loc Cert.Ranks.main_arg0)
      ∧ m' ((c.tc : Thread Cert.RanksReference.nD Cert.RanksReference.τ).loc Cert.RanksReference.main_arg1) = m ((c.tc : Thread Cert.Ranks.nD Cert.Ranks.τ).loc Cert.Ranks.main_arg1)) →
    ∃ (v0 : (c : Dev Cert.Ranks.nD) → Buf (Elt Bits) ((c.tc : Thread Cert.Ranks.nD Cert.Ranks.τ).loc Cert.Ranks.main_v0_0)) (v1 : (c : Dev Cert.Ranks.nD) → Buf (Elt Bits) ((c.tc : Thread Cert.Ranks.nD Cert.Ranks.τ).loc Cert.Ranks.main_v0_1)),
      θ_run (Cert.Ranks.defs (F := Bits)) (onTc (τ := Cert.Ranks.τ) (Cert.Ranks.main (F := Bits))) ⟨m, fun _ => 0, g⟩ (fun r => ∀ c : Dev Cert.Ranks.nD,
          (∀ i : (⟨2, ![40, 128]⟩ : Shape).Idx, (Cert.On_words_only.fn (F := Bits) (m ((c.tc : Thread Cert.Ranks.nD Cert.Ranks.τ).loc Cert.Ranks.main_arg0)) (m ((c.tc : Thread Cert.Ranks.nD Cert.Ranks.τ).loc Cert.Ranks.main_arg1))).1 i = 1#1 → r.2.mem ((c.tc : Thread Cert.Ranks.nD Cert.Ranks.τ).loc Cert.Ranks.main_v0_0) i = v0 c i)
          ∧ (∀ i : (⟨2, ![24, 32768]⟩ : Shape).Idx, (Cert.On_words_only.fn (F := Bits) (m ((c.tc : Thread Cert.Ranks.nD Cert.Ranks.τ).loc Cert.Ranks.main_arg0)) (m ((c.tc : Thread Cert.Ranks.nD Cert.Ranks.τ).loc Cert.Ranks.main_arg1))).2 i = 1#1 → r.2.mem ((c.tc : Thread Cert.Ranks.nD Cert.Ranks.τ).loc Cert.Ranks.main_v0_1) i = v1 c i)
          ∧ r.2.mem ((c.tc : Thread Cert.Ranks.nD Cert.Ranks.τ).loc Cert.Ranks.main_arg0) = m ((c.tc : Thread Cert.Ranks.nD Cert.Ranks.τ).loc Cert.Ranks.main_arg0)
          ∧ r.2.mem ((c.tc : Thread Cert.Ranks.nD Cert.Ranks.τ).loc Cert.Ranks.main_arg1) = m ((c.tc : Thread Cert.Ranks.nD Cert.Ranks.τ).loc Cert.Ranks.main_arg1))
      ∧ θ_run (Cert.RanksReference.defs (F := Bits)) (onTc (τ := Cert.RanksReference.τ) (Cert.RanksReference.main (F := Bits))) ⟨m', fun _ => 0, g'⟩ (fun r => ∀ c : Dev Cert.RanksReference.nD,
          (∀ i : (⟨2, ![40, 128]⟩ : Shape).Idx, (Cert.On_words_only.fn (F := Bits) (m ((c.tc : Thread Cert.Ranks.nD Cert.Ranks.τ).loc Cert.Ranks.main_arg0)) (m ((c.tc : Thread Cert.Ranks.nD Cert.Ranks.τ).loc Cert.Ranks.main_arg1))).1 i = 1#1 → r.2.mem ((c.tc : Thread Cert.RanksReference.nD Cert.RanksReference.τ).loc Cert.RanksReference.main_v20) i = v0 c i)
          ∧ (∀ i : (⟨2, ![24, 32768]⟩ : Shape).Idx, (Cert.On_words_only.fn (F := Bits) (m ((c.tc : Thread Cert.Ranks.nD Cert.Ranks.τ).loc Cert.Ranks.main_arg0)) (m ((c.tc : Thread Cert.Ranks.nD Cert.Ranks.τ).loc Cert.Ranks.main_arg1))).2 i = 1#1 → r.2.mem ((c.tc : Thread Cert.RanksReference.nD Cert.RanksReference.τ).loc Cert.RanksReference.main_v42) i = v1 c i)
          ∧ r.2.mem ((c.tc : Thread Cert.RanksReference.nD Cert.RanksReference.τ).loc Cert.RanksReference.main_arg0) = m' ((c.tc : Thread Cert.RanksReference.nD Cert.RanksReference.τ).loc Cert.RanksReference.main_arg0)
          ∧ r.2.mem ((c.tc : Thread Cert.RanksReference.nD Cert.RanksReference.τ).loc Cert.RanksReference.main_arg1) = m' ((c.tc : Thread Cert.RanksReference.nD Cert.RanksReference.τ).loc Cert.RanksReference.main_arg1))

def preserves_Unsort_UnsortIdeal : Prop :=
  True

def algebraic_UnsortIdeal_UnsortReferenceIdeal [hUnsortIdeal : Cert.UnsortIdeal.Facts] [hUnsortReferenceIdeal : Cert.UnsortReferenceIdeal.Facts] [hPre_rank_ok : Cert.Pre_rank_ok.Facts] : Prop :=
  ∀ (m : (ℓ : Loc Cert.UnsortIdeal.nD Cert.UnsortIdeal.τ Cert.UnsortIdeal.sig) → Buf (Elt Ideal) ℓ) (g : Dev Cert.UnsortIdeal.nD → PrngReg)
    (m' : (ℓ : Loc Cert.UnsortReferenceIdeal.nD Cert.UnsortReferenceIdeal.τ Cert.UnsortReferenceIdeal.sig) → Buf (Elt Ideal) ℓ) (g' : Dev Cert.UnsortReferenceIdeal.nD → PrngReg), Pre_UnsortIdeal m →
    (∀ c : Dev Cert.UnsortIdeal.nD,
      m' ((c.tc : Thread Cert.UnsortReferenceIdeal.nD Cert.UnsortReferenceIdeal.τ).loc Cert.UnsortReferenceIdeal.main_arg0) = m ((c.tc : Thread Cert.UnsortIdeal.nD Cert.UnsortIdeal.τ).loc Cert.UnsortIdeal.main_arg0)
      ∧ m' ((c.tc : Thread Cert.UnsortReferenceIdeal.nD Cert.UnsortReferenceIdeal.τ).loc Cert.UnsortReferenceIdeal.main_arg1) = m ((c.tc : Thread Cert.UnsortIdeal.nD Cert.UnsortIdeal.τ).loc Cert.UnsortIdeal.main_arg1)
      ∧ m' ((c.tc : Thread Cert.UnsortReferenceIdeal.nD Cert.UnsortReferenceIdeal.τ).loc Cert.UnsortReferenceIdeal.main_arg2) = m ((c.tc : Thread Cert.UnsortIdeal.nD Cert.UnsortIdeal.τ).loc Cert.UnsortIdeal.main_arg2)) →
    ∃ (v0 : (c : Dev Cert.UnsortIdeal.nD) → Buf (Elt Ideal) ((c.tc : Thread Cert.UnsortIdeal.nD Cert.UnsortIdeal.τ).loc Cert.UnsortIdeal.main_v0)),
      θ_run (Cert.UnsortIdeal.defs (F := Ideal)) (Cert.UnsortIdeal.threads (F := Ideal)) ⟨m, fun _ => 0, g⟩ (fun r => ∀ c : Dev Cert.UnsortIdeal.nD,
          r.2.mem ((c.tc : Thread Cert.UnsortIdeal.nD Cert.UnsortIdeal.τ).loc Cert.UnsortIdeal.main_v0) = v0 c
          ∧ r.2.mem ((c.tc : Thread Cert.UnsortIdeal.nD Cert.UnsortIdeal.τ).loc Cert.UnsortIdeal.main_arg0) = m ((c.tc : Thread Cert.UnsortIdeal.nD Cert.UnsortIdeal.τ).loc Cert.UnsortIdeal.main_arg0)
          ∧ r.2.mem ((c.tc : Thread Cert.UnsortIdeal.nD Cert.UnsortIdeal.τ).loc Cert.UnsortIdeal.main_arg1) = m ((c.tc : Thread Cert.UnsortIdeal.nD Cert.UnsortIdeal.τ).loc Cert.UnsortIdeal.main_arg1)
          ∧ r.2.mem ((c.tc : Thread Cert.UnsortIdeal.nD Cert.UnsortIdeal.τ).loc Cert.UnsortIdeal.main_arg2) = m ((c.tc : Thread Cert.UnsortIdeal.nD Cert.UnsortIdeal.τ).loc Cert.UnsortIdeal.main_arg2))
      ∧ θ_run (Cert.UnsortReferenceIdeal.defs (F := Ideal)) (onTc (τ := Cert.UnsortReferenceIdeal.τ) (Cert.UnsortReferenceIdeal.main (F := Ideal))) ⟨m', fun _ => 0, g'⟩ (fun r => ∀ c : Dev Cert.UnsortReferenceIdeal.nD,
          r.2.mem ((c.tc : Thread Cert.UnsortReferenceIdeal.nD Cert.UnsortReferenceIdeal.τ).loc Cert.UnsortReferenceIdeal.main_v17) = v0 c
          ∧ r.2.mem ((c.tc : Thread Cert.UnsortReferenceIdeal.nD Cert.UnsortReferenceIdeal.τ).loc Cert.UnsortReferenceIdeal.main_arg0) = m' ((c.tc : Thread Cert.UnsortReferenceIdeal.nD Cert.UnsortReferenceIdeal.τ).loc Cert.UnsortReferenceIdeal.main_arg0)
          ∧ r.2.mem ((c.tc : Thread Cert.UnsortReferenceIdeal.nD Cert.UnsortReferenceIdeal.τ).loc Cert.UnsortReferenceIdeal.main_arg1) = m' ((c.tc : Thread Cert.UnsortReferenceIdeal.nD Cert.UnsortReferenceIdeal.τ).loc Cert.UnsortReferenceIdeal.main_arg1)
          ∧ r.2.mem ((c.tc : Thread Cert.UnsortReferenceIdeal.nD Cert.UnsortReferenceIdeal.τ).loc Cert.UnsortReferenceIdeal.main_arg2) = m' ((c.tc : Thread Cert.UnsortReferenceIdeal.nD Cert.UnsortReferenceIdeal.τ).loc Cert.UnsortReferenceIdeal.main_arg2))

def preserves_Sums_SumsIdeal : Prop :=
  True

def algebraic_SumsIdeal_SumsReferenceIdeal [hSumsIdeal : Cert.SumsIdeal.Facts] [hSumsReferenceIdeal : Cert.SumsReferenceIdeal.Facts] : Prop :=
  ∀ (m : (ℓ : Loc Cert.SumsIdeal.nD Cert.SumsIdeal.τ Cert.SumsIdeal.sig) → Buf (Elt Ideal) ℓ) (g : Dev Cert.SumsIdeal.nD → PrngReg)
    (m' : (ℓ : Loc Cert.SumsReferenceIdeal.nD Cert.SumsReferenceIdeal.τ Cert.SumsReferenceIdeal.sig) → Buf (Elt Ideal) ℓ) (g' : Dev Cert.SumsReferenceIdeal.nD → PrngReg), Pre_SumsIdeal m →
    (∀ c : Dev Cert.SumsIdeal.nD,
      m' ((c.tc : Thread Cert.SumsReferenceIdeal.nD Cert.SumsReferenceIdeal.τ).loc Cert.SumsReferenceIdeal.main_arg0) = m ((c.tc : Thread Cert.SumsIdeal.nD Cert.SumsIdeal.τ).loc Cert.SumsIdeal.main_arg0)) →
    ∃ (v0 : (c : Dev Cert.SumsIdeal.nD) → Buf (Elt Ideal) ((c.tc : Thread Cert.SumsIdeal.nD Cert.SumsIdeal.τ).loc Cert.SumsIdeal.main_v0)),
      θ_run (Cert.SumsIdeal.defs (F := Ideal)) (onTc (τ := Cert.SumsIdeal.τ) (Cert.SumsIdeal.main (F := Ideal))) ⟨m, fun _ => 0, g⟩ (fun r => ∀ c : Dev Cert.SumsIdeal.nD,
          r.2.mem ((c.tc : Thread Cert.SumsIdeal.nD Cert.SumsIdeal.τ).loc Cert.SumsIdeal.main_v0) = v0 c
          ∧ r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0))
      ∧ θ_run (Cert.SumsReferenceIdeal.defs (F := Ideal)) (onTc (τ := Cert.SumsReferenceIdeal.τ) (Cert.SumsReferenceIdeal.main (F := Ideal))) ⟨m', fun _ => 0, g'⟩ (fun r => ∀ c : Dev Cert.SumsReferenceIdeal.nD,
          r.2.mem ((c.tc : Thread Cert.SumsReferenceIdeal.nD Cert.SumsReferenceIdeal.τ).loc Cert.SumsReferenceIdeal.main_v2) = v0 c
          ∧ r.2.mem ((c.tc : Thread Cert.SumsReferenceIdeal.nD Cert.SumsReferenceIdeal.τ).loc Cert.SumsReferenceIdeal.main_arg0) = m' ((c.tc : Thread Cert.SumsReferenceIdeal.nD Cert.SumsReferenceIdeal.τ).loc Cert.SumsReferenceIdeal.main_arg0))

def Claim : Prop :=
  ∃ (hKernel : Cert.Kernel.Facts) (hKernelIdeal : Cert.KernelIdeal.Facts) (hReferenceIdeal : Cert.ReferenceIdeal.Facts) (hRanks : Cert.Ranks.Facts) (hRanksReference : Cert.RanksReference.Facts) (hUnsort : Cert.Unsort.Facts) (hUnsortIdeal : Cert.UnsortIdeal.Facts) (hUnsortReferenceIdeal : Cert.UnsortReferenceIdeal.Facts) (hSums : Cert.Sums.Facts) (hSumsIdeal : Cert.SumsIdeal.Facts) (hSumsReferenceIdeal : Cert.SumsReferenceIdeal.Facts) (hPre_tables_ok : Cert.Pre_tables_ok.Facts) (hPre_rank_ok : Cert.Pre_rank_ok.Facts) (hOn_doc_blocks : Cert.On_doc_blocks.Facts) (hOn_words_only : Cert.On_words_only.Facts),
    quiescent_Kernel (hKernel := hKernel) (hPre_tables_ok := hPre_tables_ok)
    ∧ quiescent_KernelIdeal (hKernelIdeal := hKernelIdeal) (hPre_tables_ok := hPre_tables_ok)
    ∧ quiescent_ReferenceIdeal (hReferenceIdeal := hReferenceIdeal)
    ∧ quiescent_ReferenceIdeal_pre_tables_ok (hReferenceIdeal := hReferenceIdeal) (hPre_tables_ok := hPre_tables_ok)
    ∧ quiescent_Ranks (hRanks := hRanks)
    ∧ quiescent_RanksReference (hRanksReference := hRanksReference)
    ∧ quiescent_Unsort (hUnsort := hUnsort) (hPre_rank_ok := hPre_rank_ok)
    ∧ quiescent_UnsortIdeal (hUnsortIdeal := hUnsortIdeal) (hPre_rank_ok := hPre_rank_ok)
    ∧ quiescent_UnsortReferenceIdeal (hUnsortReferenceIdeal := hUnsortReferenceIdeal)
    ∧ quiescent_UnsortReferenceIdeal_pre_rank_ok (hUnsortReferenceIdeal := hUnsortReferenceIdeal) (hPre_rank_ok := hPre_rank_ok)
    ∧ quiescent_Sums (hSums := hSums)
    ∧ quiescent_SumsIdeal (hSumsIdeal := hSumsIdeal)
    ∧ quiescent_SumsReferenceIdeal (hSumsReferenceIdeal := hSumsReferenceIdeal)
    ∧ preserves_Kernel_KernelIdeal
    ∧ algebraic_KernelIdeal_ReferenceIdeal_on_doc_blocks (hKernelIdeal := hKernelIdeal) (hReferenceIdeal := hReferenceIdeal) (hPre_tables_ok := hPre_tables_ok) (hOn_doc_blocks := hOn_doc_blocks)
    ∧ bitexact_Ranks_RanksReference_on_words_only (hRanks := hRanks) (hRanksReference := hRanksReference) (hOn_words_only := hOn_words_only)
    ∧ preserves_Unsort_UnsortIdeal
    ∧ algebraic_UnsortIdeal_UnsortReferenceIdeal (hUnsortIdeal := hUnsortIdeal) (hUnsortReferenceIdeal := hUnsortReferenceIdeal) (hPre_rank_ok := hPre_rank_ok)
    ∧ preserves_Sums_SumsIdeal
    ∧ algebraic_SumsIdeal_SumsReferenceIdeal (hSumsIdeal := hSumsIdeal) (hSumsReferenceIdeal := hSumsReferenceIdeal)
-- ==== On_doc_blocks.lean ====
abbrev S1040 : Shape := ⟨1, ![1040]⟩
abbrev S768x96 : Shape := ⟨2, ![768, 96]⟩
abbrev S3328x24x128 : Shape := ⟨3, ![3328, 24, 128]⟩
abbrev S3328x128 : Shape := ⟨2, ![3328, 128]⟩
abbrev S41x768x128 : Shape := ⟨3, ![41, 768, 128]⟩
abbrev S_ : Shape := ⟨0, ![]⟩

class Facts : Prop where
  bcast_S_S41x768x128 : S_.BroadcastsInDim S41x768x128 (![] : Fin 0 → Fin S41x768x128.rank)

variable [Facts]

def fn {F : FTy → Type} [FloatOps F] (main_arg0 : IVec S1040 32) (main_arg1 : FVec F S768x96 .bf16) (main_arg2 : IVec S3328x24x128 32) (main_arg3 : FVec F S3328x128 .f32) : IVec S41x768x128 1 :=
  let main_v0 : IVec S41x768x128 32 := iotaInDim S41x768x128 32 0
  let main_c : IVec S_ 32 := constantI S_ 32 40#32
  let main_v1 : IVec S41x768x128 32 := broadcastInDim S41x768x128 ![] bcast_S_S41x768x128 main_c
  let main_v2 : IVec S41x768x128 1 := cmpi .slt main_v0 main_v1
  main_v2
-- ==== On_words_only.lean ====
abbrev S40x128 : Shape := ⟨2, ![40, 128]⟩
abbrev S96x32768 : Shape := ⟨2, ![96, 32768]⟩
abbrev S_ : Shape := ⟨0, ![]⟩
abbrev S24x32768 : Shape := ⟨2, ![24, 32768]⟩

class Facts : Prop where
  bcast_S_S40x128 : S_.BroadcastsInDim S40x128 (![] : Fin 0 → Fin S40x128.rank)
  bcast_S_S24x32768 : S_.BroadcastsInDim S24x32768 (![] : Fin 0 → Fin S24x32768.rank)

variable [Facts]

def fn {F : FTy → Type} [FloatOps F] (main_arg0 : IVec S40x128 32) (main_arg1 : FVec F S96x32768 .fp8e4m3) : IVec S40x128 1 × IVec S24x32768 1 :=
  let main_c : IVec S_ 1 := constantI S_ 1 0#1
  let main_v0 : IVec S40x128 1 := broadcastInDim S40x128 ![] bcast_S_S40x128 main_c
  let main_c_0 : IVec S_ 1 := constantI S_ 1 1#1
  let main_v1 : IVec S24x32768 1 := broadcastInDim S24x32768 ![] bcast_S_S24x32768 main_c_0
  (main_v0, main_v1)
-- ==== Pre_rank_ok.lean ====
abbrev S41x96x8x128 : Shape := ⟨4, ![41, 96, 8, 128]⟩
abbrev S5120 : Shape := ⟨1, ![5120]⟩
abbrev S_ : Shape := ⟨0, ![]⟩

class Facts : Prop where
  bcast_S_S5120 : S_.BroadcastsInDim S5120 (![] : Fin 0 → Fin S5120.rank)

variable [Facts]

def fn {F : FTy → Type} [FloatOps F] (main_arg0 : FVec F S41x96x8x128 .f32) (main_arg1 : IVec S5120 32) (main_arg2 : IVec S5120 32) : IVec S5120 1 :=
  let main_c : IVec S_ 32 := constantI S_ 32 0#32
  let main_v0 : IVec S5120 32 := broadcastInDim S5120 ![] bcast_S_S5120 main_c
  let main_v1 : IVec S5120 1 := cmpi .sge main_arg1 main_v0
  let main_c_0 : IVec S_ 32 := constantI S_ 32 5120#32
  let main_v2 : IVec S5120 32 := broadcastInDim S5120 ![] bcast_S_S5120 main_c_0
  let main_v3 : IVec S5120 1 := cmpi .slt main_arg1 main_v2
  let main_v4 : IVec S5120 1 := andi main_v1 main_v3
  main_v4
-- ==== Pre_tables_ok.lean ====
abbrev S1040 : Shape := ⟨1, ![1040]⟩
abbrev S768x96 : Shape := ⟨2, ![768, 96]⟩
abbrev S3328x24x128 : Shape := ⟨3, ![3328, 24, 128]⟩
abbrev S3328x128 : Shape := ⟨2, ![3328, 128]⟩
abbrev S1 : Shape := ⟨1, ![1]⟩
abbrev S_ : Shape := ⟨0, ![]⟩
abbrev S832 : Shape := ⟨1, ![832]⟩

class Facts : Prop where
  slices_S1040_S1_1024 : S1040.Slices ![1024] S1
  shapeCasts_S1_S_ : S1.ShapeCasts S_
  slices_S1040_S832_0 : S1040.Slices ![0] S832
  bcast_S_S832 : S_.BroadcastsInDim S832 (![] : Fin 0 → Fin S832.rank)

variable [Facts]

def fn_part1 {F : FTy → Type} [FloatOps F] (main_v11 : IVec S832 1) (main_v18 : IVec S832 1) : IVec S832 1 :=
  let main_v19 : IVec S832 1 := andi main_v11 main_v18
  main_v19

def fn {F : FTy → Type} [FloatOps F] (main_arg0 : IVec S1040 32) (main_arg1 : FVec F S768x96 .bf16) (main_arg2 : IVec S3328x24x128 32) (main_arg3 : FVec F S3328x128 .f32) : IVec S832 1 :=
  let main_v0 : IVec S1 32 := (extractStridedSlice S1 ![1024] · slices_S1040_S1_1024) main_arg0
  let main_v1 : IVec S_ 32 := shapeCast S_ main_v0 shapeCasts_S1_S_
  let main_v2 : IVec S832 32 := (extractStridedSlice S832 ![0] · slices_S1040_S832_0) main_arg0
  let main_v3 : IVec S832 32 := iotaInDim S832 32 0
  let main_c : IVec S_ 32 := constantI S_ 32 1#32
  let main_v4 : IVec S_ 1 := cmpi .sge main_v1 main_c
  let main_c_0 : IVec S_ 32 := constantI S_ 32 0#32
  let main_v5 : IVec S832 32 := broadcastInDim S832 ![] bcast_S_S832 main_c_0
  let main_v6 : IVec S832 1 := cmpi .sge main_v2 main_v5
  let main_v7 : IVec S832 1 := broadcastInDim S832 ![] bcast_S_S832 main_v4
  let main_v8 : IVec S832 1 := andi main_v7 main_v6
  let main_c_1 : IVec S_ 32 := constantI S_ 32 40#32
  let main_v9 : IVec S832 32 := broadcastInDim S832 ![] bcast_S_S832 main_c_1
  let main_v10 : IVec S832 1 := cmpi .sle main_v2 main_v9
  let main_v11 : IVec S832 1 := andi main_v8 main_v10
  let main_c_2 : IVec S_ 32 := constantI S_ 32 4#32
  let main_v12 : IVec S832 32 := broadcastInDim S832 ![] bcast_S_S832 main_c_2
  let main_v13 : IVec S832 32 := muli main_v12 main_v3
  let main_v14 : IVec S832 32 := broadcastInDim S832 ![] bcast_S_S832 main_v1
  let main_v15 : IVec S832 1 := cmpi .slt main_v13 main_v14
  let main_c_3 : IVec S_ 32 := constantI S_ 32 40#32
  let main_v16 : IVec S832 32 := broadcastInDim S832 ![] bcast_S_S832 main_c_3
  let main_v17 : IVec S832 1 := cmpi .eq main_v2 main_v16
  let main_v18 : IVec S832 1 := ori main_v15 main_v17
  fn_part1 (F := F) main_v11 main_v18
-- ==== Kernel.lean ====
abbrev S1040 : Shape := ⟨1, ![1040]⟩
abbrev S768x96 : Shape := ⟨2, ![768, 96]⟩
abbrev S3328x24x128 : Shape := ⟨3, ![3328, 24, 128]⟩
abbrev S3328x128 : Shape := ⟨2, ![3328, 128]⟩
abbrev S41x768x128 : Shape := ⟨3, ![41, 768, 128]⟩
abbrev S16x24x128 : Shape := ⟨3, ![16, 24, 128]⟩
abbrev S1 : Shape := ⟨1, ![1]⟩
abbrev S16x128 : Shape := ⟨2, ![16, 128]⟩
abbrev S1x24x128 : Shape := ⟨3, ![1, 24, 128]⟩
abbrev S24x128 : Shape := ⟨2, ![24, 128]⟩
abbrev S96x128 : Shape := ⟨2, ![96, 128]⟩
abbrev S96x512 : Shape := ⟨2, ![96, 512]⟩
abbrev S768x512 : Shape := ⟨2, ![768, 512]⟩
abbrev S768x128 : Shape := ⟨2, ![768, 128]⟩
abbrev S1x128 : Shape := ⟨2, ![1, 128]⟩
abbrev S1x768x128 : Shape := ⟨3, ![1, 768, 128]⟩

abbrev nBuf : Space → Nat
  | .hbm => 4
  | .vmem => 6
  | .smem => 1
  | _ => 0

abbrev bufTy : (tb : Table) → Fin (tcTables nBuf tb) → BufTy
  | .hbm, ⟨0, _⟩ => ⟨S768x96, .bf16⟩
  | .hbm, ⟨1, _⟩ => ⟨S3328x24x128, .i32⟩
  | .hbm, ⟨2, _⟩ => ⟨S3328x128, .f32⟩
  | .hbm, ⟨3, _⟩ => ⟨S41x768x128, .f32⟩
  | .local _ .vmem, ⟨0, _⟩ => ⟨S768x96, .bf16⟩
  | .local _ .vmem, ⟨1, _⟩ => ⟨S16x24x128, .i32⟩
  | .local _ .vmem, ⟨2, _⟩ => ⟨S16x24x128, .i32⟩
  | .local _ .vmem, ⟨3, _⟩ => ⟨S16x128, .f32⟩
  | .local _ .vmem, ⟨4, _⟩ => ⟨S16x128, .f32⟩
  | .local _ .vmem, ⟨5, _⟩ => ⟨S41x768x128, .f32⟩
  | .local _ .smem, ⟨0, _⟩ => ⟨S1040, .i32⟩
  | _, _ => ⟨S768x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![208], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c4_i32 : BitVec 32 := 4#32
  let v42 : BitVec 32 := Scalar.muli arg0 c4_i32
  let c0_i32_20 : BitVec 32 := 0#32
  let v43 : BitVec 32 := Scalar.addi v42 c0_i32_20
  let v44 : Index := Scalar.indexCast v43
  ![v44.toNat]
def k0_off2 (v45 : BitVec 32) : Fin 3 → Nat :=
  let v46 : Index := Scalar.indexCast v45
  let c0_21 : Index := 0#32
  let c0_22 : Index := 0#32
  ![v46.toNat, 0, 0]
def k0_cond2 (i : grid0.Coords) (v4 : BitVec 32) : BitVec 1 :=
  let arg0 : BitVec 32 := BitVec.ofNat 32 (i 0).val
  let c16_i32 : BitVec 32 := 16#32
  let v3 : BitVec 32 := Scalar.muli arg0 c16_i32
  let v5 : BitVec 1 := Scalar.cmpi .slt v3 v4
  let v6 : BitVec 32 := Scalar.extui v5
  let c0_i32_1 : BitVec 32 := 0#32
  let v7 : BitVec 1 := Scalar.cmpi .ne v6 c0_i32_1
  v7

def k0_chk1 (i : grid0.Coords) (v4 : BitVec 32) (v45 : BitVec 32) : Prop :=
  (∀ (k0_h2 : k0_cond2 i v4 = 1#1), ∀ a, (k0_off2 v45) a + S1x768x128.size a ≤ S41x768x128.size a)
theorem k0_off2_inb : ∀ (i : grid0.Coords) (v4 : BitVec 32) (v45 : BitVec 32) (k0_hw1 : k0_chk1 i v4 v45), ∀ (k0_h2 : k0_cond2 i v4 = 1#1), ∀ a, (k0_off2 v45) a + S1x768x128.size a ≤ S41x768x128.size a := fun i v4 v45 k0_hw1 k0_h2 => k0_hw1 k0_h2

def k0_off3 (i : grid0.Coords) : Fin 1 → Nat :=
  let arg0 : BitVec 32 := BitVec.ofNat 32 (i 0).val
  let c4_i32_44 : BitVec 32 := 4#32
  let v88 : BitVec 32 := Scalar.muli arg0 c4_i32_44
  let c1_i32 : BitVec 32 := 1#32
  let v89 : BitVec 32 := Scalar.addi v88 c1_i32
  let v90 : Index := Scalar.indexCast v89
  ![v90.toNat]
def k0_off4 (v91 : BitVec 32) : Fin 3 → Nat :=
  let v92 : Index := Scalar.indexCast v91
  let c0_45 : Index := 0#32
  let c0_46 : Index := 0#32
  ![v92.toNat, 0, 0]

def k0_chk2 (i : grid0.Coords) (v4 : BitVec 32) (v91 : BitVec 32) : Prop :=
  (∀ (k0_h2 : k0_cond2 i v4 = 1#1), ∀ a, (k0_off4 v91) a + S1x768x128.size a ≤ S41x768x128.size a)
theorem k0_off4_inb : ∀ (i : grid0.Coords) (v4 : BitVec 32) (v91 : BitVec 32) (k0_hw2 : k0_chk2 i v4 v91), ∀ (k0_h2 : k0_cond2 i v4 = 1#1), ∀ a, (k0_off4 v91) a + S1x768x128.size a ≤ S41x768x128.size a := fun i v4 v91 k0_hw2 k0_h2 => k0_hw2 k0_h2

def k0_off5 (i : grid0.Coords) : Fin 1 → Nat :=
  let arg0 : BitVec 32 := BitVec.ofNat 32 (i 0).val
  let c4_i32_68 : BitVec 32 := 4#32
  let v134 : BitVec 32 := Scalar.muli arg0 c4_i32_68
  let c2_i32 : BitVec 32 := 2#32
  let v135 : BitVec 32 := Scalar.addi v134 c2_i32
  let v136 : Index := Scalar.indexCast v135
  ![v136.toNat]
def k0_off6 (v137 : BitVec 32) : Fin 3 → Nat :=
  let v138 : Index := Scalar.indexCast v137
  let c0_69 : Index := 0#32
  let c0_70 : Index := 0#32
  ![v138.toNat, 0, 0]

def k0_chk3 (i : grid0.Coords) (v4 : BitVec 32) (v137 : BitVec 32) : Prop :=
  (∀ (k0_h2 : k0_cond2 i v4 = 1#1), ∀ a, (k0_off6 v137) a + S1x768x128.size a ≤ S41x768x128.size a)
theorem k0_off6_inb : ∀ (i : grid0.Coords) (v4 : BitVec 32) (v137 : BitVec 32) (k0_hw3 : k0_chk3 i v4 v137), ∀ (k0_h2 : k0_cond2 i v4 = 1#1), ∀ a, (k0_off6 v137) a + S1x768x128.size a ≤ S41x768x128.size a := fun i v4 v137 k0_hw3 k0_h2 => k0_hw3 k0_h2

def k0_off7 (i : grid0.Coords) : Fin 1 → Nat :=
  let arg0 : BitVec 32 := BitVec.ofNat 32 (i 0).val
  let c4_i32_92 : BitVec 32 := 4#32
  let v180 : BitVec 32 := Scalar.muli arg0 c4_i32_92
  let c3_i32 : BitVec 32 := 3#32
  let v181 : BitVec 32 := Scalar.addi v180 c3_i32
  let v182 : Index := Scalar.indexCast v181
  ![v182.toNat]
def k0_off8 (v183 : BitVec 32) : Fin 3 → Nat :=
  let v184 : Index := Scalar.indexCast v183
  let c0_93 : Index := 0#32
  let c0_94 : Index := 0#32
  ![v184.toNat, 0, 0]

def k0_chk4 (i : grid0.Coords) (v4 : BitVec 32) (v183 : BitVec 32) : Prop :=
  (∀ (k0_h2 : k0_cond2 i v4 = 1#1), ∀ a, (k0_off8 v183) a + S1x768x128.size a ≤ S41x768x128.size a)
theorem k0_off8_inb : ∀ (i : grid0.Coords) (v4 : BitVec 32) (v183 : BitVec 32) (k0_hw4 : k0_chk4 i v4 v183), ∀ (k0_h2 : k0_cond2 i v4 = 1#1), ∀ a, (k0_off8 v183) a + S1x768x128.size a ≤ S41x768x128.size a := fun i v4 v183 k0_hw4 k0_h2 => k0_hw4 k0_h2

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (inb_S1040_S1_1024 : ∀ a, (![1024] : Fin 1 → Nat) a + S1.size a ≤ S1040.size a) (numel1_S1 : S1.numel = 1) (pf : pre0.Contents (Elt F)) (i : grid0.Coords) : Fin 3 → Nat :=
  let arg0 : BitVec 32 := BitVec.ofNat 32 (i 0).val
  let c1024 : Index := 1024#32
  let v0 : BitVec 32 := pf.at 0 (Rect.unit (s := S1040) ![1024] S1.size inb_S1040_S1_1024) numel1_S1
  let c1_i32 : BitVec 32 := 1#32
  let v1 : BitVec 32 := Scalar.subi v0 c1_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.minsi arg0 v18
  let c0_i32_5 : BitVec 32 := 0#32
  let c0_i32_6 : BitVec 32 := 0#32
  let c0_i32_7 : BitVec 32 := 0#32
  ![v19.toNat, c0_i32_5.toNat, c0_i32_6.toNat]

def cc0_transform_2 (inb_S1040_S1_1024 : ∀ a, (![1024] : Fin 1 → Nat) a + S1.size a ≤ S1040.size a) (numel1_S1 : S1.numel = 1) (pf : pre0.Contents (Elt F)) (i : grid0.Coords) : Fin 2 → Nat :=
  let arg0 : BitVec 32 := BitVec.ofNat 32 (i 0).val
  let c1024 : Index := 1024#32
  let v0 : BitVec 32 := pf.at 0 (Rect.unit (s := S1040) ![1024] S1.size inb_S1040_S1_1024) numel1_S1
  let c1_i32 : BitVec 32 := 1#32
  let v1 : BitVec 32 := Scalar.subi v0 c1_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.minsi arg0 v18
  let c0_i32_5 : BitVec 32 := 0#32
  let c0_i32_6 : BitVec 32 := 0#32
  ![v19.toNat, c0_i32_5.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S768x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x24x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S41x768x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1040 : Shape := ⟨1, ![1040]⟩
abbrev S768x96 : Shape := ⟨2, ![768, 96]⟩
abbrev S3328x24x128 : Shape := ⟨3, ![3328, 24, 128]⟩
abbrev S3328x128 : Shape := ⟨2, ![3328, 128]⟩
abbrev S3328x96x128 : Shape := ⟨3, ![3328, 96, 128]⟩
abbrev S3328x128x768 : Shape := ⟨3, ![3328, 128, 768]⟩
abbrev S3328x768x128 : Shape := ⟨3, ![3328, 768, 128]⟩
abbrev S3328x1x128 : Shape := ⟨3, ![3328, 1, 128]⟩
abbrev S832 : Shape := ⟨1, ![832]⟩
abbrev S832x4 : Shape := ⟨2, ![832, 4]⟩
abbrev S3328 : Shape := ⟨1, ![3328]⟩
abbrev S1x3328 : Shape := ⟨2, ![1, 3328]⟩
abbrev S41x3328 : Shape := ⟨2, ![41, 3328]⟩
abbrev S41x3328x1x1 : Shape := ⟨4, ![41, 3328, 1, 1]⟩
abbrev S1x3328x768x128 : Shape := ⟨4, ![1, 3328, 768, 128]⟩
abbrev S_ : Shape := ⟨0, ![]⟩
abbrev S41x3328x768x128 : Shape := ⟨4, ![41, 3328, 768, 128]⟩
abbrev S41x768x128 : Shape := ⟨3, ![41, 768, 128]⟩

abbrev nBuf : Space → Nat
  | .hbm => 27
  | .vmem => 2
  | .smem => 0
  | _ => 0

abbrev bufTy : (tb : Table) → Fin (tcTables nBuf tb) → BufTy
  | .hbm, ⟨0, _⟩ => ⟨S1040, .i32⟩
  | .hbm, ⟨1, _⟩ => ⟨S768x96, .bf16⟩
  | .hbm, ⟨2, _⟩ => ⟨S3328x24x128, .i32⟩
  | .hbm, ⟨3, _⟩ => ⟨S3328x128, .f32⟩
  | .hbm, ⟨4, _⟩ => ⟨S3328x96x128, .bf16⟩
  | .hbm, ⟨5, _⟩ => ⟨S3328x128x768, .f32⟩
  | .hbm, ⟨6, _⟩ => ⟨S3328x768x128, .f32⟩
  | .hbm, ⟨7, _⟩ => ⟨S3328x1x128, .f32⟩
  | .hbm, ⟨8, _⟩ => ⟨S3328x768x128, .f32⟩
  | .hbm, ⟨9, _⟩ => ⟨S3328x768x128, .f32⟩
  | .hbm, ⟨10, _⟩ => ⟨S832, .i32⟩
  | .hbm, ⟨11, _⟩ => ⟨S832x4, .i32⟩
  | .hbm, ⟨12, _⟩ => ⟨S3328, .i32⟩
  | .hbm, ⟨13, _⟩ => ⟨S1x3328, .i32⟩
  | .hbm, ⟨14, _⟩ => ⟨S41x3328, .i32⟩
  | .hbm, ⟨15, _⟩ => ⟨S41x3328, .i32⟩
  | .hbm, ⟨16, _⟩ => ⟨S41x3328, .i1⟩
  | .hbm, ⟨17, _⟩ => ⟨S41x3328x1x1, .i1⟩
  | .hbm, ⟨18, _⟩ => ⟨S1x3328x768x128, .f32⟩
  | .hbm, ⟨19, _⟩ => ⟨S_, .f32⟩
  | .hbm, ⟨20, _⟩ => ⟨S_, .f32⟩
  | .hbm, ⟨21, _⟩ => ⟨S41x3328x768x128, .i1⟩
  | .hbm, ⟨22, _⟩ => ⟨S41x3328x768x128, .f32⟩
  | .hbm, ⟨23, _⟩ => ⟨S41x3328x768x128, .f32⟩
  | .hbm, ⟨24, _⟩ => ⟨S41x3328x768x128, .f32⟩
  | .hbm, ⟨25, _⟩ => ⟨S_, .f32⟩
  | .hbm, ⟨26, _⟩ => ⟨S41x768x128, .f32⟩
  | .local _ .vmem, ⟨0, _⟩ => ⟨S3328x24x128, .i32⟩
  | .local _ .vmem, ⟨1, _⟩ => ⟨S3328x96x128, .bf16⟩
  | _, _ => ⟨S1040, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S3328x24x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3328x96x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Ranks.lean ====
abbrev S40x128 : Shape := ⟨2, ![40, 128]⟩
abbrev S96x32768 : Shape := ⟨2, ![96, 32768]⟩
abbrev S24x32768 : Shape := ⟨2, ![24, 32768]⟩
abbrev S256x128 : Shape := ⟨2, ![256, 128]⟩
abbrev S128x128 : Shape := ⟨2, ![128, 128]⟩
abbrev S1x128 : Shape := ⟨2, ![1, 128]⟩
abbrev S128 : Shape := ⟨1, ![128]⟩

abbrev nBuf : Space → Nat
  | .hbm => 4
  | .vmem => 4
  | .smem => 0
  | _ => 0

abbrev bufTy : (tb : Table) → Fin (tcTables nBuf tb) → BufTy
  | .hbm, ⟨0, _⟩ => ⟨S40x128, .i32⟩
  | .hbm, ⟨1, _⟩ => ⟨S96x32768, .fp8e4m3⟩
  | .hbm, ⟨2, _⟩ => ⟨S40x128, .i32⟩
  | .hbm, ⟨3, _⟩ => ⟨S24x32768, .i32⟩
  | .local _ .vmem, ⟨0, _⟩ => ⟨S40x128, .i32⟩
  | .local _ .vmem, ⟨1, _⟩ => ⟨S96x32768, .fp8e4m3⟩
  | .local _ .vmem, ⟨2, _⟩ => ⟨S40x128, .i32⟩
  | .local _ .vmem, ⟨3, _⟩ => ⟨S24x32768, .i32⟩
  | _, _ => ⟨S40x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [BitOps F]

abbrev grid0 : Pipeline.Grid := .none

abbrev stage0_0 : Fin 1 → Memref sig .tc .vmem S40x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x32768 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x32768 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== RanksReference.lean ====
abbrev S40x128 : Shape := ⟨2, ![40, 128]⟩
abbrev S96x32768 : Shape := ⟨2, ![96, 32768]⟩
abbrev S_ : Shape := ⟨0, ![]⟩
abbrev S5120 : Shape := ⟨1, ![5120]⟩
abbrev S5120x5120 : Shape := ⟨2, ![5120, 5120]⟩
abbrev S1x5120 : Shape := ⟨2, ![1, 5120]⟩
abbrev S5120x1 : Shape := ⟨2, ![5120, 1]⟩
abbrev S24x4x32768 : Shape := ⟨3, ![24, 4, 32768]⟩
abbrev S24x1x32768 : Shape := ⟨3, ![24, 1, 32768]⟩
abbrev S24x32768 : Shape := ⟨2, ![24, 32768]⟩

abbrev nBuf : Space → Nat
  | .hbm => 51
  | .vmem => 2
  | .smem => 0
  | _ => 0

abbrev bufTy : (tb : Table) → Fin (tcTables nBuf tb) → BufTy
  | .hbm, ⟨0, _⟩ => ⟨S40x128, .i32⟩
  | .hbm, ⟨1, _⟩ => ⟨S96x32768, .fp8e4m3⟩
  | .hbm, ⟨2, _⟩ => ⟨S_, .i32⟩
  | .hbm, ⟨3, _⟩ => ⟨S40x128, .i32⟩
  | .hbm, ⟨4, _⟩ => ⟨S40x128, .i32⟩
  | .hbm, ⟨5, _⟩ => ⟨S5120, .i32⟩
  | .hbm, ⟨6, _⟩ => ⟨S5120x5120, .i32⟩
  | .hbm, ⟨7, _⟩ => ⟨S5120x5120, .i32⟩
  | .hbm, ⟨8, _⟩ => ⟨S1x5120, .i32⟩
  | .hbm, ⟨9, _⟩ => ⟨S5120x1, .i32⟩
  | .hbm, ⟨10, _⟩ => ⟨S5120x5120, .i32⟩
  | .hbm, ⟨11, _⟩ => ⟨S5120x5120, .i32⟩
  | .hbm, ⟨12, _⟩ => ⟨S5120x5120, .i1⟩
  | .hbm, ⟨13, _⟩ => ⟨S1x5120, .i32⟩
  | .hbm, ⟨14, _⟩ => ⟨S5120x1, .i32⟩
  | .hbm, ⟨15, _⟩ => ⟨S5120x5120, .i32⟩
  | .hbm, ⟨16, _⟩ => ⟨S5120x5120, .i32⟩
  | .hbm, ⟨17, _⟩ => ⟨S5120x5120, .i1⟩
  | .hbm, ⟨18, _⟩ => ⟨S5120x5120, .i1⟩
  | .hbm, ⟨19, _⟩ => ⟨S5120x5120, .i1⟩
  | .hbm, ⟨20, _⟩ => ⟨S5120x5120, .i1⟩
  | .hbm, ⟨21, _⟩ => ⟨S5120x5120, .i32⟩
  | .hbm, ⟨22, _⟩ => ⟨S_, .i32⟩
  | .hbm, ⟨23, _⟩ => ⟨S5120, .i32⟩
  | .hbm, ⟨24, _⟩ => ⟨S40x128, .i32⟩
  | .hbm, ⟨25, _⟩ => ⟨S96x32768, .i8⟩
  | .hbm, ⟨26, _⟩ => ⟨S96x32768, .i32⟩
  | .hbm, ⟨27, _⟩ => ⟨S_, .i32⟩
  | .hbm, ⟨28, _⟩ => ⟨S96x32768, .i32⟩
  | .hbm, ⟨29, _⟩ => ⟨S96x32768, .i32⟩
  | .hbm, ⟨30, _⟩ => ⟨S24x4x32768, .i32⟩
  | .hbm, ⟨31, _⟩ => ⟨S24x1x32768, .i32⟩
  | .hbm, ⟨32, _⟩ => ⟨S24x32768, .i32⟩
  | .hbm, ⟨33, _⟩ => ⟨S24x1x32768, .i32⟩
  | .hbm, ⟨34, _⟩ => ⟨S24x32768, .i32⟩
  | .hbm, ⟨35, _⟩ => ⟨S_, .i32⟩
  | .hbm, ⟨36, _⟩ => ⟨S24x32768, .i32⟩
  | .hbm, ⟨37, _⟩ => ⟨S24x32768, .i32⟩
  | .hbm, ⟨38, _⟩ => ⟨S24x32768, .i32⟩
  | .hbm, ⟨39, _⟩ => ⟨S24x1x32768, .i32⟩
  | .hbm, ⟨40, _⟩ => ⟨S24x32768, .i32⟩
  | .hbm, ⟨41, _⟩ => ⟨S_, .i32⟩
  | .hbm, ⟨42, _⟩ => ⟨S24x32768, .i32⟩
  | .hbm, ⟨43, _⟩ => ⟨S24x32768, .i32⟩
  | .hbm, ⟨44, _⟩ => ⟨S24x32768, .i32⟩
  | .hbm, ⟨45, _⟩ => ⟨S24x1x32768, .i32⟩
  | .hbm, ⟨46, _⟩ => ⟨S24x32768, .i32⟩
  | .hbm, ⟨47, _⟩ => ⟨S_, .i32⟩
  | .hbm, ⟨48, _⟩ => ⟨S24x32768, .i32⟩
  | .hbm, ⟨49, _⟩ => ⟨S24x32768, .i32⟩
  | .hbm, ⟨50, _⟩ => ⟨S24x32768, .i32⟩
  | .local _ .vmem, ⟨0, _⟩ => ⟨S96x32768, .fp8e4m3⟩
  | .local _ .vmem, ⟨1, _⟩ => ⟨S96x32768, .i8⟩
  | _, _ => ⟨S40x128, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_c_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_c_1 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_c_2 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_c_3 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_c_4 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [BitOps F]

abbrev grid0 : Pipeline.Grid := .none

abbrev stage0_0 : Fin 1 → Memref sig .tc .vmem S96x32768 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x32768 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Unsort.lean ====
abbrev S41x96x8x128 : Shape := ⟨4, ![41, 96, 8, 128]⟩
abbrev S5120 : Shape := ⟨1, ![5120]⟩
abbrev S96x40x8x128 : Shape := ⟨4, ![96, 40, 8, 128]⟩
abbrev S40x8x128 : Shape := ⟨3, ![40, 8, 128]⟩
abbrev S_ : Shape := ⟨0, ![]⟩
abbrev S40x1x8x128 : Shape := ⟨4, ![40, 1, 8, 128]⟩
abbrev S16 : Shape := ⟨1, ![16]⟩
abbrev S1x1x16 : Shape := ⟨3, ![1, 1, 16]⟩
abbrev S1x40x8x128 : Shape := ⟨4, ![1, 40, 8, 128]⟩

abbrev nBuf : Table → Nat
  | .hbm => 4
  | .local .scVector .vmem => 4
  | _ => 0

abbrev bufTy : (tb : Table) → Fin (nBuf tb) → BufTy
  | .hbm, ⟨0, _⟩ => ⟨S41x96x8x128, .f32⟩
  | .hbm, ⟨1, _⟩ => ⟨S5120, .i32⟩
  | .hbm, ⟨2, _⟩ => ⟨S5120, .i32⟩
  | .hbm, ⟨3, _⟩ => ⟨S96x40x8x128, .f32⟩
  | .local .scVector .vmem, ⟨0, _⟩ => ⟨S5120, .i32⟩
  | .local .scVector .vmem, ⟨1, _⟩ => ⟨S5120, .i32⟩
  | .local .scVector .vmem, ⟨2, _⟩ => ⟨S40x8x128, .f32⟩
  | .local .scVector .vmem, ⟨3, _⟩ => ⟨S40x8x128, .f32⟩
  | _, _ => ⟨S41x96x8x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c3_i32 : BitVec 32 := 3#32
  let v2 : BitVec 32 := Scalar.addi c0_i32 c3_i32
  let c1_i32 : BitVec 32 := 1#32
  ⟨c0_i32, v2, c1_i32⟩
def k0_off1 (i : grid0.Coords) (k0_t1 : Fin k0_t1_loop.trips) : Fin 4 → Nat :=
  let c0_i32_4 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32_3 : BitVec 32 := 3#32
  let v5 : BitVec 32 := Scalar.muli v1 c3_i32_3
  let c0_i32_2 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.muli arg11 c1_i32_1
  let v4 : BitVec 32 := Scalar.addi c0_i32_2 v3
  let v6 : BitVec 32 := Scalar.addi v5 v4
  let c0_i32_5 : BitVec 32 := 0#32
  let c0_i32_6 : BitVec 32 := 0#32
  ![0, v6.toNat, 0, 0]
@[reducible] def k0_t2_loop : Scf.Loop 32 :=
  let c0_i32_16 : BitVec 32 := 0#32
  let c320_i32 : BitVec 32 := 320#32
  let v15 : BitVec 32 := Scalar.addi c0_i32_16 c320_i32
  let c1_i32_17 : BitVec 32 := 1#32
  ⟨c0_i32_16, v15, c1_i32_17⟩
def k0_off2 (k0_t2 : Fin k0_t2_loop.trips) : Fin 1 → Nat :=
  let c0_i32_20 : BitVec 32 := 0#32
  let c0_i32_16 : BitVec 32 := 0#32
  let c1_i32_17 : BitVec 32 := 1#32
  let arg12 : BitVec 32 := Scf.iv c0_i32_16 c1_i32_17 k0_t2
  let c1_i32_19 : BitVec 32 := 1#32
  let v16 : BitVec 32 := Scalar.muli arg12 c1_i32_19
  let v17 : BitVec 32 := Scalar.addi c0_i32_20 v16
  let c16_i32_21 : BitVec 32 := 16#32
  let v18 : BitVec 32 := Scalar.muli v17 c16_i32_21
  let v19 : Index := Scalar.indexCast v18
  ![v19.toNat]

def k0_chk1 (v27 : IVec S16 32) (v29 : IVec S16 32) (v30 : IVec S16 32) : Prop :=
  (∀ a x, ((![v27, v30, v29] : Fin 3 → IVec S16 32) a x).toNat < S40x8x128.size a)
theorem k0_idx1_inb : ∀ (v27 : IVec S16 32) (v29 : IVec S16 32) (v30 : IVec S16 32) (k0_hw1 : k0_chk1 v27 v29 v30), ∀ a x, ((![v27, v30, v29] : Fin 3 → IVec S16 32) a x).toNat < S40x8x128.size a := fun v27 v29 v30 k0_hw1 => k0_hw1
def k0_off3 (k0_t2 : Fin k0_t2_loop.trips) : Fin 3 → Nat :=
  let c0_i32_20 : BitVec 32 := 0#32
  let c0_i32_16 : BitVec 32 := 0#32
  let c1_i32_17 : BitVec 32 := 1#32
  let arg12 : BitVec 32 := Scf.iv c0_i32_16 c1_i32_17 k0_t2
  let c1_i32_19 : BitVec 32 := 1#32
  let v16 : BitVec 32 := Scalar.muli arg12 c1_i32_19
  let v17 : BitVec 32 := Scalar.addi c0_i32_20 v16
  let c0_i32_27 : BitVec 32 := 0#32
  let v39 : BitVec 1 := Scalar.cmpi .sgt v17 c0_i32_27
  let v40 : BitVec 32 := Scalar.extui v39
  let c0_i32_28 : BitVec 32 := 0#32
  let v41 : BitVec 1 := Scalar.cmpi .slt v17 c0_i32_28
  let v42 : BitVec 32 := Scalar.extui v41
  let v43 : BitVec 32 := Scalar.subi v40 v42
  let c8_i32 : BitVec 32 := 8#32
  let c0_i32_29 : BitVec 32 := 0#32
  let v44 : BitVec 1 := Scalar.cmpi .sgt c8_i32 c0_i32_29
  let v45 : BitVec 32 := Scalar.extui v44
  let c0_i32_30 : BitVec 32 := 0#32
  let v46 : BitVec 1 := Scalar.cmpi .slt c8_i32 c0_i32_30
  let v47 : BitVec 32 := Scalar.extui v46
  let v48 : BitVec 32 := Scalar.subi v45 v47
  let v49 : BitVec 1 := Scalar.cmpi .ne v43 v48
  let v50 : BitVec 32 := Scalar.remsi v17 c8_i32
  let c0_i32_31 : BitVec 32 := 0#32
  let v51 : BitVec 1 := Scalar.cmpi .ne v50 c0_i32_31
  let v52 : BitVec 1 := Scalar.andi v49 v51
  let v38 : BitVec 32 := Scalar.divsi v17 c8_i32
  let c1_i32_32 : BitVec 32 := 1#32
  let v53 : BitVec 32 := Scalar.subi v38 c1_i32_32
  let v54 : BitVec 32 := Scalar.select v52 v53 v38
  let v66 : Index := Scalar.indexCast v54
  let c0_i32_40 : BitVec 32 := 0#32
  let v67 : Index := Scalar.indexCast c0_i32_40
  let c8_i32_33 : BitVec 32 := 8#32
  let c0_i32_34 : BitVec 32 := 0#32
  let v55 : BitVec 1 := Scalar.cmpi .eq c8_i32_33 c0_i32_34
  let c1_i32_35 : BitVec 32 := 1#32
  let v56 : BitVec 32 := Scalar.select v55 c1_i32_35 c8_i32_33
  let v57 : BitVec 32 := Scalar.remsi v17 v56
  let c0_i32_37 : BitVec 32 := 0#32
  let v59 : BitVec 1 := Scalar.cmpi .slt v57 c0_i32_37
  let c0_i32_38 : BitVec 32 := 0#32
  let v60 : BitVec 1 := Scalar.cmpi .slt v56 c0_i32_38
  let v61 : BitVec 1 := Scalar.xori v59 v60
  let c0_i32_36 : BitVec 32 := 0#32
  let v58 : BitVec 1 := Scalar.cmpi .ne v57 c0_i32_36
  let v62 : BitVec 1 := Scalar.andi v61 v58
  let v63 : BitVec 32 := Scalar.addi v57 v56
  let v64 : BitVec 32 := Scalar.select v62 v63 v57
  let c16_i32_39 : BitVec 32 := 16#32
  let v65 : BitVec 32 := Scalar.muli v64 c16_i32_39
  let v68 : Index := Scalar.indexCast v65
  ![v66.toNat, 0, v68.toNat]

def k0_chk2 (v27 : IVec S16 32) (v29 : IVec S16 32) (v70 : IVec S16 32) : Prop :=
  (∀ a x, ((![v27, v70, v29] : Fin 3 → IVec S16 32) a x).toNat < S40x8x128.size a)
theorem k0_idx2_inb : ∀ (v27 : IVec S16 32) (v29 : IVec S16 32) (v70 : IVec S16 32) (k0_hw2 : k0_chk2 v27 v29 v70), ∀ a x, ((![v27, v70, v29] : Fin 3 → IVec S16 32) a x).toNat < S40x8x128.size a := fun v27 v29 v70 k0_hw2 => k0_hw2
def k0_off4 (k0_t2 : Fin k0_t2_loop.trips) : Fin 3 → Nat :=
  let c0_i32_20 : BitVec 32 := 0#32
  let c0_i32_16 : BitVec 32 := 0#32
  let c1_i32_17 : BitVec 32 := 1#32
  let arg12 : BitVec 32 := Scf.iv c0_i32_16 c1_i32_17 k0_t2
  let c1_i32_19 : BitVec 32 := 1#32
  let v16 : BitVec 32 := Scalar.muli arg12 c1_i32_19
  let v17 : BitVec 32 := Scalar.addi c0_i32_20 v16
  let c0_i32_46 : BitVec 32 := 0#32
  let v79 : BitVec 1 := Scalar.cmpi .sgt v17 c0_i32_46
  let v80 : BitVec 32 := Scalar.extui v79
  let c0_i32_47 : BitVec 32 := 0#32
  let v81 : BitVec 1 := Scalar.cmpi .slt v17 c0_i32_47
  let v82 : BitVec 32 := Scalar.extui v81
  let v83 : BitVec 32 := Scalar.subi v80 v82
  let c8_i32_45 : BitVec 32 := 8#32
  let c0_i32_48 : BitVec 32 := 0#32
  let v84 : BitVec 1 := Scalar.cmpi .sgt c8_i32_45 c0_i32_48
  let v85 : BitVec 32 := Scalar.extui v84
  let c0_i32_49 : BitVec 32 := 0#32
  let v86 : BitVec 1 := Scalar.cmpi .slt c8_i32_45 c0_i32_49
  let v87 : BitVec 32 := Scalar.extui v86
  let v88 : BitVec 32 := Scalar.subi v85 v87
  let v89 : BitVec 1 := Scalar.cmpi .ne v83 v88
  let v90 : BitVec 32 := Scalar.remsi v17 c8_i32_45
  let c0_i32_50 : BitVec 32 := 0#32
  let v91 : BitVec 1 := Scalar.cmpi .ne v90 c0_i32_50
  let v92 : BitVec 1 := Scalar.andi v89 v91
  let v78 : BitVec 32 := Scalar.divsi v17 c8_i32_45
  let c1_i32_51 : BitVec 32 := 1#32
  let v93 : BitVec 32 := Scalar.subi v78 c1_i32_51
  let v94 : BitVec 32 := Scalar.select v92 v93 v78
  let v106 : Index := Scalar.indexCast v94
  let c1_i32_59 : BitVec 32 := 1#32
  let v107 : Index := Scalar.indexCast c1_i32_59
  let c8_i32_52 : BitVec 32 := 8#32
  let c0_i32_53 : BitVec 32 := 0#32
  let v95 : BitVec 1 := Scalar.cmpi .eq c8_i32_52 c0_i32_53
  let c1_i32_54 : BitVec 32 := 1#32
  let v96 : BitVec 32 := Scalar.select v95 c1_i32_54 c8_i32_52
  let v97 : BitVec 32 := Scalar.remsi v17 v96
  let c0_i32_56 : BitVec 32 := 0#32
  let v99 : BitVec 1 := Scalar.cmpi .slt v97 c0_i32_56
  let c0_i32_57 : BitVec 32 := 0#32
  let v100 : BitVec 1 := Scalar.cmpi .slt v96 c0_i32_57
  let v101 : BitVec 1 := Scalar.xori v99 v100
  let c0_i32_55 : BitVec 32 := 0#32
  let v98 : BitVec 1 := Scalar.cmpi .ne v97 c0_i32_55
  let v102 : BitVec 1 := Scalar.andi v101 v98
  let v103 : BitVec 32 := Scalar.addi v97 v96
  let v104 : BitVec 32 := Scalar.select v102 v103 v97
  let c16_i32_58 : BitVec 32 := 16#32
  let v105 : BitVec 32 := Scalar.muli v104 c16_i32_58
  let v108 : Index := Scalar.indexCast v105
  ![v106.toNat, 1, v108.toNat]

def k0_chk3 (v27 : IVec S16 32) (v29 : IVec S16 32) (v110 : IVec S16 32) : Prop :=
  (∀ a x, ((![v27, v110, v29] : Fin 3 → IVec S16 32) a x).toNat < S40x8x128.size a)
theorem k0_idx3_inb : ∀ (v27 : IVec S16 32) (v29 : IVec S16 32) (v110 : IVec S16 32) (k0_hw3 : k0_chk3 v27 v29 v110), ∀ a x, ((![v27, v110, v29] : Fin 3 → IVec S16 32) a x).toNat < S40x8x128.size a := fun v27 v29 v110 k0_hw3 => k0_hw3
def k0_off5 (k0_t2 : Fin k0_t2_loop.trips) : Fin 3 → Nat :=
  let c0_i32_20 : BitVec 32 := 0#32
  let c0_i32_16 : BitVec 32 := 0#32
  let c1_i32_17 : BitVec 32 := 1#32
  let arg12 : BitVec 32 := Scf.iv c0_i32_16 c1_i32_17 k0_t2
  let c1_i32_19 : BitVec 32 := 1#32
  let v16 : BitVec 32 := Scalar.muli arg12 c1_i32_19
  let v17 : BitVec 32 := Scalar.addi c0_i32_20 v16
  let c0_i32_64 : BitVec 32 := 0#32
  let v119 : BitVec 1 := Scalar.cmpi .sgt v17 c0_i32_64
  let v120 : BitVec 32 := Scalar.extui v119
  let c0_i32_65 : BitVec 32 := 0#32
  let v121 : BitVec 1 := Scalar.cmpi .slt v17 c0_i32_65
  let v122 : BitVec 32 := Scalar.extui v121
  let v123 : BitVec 32 := Scalar.subi v120 v122
  let c8_i32_63 : BitVec 32 := 8#32
  let c0_i32_66 : BitVec 32 := 0#32
  let v124 : BitVec 1 := Scalar.cmpi .sgt c8_i32_63 c0_i32_66
  let v125 : BitVec 32 := Scalar.extui v124
  let c0_i32_67 : BitVec 32 := 0#32
  let v126 : BitVec 1 := Scalar.cmpi .slt c8_i32_63 c0_i32_67
  let v127 : BitVec 32 := Scalar.extui v126
  let v128 : BitVec 32 := Scalar.subi v125 v127
  let v129 : BitVec 1 := Scalar.cmpi .ne v123 v128
  let v130 : BitVec 32 := Scalar.remsi v17 c8_i32_63
  let c0_i32_68 : BitVec 32 := 0#32
  let v131 : BitVec 1 := Scalar.cmpi .ne v130 c0_i32_68
  let v132 : BitVec 1 := Scalar.andi v129 v131
  let v118 : BitVec 32 := Scalar.divsi v17 c8_i32_63
  let c1_i32_69 : BitVec 32 := 1#32
  let v133 : BitVec 32 := Scalar.subi v118 c1_i32_69
  let v134 : BitVec 32 := Scalar.select v132 v133 v118
  let v146 : Index := Scalar.indexCast v134
  let c2_i32_77 : BitVec 32 := 2#32
  let v147 : Index := Scalar.indexCast c2_i32_77
  let c8_i32_70 : BitVec 32 := 8#32
  let c0_i32_71 : BitVec 32 := 0#32
  let v135 : BitVec 1 := Scalar.cmpi .eq c8_i32_70 c0_i32_71
  let c1_i32_72 : BitVec 32 := 1#32
  let v136 : BitVec 32 := Scalar.select v135 c1_i32_72 c8_i32_70
  let v137 : BitVec 32 := Scalar.remsi v17 v136
  let c0_i32_74 : BitVec 32 := 0#32
  let v139 : BitVec 1 := Scalar.cmpi .slt v137 c0_i32_74
  let c0_i32_75 : BitVec 32 := 0#32
  let v140 : BitVec 1 := Scalar.cmpi .slt v136 c0_i32_75
  let v141 : BitVec 1 := Scalar.xori v139 v140
  let c0_i32_73 : BitVec 32 := 0#32
  let v138 : BitVec 1 := Scalar.cmpi .ne v137 c0_i32_73
  let v142 : BitVec 1 := Scalar.andi v141 v138
  let v143 : BitVec 32 := Scalar.addi v137 v136
  let v144 : BitVec 32 := Scalar.select v142 v143 v137
  let c16_i32_76 : BitVec 32 := 16#32
  let v145 : BitVec 32 := Scalar.muli v144 c16_i32_76
  let v148 : Index := Scalar.indexCast v145
  ![v146.toNat, 2, v148.toNat]

def k0_chk4 (v27 : IVec S16 32) (v29 : IVec S16 32) (v150 : IVec S16 32) : Prop :=
  (∀ a x, ((![v27, v150, v29] : Fin 3 → IVec S16 32) a x).toNat < S40x8x128.size a)
theorem k0_idx4_inb : ∀ (v27 : IVec S16 32) (v29 : IVec S16 32) (v150 : IVec S16 32) (k0_hw4 : k0_chk4 v27 v29 v150), ∀ a x, ((![v27, v150, v29] : Fin 3 → IVec S16 32) a x).toNat < S40x8x128.size a := fun v27 v29 v150 k0_hw4 => k0_hw4
def k0_off6 (k0_t2 : Fin k0_t2_loop.trips) : Fin 3 → Nat :=
  let c0_i32_20 : BitVec 32 := 0#32
  let c0_i32_16 : BitVec 32 := 0#32
  let c1_i32_17 : BitVec 32 := 1#32
  let arg12 : BitVec 32 := Scf.iv c0_i32_16 c1_i32_17 k0_t2
  let c1_i32_19 : BitVec 32 := 1#32
  let v16 : BitVec 32 := Scalar.muli arg12 c1_i32_19
  let v17 : BitVec 32 := Scalar.addi c0_i32_20 v16
  let c0_i32_83 : BitVec 32 := 0#32
  let v159 : BitVec 1 := Scalar.cmpi .sgt v17 c0_i32_83
  let v160 : BitVec 32 := Scalar.extui v159
  let c0_i32_84 : BitVec 32 := 0#32
  let v161 : BitVec 1 := Scalar.cmpi .slt v17 c0_i32_84
  let v162 : BitVec 32 := Scalar.extui v161
  let v163 : BitVec 32 := Scalar.subi v160 v162
  let c8_i32_82 : BitVec 32 := 8#32
  let c0_i32_85 : BitVec 32 := 0#32
  let v164 : BitVec 1 := Scalar.cmpi .sgt c8_i32_82 c0_i32_85
  let v165 : BitVec 32 := Scalar.extui v164
  let c0_i32_86 : BitVec 32 := 0#32
  let v166 : BitVec 1 := Scalar.cmpi .slt c8_i32_82 c0_i32_86
  let v167 : BitVec 32 := Scalar.extui v166
  let v168 : BitVec 32 := Scalar.subi v165 v167
  let v169 : BitVec 1 := Scalar.cmpi .ne v163 v168
  let v170 : BitVec 32 := Scalar.remsi v17 c8_i32_82
  let c0_i32_87 : BitVec 32 := 0#32
  let v171 : BitVec 1 := Scalar.cmpi .ne v170 c0_i32_87
  let v172 : BitVec 1 := Scalar.andi v169 v171
  let v158 : BitVec 32 := Scalar.divsi v17 c8_i32_82
  let c1_i32_88 : BitVec 32 := 1#32
  let v173 : BitVec 32 := Scalar.subi v158 c1_i32_88
  let v174 : BitVec 32 := Scalar.select v172 v173 v158
  let v186 : Index := Scalar.indexCast v174
  let c3_i32_96 : BitVec 32 := 3#32
  let v187 : Index := Scalar.indexCast c3_i32_96
  let c8_i32_89 : BitVec 32 := 8#32
  let c0_i32_90 : BitVec 32 := 0#32
  let v175 : BitVec 1 := Scalar.cmpi .eq c8_i32_89 c0_i32_90
  let c1_i32_91 : BitVec 32 := 1#32
  let v176 : BitVec 32 := Scalar.select v175 c1_i32_91 c8_i32_89
  let v177 : BitVec 32 := Scalar.remsi v17 v176
  let c0_i32_93 : BitVec 32 := 0#32
  let v179 : BitVec 1 := Scalar.cmpi .slt v177 c0_i32_93
  let c0_i32_94 : BitVec 32 := 0#32
  let v180 : BitVec 1 := Scalar.cmpi .slt v176 c0_i32_94
  let v181 : BitVec 1 := Scalar.xori v179 v180
  let c0_i32_92 : BitVec 32 := 0#32
  let v178 : BitVec 1 := Scalar.cmpi .ne v177 c0_i32_92
  let v182 : BitVec 1 := Scalar.andi v181 v178
  let v183 : BitVec 32 := Scalar.addi v177 v176
  let v184 : BitVec 32 := Scalar.select v182 v183 v177
  let c16_i32_95 : BitVec 32 := 16#32
  let v185 : BitVec 32 := Scalar.muli v184 c16_i32_95
  let v188 : Index := Scalar.indexCast v185
  ![v186.toNat, 3, v188.toNat]

def k0_chk5 (v27 : IVec S16 32) (v29 : IVec S16 32) (v190 : IVec S16 32) : Prop :=
  (∀ a x, ((![v27, v190, v29] : Fin 3 → IVec S16 32) a x).toNat < S40x8x128.size a)
theorem k0_idx5_inb : ∀ (v27 : IVec S16 32) (v29 : IVec S16 32) (v190 : IVec S16 32) (k0_hw5 : k0_chk5 v27 v29 v190), ∀ a x, ((![v27, v190, v29] : Fin 3 → IVec S16 32) a x).toNat < S40x8x128.size a := fun v27 v29 v190 k0_hw5 => k0_hw5
def k0_off7 (k0_t2 : Fin k0_t2_loop.trips) : Fin 3 → Nat :=
  let c0_i32_20 : BitVec 32 := 0#32
  let c0_i32_16 : BitVec 32 := 0#32
  let c1_i32_17 : BitVec 32 := 1#32
  let arg12 : BitVec 32 := Scf.iv c0_i32_16 c1_i32_17 k0_t2
  let c1_i32_19 : BitVec 32 := 1#32
  let v16 : BitVec 32 := Scalar.muli arg12 c1_i32_19
  let v17 : BitVec 32 := Scalar.addi c0_i32_20 v16
  let c0_i32_101 : BitVec 32 := 0#32
  let v199 : BitVec 1 := Scalar.cmpi .sgt v17 c0_i32_101
  let v200 : BitVec 32 := Scalar.extui v199
  let c0_i32_102 : BitVec 32 := 0#32
  let v201 : BitVec 1 := Scalar.cmpi .slt v17 c0_i32_102
  let v202 : BitVec 32 := Scalar.extui v201
  let v203 : BitVec 32 := Scalar.subi v200 v202
  let c8_i32_100 : BitVec 32 := 8#32
  let c0_i32_103 : BitVec 32 := 0#32
  let v204 : BitVec 1 := Scalar.cmpi .sgt c8_i32_100 c0_i32_103
  let v205 : BitVec 32 := Scalar.extui v204
  let c0_i32_104 : BitVec 32 := 0#32
  let v206 : BitVec 1 := Scalar.cmpi .slt c8_i32_100 c0_i32_104
  let v207 : BitVec 32 := Scalar.extui v206
  let v208 : BitVec 32 := Scalar.subi v205 v207
  let v209 : BitVec 1 := Scalar.cmpi .ne v203 v208
  let v210 : BitVec 32 := Scalar.remsi v17 c8_i32_100
  let c0_i32_105 : BitVec 32 := 0#32
  let v211 : BitVec 1 := Scalar.cmpi .ne v210 c0_i32_105
  let v212 : BitVec 1 := Scalar.andi v209 v211
  let v198 : BitVec 32 := Scalar.divsi v17 c8_i32_100
  let c1_i32_106 : BitVec 32 := 1#32
  let v213 : BitVec 32 := Scalar.subi v198 c1_i32_106
  let v214 : BitVec 32 := Scalar.select v212 v213 v198
  let v226 : Index := Scalar.indexCast v214
  let c4_i32_114 : BitVec 32 := 4#32
  let v227 : Index := Scalar.indexCast c4_i32_114
  let c8_i32_107 : BitVec 32 := 8#32
  let c0_i32_108 : BitVec 32 := 0#32
  let v215 : BitVec 1 := Scalar.cmpi .eq c8_i32_107 c0_i32_108
  let c1_i32_109 : BitVec 32 := 1#32
  let v216 : BitVec 32 := Scalar.select v215 c1_i32_109 c8_i32_107
  let v217 : BitVec 32 := Scalar.remsi v17 v216
  let c0_i32_111 : BitVec 32 := 0#32
  let v219 : BitVec 1 := Scalar.cmpi .slt v217 c0_i32_111
  let c0_i32_112 : BitVec 32 := 0#32
  let v220 : BitVec 1 := Scalar.cmpi .slt v216 c0_i32_112
  let v221 : BitVec 1 := Scalar.xori v219 v220
  let c0_i32_110 : BitVec 32 := 0#32
  let v218 : BitVec 1 := Scalar.cmpi .ne v217 c0_i32_110
  let v222 : BitVec 1 := Scalar.andi v221 v218
  let v223 : BitVec 32 := Scalar.addi v217 v216
  let v224 : BitVec 32 := Scalar.select v222 v223 v217
  let c16_i32_113 : BitVec 32 := 16#32
  let v225 : BitVec 32 := Scalar.muli v224 c16_i32_113
  let v228 : Index := Scalar.indexCast v225
  ![v226.toNat, 4, v228.toNat]

def k0_chk6 (v27 : IVec S16 32) (v29 : IVec S16 32) (v230 : IVec S16 32) : Prop :=
  (∀ a x, ((![v27, v230, v29] : Fin 3 → IVec S16 32) a x).toNat < S40x8x128.size a)
theorem k0_idx6_inb : ∀ (v27 : IVec S16 32) (v29 : IVec S16 32) (v230 : IVec S16 32) (k0_hw6 : k0_chk6 v27 v29 v230), ∀ a x, ((![v27, v230, v29] : Fin 3 → IVec S16 32) a x).toNat < S40x8x128.size a := fun v27 v29 v230 k0_hw6 => k0_hw6
def k0_off8 (k0_t2 : Fin k0_t2_loop.trips) : Fin 3 → Nat :=
  let c0_i32_20 : BitVec 32 := 0#32
  let c0_i32_16 : BitVec 32 := 0#32
  let c1_i32_17 : BitVec 32 := 1#32
  let arg12 : BitVec 32 := Scf.iv c0_i32_16 c1_i32_17 k0_t2
  let c1_i32_19 : BitVec 32 := 1#32
  let v16 : BitVec 32 := Scalar.muli arg12 c1_i32_19
  let v17 : BitVec 32 := Scalar.addi c0_i32_20 v16
  let c0_i32_119 : BitVec 32 := 0#32
  let v239 : BitVec 1 := Scalar.cmpi .sgt v17 c0_i32_119
  let v240 : BitVec 32 := Scalar.extui v239
  let c0_i32_120 : BitVec 32 := 0#32
  let v241 : BitVec 1 := Scalar.cmpi .slt v17 c0_i32_120
  let v242 : BitVec 32 := Scalar.extui v241
  let v243 : BitVec 32 := Scalar.subi v240 v242
  let c8_i32_118 : BitVec 32 := 8#32
  let c0_i32_121 : BitVec 32 := 0#32
  let v244 : BitVec 1 := Scalar.cmpi .sgt c8_i32_118 c0_i32_121
  let v245 : BitVec 32 := Scalar.extui v244
  let c0_i32_122 : BitVec 32 := 0#32
  let v246 : BitVec 1 := Scalar.cmpi .slt c8_i32_118 c0_i32_122
  let v247 : BitVec 32 := Scalar.extui v246
  let v248 : BitVec 32 := Scalar.subi v245 v247
  let v249 : BitVec 1 := Scalar.cmpi .ne v243 v248
  let v250 : BitVec 32 := Scalar.remsi v17 c8_i32_118
  let c0_i32_123 : BitVec 32 := 0#32
  let v251 : BitVec 1 := Scalar.cmpi .ne v250 c0_i32_123
  let v252 : BitVec 1 := Scalar.andi v249 v251
  let v238 : BitVec 32 := Scalar.divsi v17 c8_i32_118
  let c1_i32_124 : BitVec 32 := 1#32
  let v253 : BitVec 32 := Scalar.subi v238 c1_i32_124
  let v254 : BitVec 32 := Scalar.select v252 v253 v238
  let v266 : Index := Scalar.indexCast v254
  let c5_i32_132 : BitVec 32 := 5#32
  let v267 : Index := Scalar.indexCast c5_i32_132
  let c8_i32_125 : BitVec 32 := 8#32
  let c0_i32_126 : BitVec 32 := 0#32
  let v255 : BitVec 1 := Scalar.cmpi .eq c8_i32_125 c0_i32_126
  let c1_i32_127 : BitVec 32 := 1#32
  let v256 : BitVec 32 := Scalar.select v255 c1_i32_127 c8_i32_125
  let v257 : BitVec 32 := Scalar.remsi v17 v256
  let c0_i32_129 : BitVec 32 := 0#32
  let v259 : BitVec 1 := Scalar.cmpi .slt v257 c0_i32_129
  let c0_i32_130 : BitVec 32 := 0#32
  let v260 : BitVec 1 := Scalar.cmpi .slt v256 c0_i32_130
  let v261 : BitVec 1 := Scalar.xori v259 v260
  let c0_i32_128 : BitVec 32 := 0#32
  let v258 : BitVec 1 := Scalar.cmpi .ne v257 c0_i32_128
  let v262 : BitVec 1 := Scalar.andi v261 v258
  let v263 : BitVec 32 := Scalar.addi v257 v256
  let v264 : BitVec 32 := Scalar.select v262 v263 v257
  let c16_i32_131 : BitVec 32 := 16#32
  let v265 : BitVec 32 := Scalar.muli v264 c16_i32_131
  let v268 : Index := Scalar.indexCast v265
  ![v266.toNat, 5, v268.toNat]

def k0_chk7 (v27 : IVec S16 32) (v29 : IVec S16 32) (v270 : IVec S16 32) : Prop :=
  (∀ a x, ((![v27, v270, v29] : Fin 3 → IVec S16 32) a x).toNat < S40x8x128.size a)
theorem k0_idx7_inb : ∀ (v27 : IVec S16 32) (v29 : IVec S16 32) (v270 : IVec S16 32) (k0_hw7 : k0_chk7 v27 v29 v270), ∀ a x, ((![v27, v270, v29] : Fin 3 → IVec S16 32) a x).toNat < S40x8x128.size a := fun v27 v29 v270 k0_hw7 => k0_hw7
def k0_off9 (k0_t2 : Fin k0_t2_loop.trips) : Fin 3 → Nat :=
  let c0_i32_20 : BitVec 32 := 0#32
  let c0_i32_16 : BitVec 32 := 0#32
  let c1_i32_17 : BitVec 32 := 1#32
  let arg12 : BitVec 32 := Scf.iv c0_i32_16 c1_i32_17 k0_t2
  let c1_i32_19 : BitVec 32 := 1#32
  let v16 : BitVec 32 := Scalar.muli arg12 c1_i32_19
  let v17 : BitVec 32 := Scalar.addi c0_i32_20 v16
  let c0_i32_137 : BitVec 32 := 0#32
  let v279 : BitVec 1 := Scalar.cmpi .sgt v17 c0_i32_137
  let v280 : BitVec 32 := Scalar.extui v279
  let c0_i32_138 : BitVec 32 := 0#32
  let v281 : BitVec 1 := Scalar.cmpi .slt v17 c0_i32_138
  let v282 : BitVec 32 := Scalar.extui v281
  let v283 : BitVec 32 := Scalar.subi v280 v282
  let c8_i32_136 : BitVec 32 := 8#32
  let c0_i32_139 : BitVec 32 := 0#32
  let v284 : BitVec 1 := Scalar.cmpi .sgt c8_i32_136 c0_i32_139
  let v285 : BitVec 32 := Scalar.extui v284
  let c0_i32_140 : BitVec 32 := 0#32
  let v286 : BitVec 1 := Scalar.cmpi .slt c8_i32_136 c0_i32_140
  let v287 : BitVec 32 := Scalar.extui v286
  let v288 : BitVec 32 := Scalar.subi v285 v287
  let v289 : BitVec 1 := Scalar.cmpi .ne v283 v288
  let v290 : BitVec 32 := Scalar.remsi v17 c8_i32_136
  let c0_i32_141 : BitVec 32 := 0#32
  let v291 : BitVec 1 := Scalar.cmpi .ne v290 c0_i32_141
  let v292 : BitVec 1 := Scalar.andi v289 v291
  let v278 : BitVec 32 := Scalar.divsi v17 c8_i32_136
  let c1_i32_142 : BitVec 32 := 1#32
  let v293 : BitVec 32 := Scalar.subi v278 c1_i32_142
  let v294 : BitVec 32 := Scalar.select v292 v293 v278
  let v306 : Index := Scalar.indexCast v294
  let c6_i32_150 : BitVec 32 := 6#32
  let v307 : Index := Scalar.indexCast c6_i32_150
  let c8_i32_143 : BitVec 32 := 8#32
  let c0_i32_144 : BitVec 32 := 0#32
  let v295 : BitVec 1 := Scalar.cmpi .eq c8_i32_143 c0_i32_144
  let c1_i32_145 : BitVec 32 := 1#32
  let v296 : BitVec 32 := Scalar.select v295 c1_i32_145 c8_i32_143
  let v297 : BitVec 32 := Scalar.remsi v17 v296
  let c0_i32_147 : BitVec 32 := 0#32
  let v299 : BitVec 1 := Scalar.cmpi .slt v297 c0_i32_147
  let c0_i32_148 : BitVec 32 := 0#32
  let v300 : BitVec 1 := Scalar.cmpi .slt v296 c0_i32_148
  let v301 : BitVec 1 := Scalar.xori v299 v300
  let c0_i32_146 : BitVec 32 := 0#32
  let v298 : BitVec 1 := Scalar.cmpi .ne v297 c0_i32_146
  let v302 : BitVec 1 := Scalar.andi v301 v298
  let v303 : BitVec 32 := Scalar.addi v297 v296
  let v304 : BitVec 32 := Scalar.select v302 v303 v297
  let c16_i32_149 : BitVec 32 := 16#32
  let v305 : BitVec 32 := Scalar.muli v304 c16_i32_149
  let v308 : Index := Scalar.indexCast v305
  ![v306.toNat, 6, v308.toNat]

def k0_chk8 (v27 : IVec S16 32) (v29 : IVec S16 32) (v310 : IVec S16 32) : Prop :=
  (∀ a x, ((![v27, v310, v29] : Fin 3 → IVec S16 32) a x).toNat < S40x8x128.size a)
theorem k0_idx8_inb : ∀ (v27 : IVec S16 32) (v29 : IVec S16 32) (v310 : IVec S16 32) (k0_hw8 : k0_chk8 v27 v29 v310), ∀ a x, ((![v27, v310, v29] : Fin 3 → IVec S16 32) a x).toNat < S40x8x128.size a := fun v27 v29 v310 k0_hw8 => k0_hw8
def k0_off10 (k0_t2 : Fin k0_t2_loop.trips) : Fin 3 → Nat :=
  let c0_i32_20 : BitVec 32 := 0#32
  let c0_i32_16 : BitVec 32 := 0#32
  let c1_i32_17 : BitVec 32 := 1#32
  let arg12 : BitVec 32 := Scf.iv c0_i32_16 c1_i32_17 k0_t2
  let c1_i32_19 : BitVec 32 := 1#32
  let v16 : BitVec 32 := Scalar.muli arg12 c1_i32_19
  let v17 : BitVec 32 := Scalar.addi c0_i32_20 v16
  let c0_i32_156 : BitVec 32 := 0#32
  let v319 : BitVec 1 := Scalar.cmpi .sgt v17 c0_i32_156
  let v320 : BitVec 32 := Scalar.extui v319
  let c0_i32_157 : BitVec 32 := 0#32
  let v321 : BitVec 1 := Scalar.cmpi .slt v17 c0_i32_157
  let v322 : BitVec 32 := Scalar.extui v321
  let v323 : BitVec 32 := Scalar.subi v320 v322
  let c8_i32_155 : BitVec 32 := 8#32
  let c0_i32_158 : BitVec 32 := 0#32
  let v324 : BitVec 1 := Scalar.cmpi .sgt c8_i32_155 c0_i32_158
  let v325 : BitVec 32 := Scalar.extui v324
  let c0_i32_159 : BitVec 32 := 0#32
  let v326 : BitVec 1 := Scalar.cmpi .slt c8_i32_155 c0_i32_159
  let v327 : BitVec 32 := Scalar.extui v326
  let v328 : BitVec 32 := Scalar.subi v325 v327
  let v329 : BitVec 1 := Scalar.cmpi .ne v323 v328
  let v330 : BitVec 32 := Scalar.remsi v17 c8_i32_155
  let c0_i32_160 : BitVec 32 := 0#32
  let v331 : BitVec 1 := Scalar.cmpi .ne v330 c0_i32_160
  let v332 : BitVec 1 := Scalar.andi v329 v331
  let v318 : BitVec 32 := Scalar.divsi v17 c8_i32_155
  let c1_i32_161 : BitVec 32 := 1#32
  let v333 : BitVec 32 := Scalar.subi v318 c1_i32_161
  let v334 : BitVec 32 := Scalar.select v332 v333 v318
  let v346 : Index := Scalar.indexCast v334
  let c7_i32_169 : BitVec 32 := 7#32
  let v347 : Index := Scalar.indexCast c7_i32_169
  let c8_i32_162 : BitVec 32 := 8#32
  let c0_i32_163 : BitVec 32 := 0#32
  let v335 : BitVec 1 := Scalar.cmpi .eq c8_i32_162 c0_i32_163
  let c1_i32_164 : BitVec 32 := 1#32
  let v336 : BitVec 32 := Scalar.select v335 c1_i32_164 c8_i32_162
  let v337 : BitVec 32 := Scalar.remsi v17 v336
  let c0_i32_166 : BitVec 32 := 0#32
  let v339 : BitVec 1 := Scalar.cmpi .slt v337 c0_i32_166
  let c0_i32_167 : BitVec 32 := 0#32
  let v340 : BitVec 1 := Scalar.cmpi .slt v336 c0_i32_167
  let v341 : BitVec 1 := Scalar.xori v339 v340
  let c0_i32_165 : BitVec 32 := 0#32
  let v338 : BitVec 1 := Scalar.cmpi .ne v337 c0_i32_165
  let v342 : BitVec 1 := Scalar.andi v341 v338
  let v343 : BitVec 32 := Scalar.addi v337 v336
  let v344 : BitVec 32 := Scalar.select v342 v343 v337
  let c16_i32_168 : BitVec 32 := 16#32
  let v345 : BitVec 32 := Scalar.muli v344 c16_i32_168
  let v348 : Index := Scalar.indexCast v345
  ![v346.toNat, 7, v348.toNat]
def k0_off11 (i : grid0.Coords) (k0_t1 : Fin k0_t1_loop.trips) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32_3 : BitVec 32 := 3#32
  let v5 : BitVec 32 := Scalar.muli v1 c3_i32_3
  let c0_i32_2 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v3 : BitVec 32 := Scalar.muli arg11 c1_i32_1
  let v4 : BitVec 32 := Scalar.addi c0_i32_2 v3
  let v6 : BitVec 32 := Scalar.addi v5 v4
  let c0_i32_19_r2 : BitVec 32 := 0#32
  let c0_i32_20_r2 : BitVec 32 := 0#32
  let c0_i32_21_r2 : BitVec 32 := 0#32
  ![v6.toNat, 0, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== UnsortReferenceIdeal.lean ====
abbrev S41x96x8x128 : Shape := ⟨4, ![41, 96, 8, 128]⟩
abbrev S5120 : Shape := ⟨1, ![5120]⟩
abbrev S96x8x41x128 : Shape := ⟨4, ![96, 8, 41, 128]⟩
abbrev S96x8x5248 : Shape := ⟨3, ![96, 8, 5248]⟩
abbrev S_ : Shape := ⟨0, ![]⟩
abbrev S5120x1 : Shape := ⟨2, ![5120, 1]⟩
abbrev S96x8x5120 : Shape := ⟨3, ![96, 8, 5120]⟩
abbrev S96x8x40x128 : Shape := ⟨4, ![96, 8, 40, 128]⟩
abbrev S96x40x8x128 : Shape := ⟨4, ![96, 40, 8, 128]⟩

abbrev nBuf : Space → Nat
  | .hbm => 30
  | .vmem => 0
  | .smem => 0
  | _ => 0

abbrev bufTy : (tb : Table) → Fin (tcTables nBuf tb) → BufTy
  | .hbm, ⟨0, _⟩ => ⟨S41x96x8x128, .f32⟩
  | .hbm, ⟨1, _⟩ => ⟨S5120, .i32⟩
  | .hbm, ⟨2, _⟩ => ⟨S5120, .i32⟩
  | .hbm, ⟨3, _⟩ => ⟨S96x8x41x128, .f32⟩
  | .hbm, ⟨4, _⟩ => ⟨S96x8x5248, .f32⟩
  | .hbm, ⟨5, _⟩ => ⟨S_, .i32⟩
  | .hbm, ⟨6, _⟩ => ⟨S5120, .i32⟩
  | .hbm, ⟨7, _⟩ => ⟨S5120, .i1⟩
  | .hbm, ⟨8, _⟩ => ⟨S_, .i32⟩
  | .hbm, ⟨9, _⟩ => ⟨S5120, .i32⟩
  | .hbm, ⟨10, _⟩ => ⟨S5120, .i32⟩
  | .hbm, ⟨11, _⟩ => ⟨S5120, .i32⟩
  | .hbm, ⟨12, _⟩ => ⟨S5120x1, .i32⟩
  | .hbm, ⟨13, _⟩ => ⟨S96x8x5120, .f32⟩
  | .hbm, ⟨14, _⟩ => ⟨S_, .i32⟩
  | .hbm, ⟨15, _⟩ => ⟨S5120, .i32⟩
  | .hbm, ⟨16, _⟩ => ⟨S5120, .i1⟩
  | .hbm, ⟨17, _⟩ => ⟨S_, .f32⟩
  | .hbm, ⟨18, _⟩ => ⟨S96x8x5120, .f32⟩
  | .hbm, ⟨19, _⟩ => ⟨S96x8x5120, .f32⟩
  | .hbm, ⟨20, _⟩ => ⟨S_, .f32⟩
  | .hbm, ⟨21, _⟩ => ⟨S96x8x5120, .f32⟩
  | .hbm, ⟨22, _⟩ => ⟨S96x8x5120, .f32⟩
  | .hbm, ⟨23, _⟩ => ⟨S_, .f32⟩
  | .hbm, ⟨24, _⟩ => ⟨S_, .f32⟩
  | .hbm, ⟨25, _⟩ => ⟨S96x8x5120, .i1⟩
  | .hbm, ⟨26, _⟩ => ⟨S96x8x5120, .f32⟩
  | .hbm, ⟨27, _⟩ => ⟨S96x8x5120, .f32⟩
  | .hbm, ⟨28, _⟩ => ⟨S96x8x40x128, .f32⟩
  | .hbm, ⟨29, _⟩ => ⟨S96x40x8x128, .f32⟩
  | _, _ => ⟨S41x96x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== Sums.lean ====
abbrev S96x40x8x128 : Shape := ⟨4, ![96, 40, 8, 128]⟩
abbrev S24x40x128 : Shape := ⟨3, ![24, 40, 128]⟩
abbrev S4x40x8x128 : Shape := ⟨4, ![4, 40, 8, 128]⟩
abbrev S1x40x128 : Shape := ⟨3, ![1, 40, 128]⟩
abbrev S40x128 : Shape := ⟨2, ![40, 128]⟩

abbrev nBuf : Space → Nat
  | .hbm => 2
  | .vmem => 4
  | .smem => 0
  | _ => 0

abbrev bufTy : (tb : Table) → Fin (tcTables nBuf tb) → BufTy
  | .hbm, ⟨0, _⟩ => ⟨S96x40x8x128, .f32⟩
  | .hbm, ⟨1, _⟩ => ⟨S24x40x128, .f32⟩
  | .local _ .vmem, ⟨0, _⟩ => ⟨S4x40x8x128, .f32⟩
  | .local _ .vmem, ⟨1, _⟩ => ⟨S4x40x8x128, .f32⟩
  | .local _ .vmem, ⟨2, _⟩ => ⟨S1x40x128, .f32⟩
  | .local _ .vmem, ⟨3, _⟩ => ⟨S1x40x128, .f32⟩
  | _, _ => ⟨S96x40x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![24], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x40x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x40x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumsReferenceIdeal.lean ====
abbrev S96x40x8x128 : Shape := ⟨4, ![96, 40, 8, 128]⟩
abbrev S96x8x40x128 : Shape := ⟨4, ![96, 8, 40, 128]⟩
abbrev S24x32x40x128 : Shape := ⟨4, ![24, 32, 40, 128]⟩
abbrev S_ : Shape := ⟨0, ![]⟩
abbrev S24x40x128 : Shape := ⟨3, ![24, 40, 128]⟩

abbrev nBuf : Space → Nat
  | .hbm => 5
  | .vmem => 0
  | .smem => 0
  | _ => 0

abbrev bufTy : (tb : Table) → Fin (tcTables nBuf tb) → BufTy
  | .hbm, ⟨0, _⟩ => ⟨S96x40x8x128, .f32⟩
  | .hbm, ⟨1, _⟩ => ⟨S96x8x40x128, .f32⟩
  | .hbm, ⟨2, _⟩ => ⟨S24x32x40x128, .f32⟩
  | .hbm, ⟨3, _⟩ => ⟨S_, .f32⟩
  | .hbm, ⟨4, _⟩ => ⟨S24x40x128, .f32⟩
  | _, _ => ⟨S96x40x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Kernel.Kit.lean ====
/- What the runs of the kernel's body share: the launch kit (what the region is entered with, each window's block, the
   frame off the run's post), and the words the body reads of its table. -/
module

public import proofs.«01_k».proof.Proof.Gen.Kernel.Launch
public import proofs.«01_k».proof.Proof.Gen.Kernel.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S1040 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c))⟩) h

/-! ## The body's branch conditions -/

/-- The condition of the body's `scf.if` 0 (`k0_h1`), from the grid coordinates (the printed condition unfolded). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 208 = 0 :=
  (fun t => by
    have ht : t.val < 208 := Nat.lt_of_lt_of_eq t.isLt N_0
    have e0 : (grid0.coords t 0).val = t.val / 1 % 208 := Pipeline.Grid.coords_val t 0 (by decide) rfl
    simp only [cond0_0, e0]
    word_cmp
   : ∀ t : Fin grid0.N, cond0_0 (grid0.coords t) ↔ t.val % 208 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S768x96 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S16x24x128 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S16x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S41x768x128 .f32 := spec0_3.stage ((cfgM m hO).slots t 3)
abbrev hs0_3 (hO : Ok m) (t : Fin (cfgM m hO).N) : (ms0_3 m hO t).IsWhole := hstage0_3 (((cfgM m hO).slots t 3).cast nbuf0_3)

/-! ## The schedule -/

/-- Window 0 (operand 1 (%arg1)) is fetched at the first point only, at any contents of the tables (its index map reads none). -/
theorem fetch0_0 (a : (pcfg0 (F := F)).Adm) : ∀ t : Fin (cfg0 a).N, ((cfg0 a).win 0).fetch t = true ↔ t.val % 208 = 0 :=
  (fun t => Pipeline.Window.fetchOf_const cc0_transform_0 (fun _ _ => rfl) (n := 208) (by decide) t : ∀ t : Fin grid0.N, Pipeline.Window.fetchOf grid0 false cc0_transform_0 t = true ↔ t.val % 208 = 0)
-- window 1: no schedule fact — its index map reads a prefetched table, so where it is fetched or written back depends on the tables' contents
-- window 2: no schedule fact — its index map reads a prefetched table, so where it is fetched or written back depends on the tables' contents
/-- Window 3 (result 0 (%0)) is written back at the last point only, at any contents of the tables (its index map reads none). -/
theorem flush0_3 (a : (pcfg0 (F := F)).Adm) : ∀ t : Fin (cfg0 a).N, ((cfg0 a).win 3).flush t = true ↔ t.val % 208 = 207 :=
  (fun t => Pipeline.Window.flushOf_const cc0_transform_3 (fun _ _ => rfl) (n := 208) (by decide) rfl t : ∀ t : Fin grid0.N, Pipeline.Window.flushOf grid0 true cc0_transform_3 t = true ↔ t.val % 208 = 207)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_score_tokens (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3))

/-! ## The words the body reads of its table -/

/-- The table's word of the number of steps (entry 1024), as the body reads it. -/
abbrev wTot {c : Dev nD} (xt0 : TbBuf0 (F := F) c tbM0_0) : Elt F .i32 :=
  tbM0_0.view.readAt (Elt F) (Rect.unit (s := S1040) ![1024] S1.size inb_S1040_S1_1024).toLoadRect xt0 (Shape.Idx.first (numel1_S1.symm ▸ Nat.one_pos))
/-- The table's word of the block of group 0 of grid point `i`, as the body reads it. -/
abbrev wBlk1 {c : Dev nD} (i : grid0.Coords) (xt0 : TbBuf0 (F := F) c tbM0_0) : Elt F .i32 :=
  tbM0_0.view.readAt (Elt F) (Rect.unit (s := S1040) (k0_off1 i) S1.size (k0_off1_inb i)).toLoadRect xt0 (Shape.Idx.first (numel1_S1.symm ▸ Nat.one_pos))
/-- The table's word of the block of group 1 of grid point `i`, as the body reads it. -/
abbrev wBlk2 {c : Dev nD} (i : grid0.Coords) (xt0 : TbBuf0 (F := F) c tbM0_0) : Elt F .i32 :=
  tbM0_0.view.readAt (Elt F) (Rect.unit (s := S1040) (k0_off3 i) S1.size (k0_off3_inb i)).toLoadRect xt0 (Shape.Idx.first (numel1_S1.symm ▸ Nat.one_pos))
/-- The table's word of the block of group 2 of grid point `i`, as the body reads it. -/
abbrev wBlk3 {c : Dev nD} (i : grid0.Coords) (xt0 : TbBuf0 (F := F) c tbM0_0) : Elt F .i32 :=
  tbM0_0.view.readAt (Elt F) (Rect.unit (s := S1040) (k0_off5 i) S1.size (k0_off5_inb i)).toLoadRect xt0 (Shape.Idx.first (numel1_S1.symm ▸ Nat.one_pos))
/-- The table's word of the block of group 3 of grid point `i`, as the body reads it. -/
abbrev wBlk4 {c : Dev nD} (i : grid0.Coords) (xt0 : TbBuf0 (F := F) c tbM0_0) : Elt F .i32 :=
  tbM0_0.view.readAt (Elt F) (Rect.unit (s := S1040) (k0_off7 i) S1.size (k0_off7_inb i)).toLoadRect xt0 (Shape.Idx.first (numel1_S1.symm ▸ Nat.one_pos))

/-- The side conditions the body assumes of the blocks it reads, at every point. -/
def Hyps (m : (ℓ : Loc nD τ sig) → Buf (Elt F) ℓ) (hO : Ok m) : Prop :=
  ∀ (c : Dev nD) (t : Fin (cfgM m hO).N),
    k0_chk1 (grid0.coords t) (wTot (c := c) (tbl m 0)) (wBlk1 (c := c) (grid0.coords t) (tbl m 0))
    ∧ k0_chk2 (grid0.coords t) (wTot (c := c) (tbl m 0)) (wBlk2 (c := c) (grid0.coords t) (tbl m 0))
    ∧ k0_chk3 (grid0.coords t) (wTot (c := c) (tbl m 0)) (wBlk3 (c := c) (grid0.coords t) (tbl m 0))
    ∧ k0_chk4 (grid0.coords t) (wTot (c := c) (tbl m 0)) (wBlk4 (c := c) (grid0.coords t) (tbl m 0))

end Cert.Kernel.Hand

end
-- ==== Proof.Kernel.Out.lean ====
/- What one grid point leaves in the output block, as a function of vectors. -/
module

public import proofs.«01_k».proof.Proof.Kernel.Kit
public import Idealize.ShloMosaic.Lib.VecWindow

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)

variable {F : FTy → Type} [FloatOps F]

local notation "𝕄" => MT nD τ sig Unit (Elt F) ℕ (UR sig nD τ) ℕ

-- variable (m : (ℓ : Loc nD τ sig) → Buf (Elt F) ℓ) (ρ : Dev nD → PrngReg)

/-- What one group does to the output block `o`: at the slab the word `w` names, the payload of what was there. The
    test is the slab's lying in the array, which the body assumes of the word. -/
def step (w : BitVec 32) (o : Vec F S41x768x128 .f32) (pay : Vec F S1x768x128 .f32 → Vec F S1x768x128 .f32) : Vec F S41x768x128 .f32 :=
  if h : ∀ a, k0_off2 w a + S1x768x128.size a ≤ S41x768x128.size a then
    VecWindow.put o (k0_off2 w) S1x768x128.size (pay (VecWindow.window o (k0_off2 w) S1x768x128.size h))
  else o

/-- Group 0's payload: its four steps' greatest, joined with what was there. -/
def payG1 (x0 : Vec F S768x96 .bf16) (x1 : Vec F S16x24x128 .i32) (x2 : Vec F S16x128 .f32) (old : Vec F S1x768x128 .f32) : Vec F S1x768x128 .f32 :=
  k0_pay4 (k0_pay3 (VecWindow.window x1 ![0, 0, 0] S1x24x128.size inb_S16x24x128_S1x24x128_0_0_0) (VecWindow.window x1 ![1, 0, 0] S1x24x128.size inb_S16x24x128_S1x24x128_1_0_0) (VecWindow.window x1 ![2, 0, 0] S1x24x128.size inb_S16x24x128_S1x24x128_2_0_0) (VecWindow.window x1 ![3, 0, 0] S1x24x128.size inb_S16x24x128_S1x24x128_3_0_0) (VecWindow.window x0 ![0, 0] S768x96.size inb_S768x96_S768x96_0_0) (VecWindow.window x2 ![0, 0] S1x128.size inb_S16x128_S1x128_0_0) (VecWindow.window x2 ![1, 0] S1x128.size inb_S16x128_S1x128_1_0) (VecWindow.window x2 ![2, 0] S1x128.size inb_S16x128_S1x128_2_0) (VecWindow.window x2 ![3, 0] S1x128.size inb_S16x128_S1x128_3_0)) old
/-- Group 1's payload. -/
def payG2 (x0 : Vec F S768x96 .bf16) (x1 : Vec F S16x24x128 .i32) (x2 : Vec F S16x128 .f32) (old : Vec F S1x768x128 .f32) : Vec F S1x768x128 .f32 :=
  k0_pay7 (k0_pay5 (VecWindow.window x1 ![4, 0, 0] S1x24x128.size inb_S16x24x128_S1x24x128_4_0_0) (VecWindow.window x1 ![5, 0, 0] S1x24x128.size inb_S16x24x128_S1x24x128_5_0_0) (VecWindow.window x1 ![6, 0, 0] S1x24x128.size inb_S16x24x128_S1x24x128_6_0_0) (VecWindow.window x1 ![7, 0, 0] S1x24x128.size inb_S16x24x128_S1x24x128_7_0_0) (VecWindow.window x0 ![0, 0] S768x96.size inb_S768x96_S768x96_0_0)) (k0_pay6 (VecWindow.window x1 ![4, 0, 0] S1x24x128.size inb_S16x24x128_S1x24x128_4_0_0) (VecWindow.window x1 ![5, 0, 0] S1x24x128.size inb_S16x24x128_S1x24x128_5_0_0) (VecWindow.window x1 ![6, 0, 0] S1x24x128.size inb_S16x24x128_S1x24x128_6_0_0) (VecWindow.window x1 ![7, 0, 0] S1x24x128.size inb_S16x24x128_S1x24x128_7_0_0) (VecWindow.window x0 ![0, 0] S768x96.size inb_S768x96_S768x96_0_0) (VecWindow.window x2 ![4, 0] S1x128.size inb_S16x128_S1x128_4_0) (VecWindow.window x2 ![5, 0] S1x128.size inb_S16x128_S1x128_5_0)) (VecWindow.window x2 ![6, 0] S1x128.size inb_S16x128_S1x128_6_0) (VecWindow.window x2 ![7, 0] S1x128.size inb_S16x128_S1x128_7_0) old
/-- Group 2's payload. -/
def payG3 (x0 : Vec F S768x96 .bf16) (x1 : Vec F S16x24x128 .i32) (x2 : Vec F S16x128 .f32) (old : Vec F S1x768x128 .f32) : Vec F S1x768x128 .f32 :=
  k0_pay12 (k0_pay8 (VecWindow.window x1 ![8, 0, 0] S1x24x128.size inb_S16x24x128_S1x24x128_8_0_0)) (k0_pay9 (VecWindow.window x1 ![9, 0, 0] S1x24x128.size inb_S16x24x128_S1x24x128_9_0_0)) (k0_pay10 (VecWindow.window x1 ![10, 0, 0] S1x24x128.size inb_S16x24x128_S1x24x128_10_0_0)) (k0_pay11 (VecWindow.window x1 ![11, 0, 0] S1x24x128.size inb_S16x24x128_S1x24x128_11_0_0)) (VecWindow.window x0 ![0, 0] S768x96.size inb_S768x96_S768x96_0_0) (VecWindow.window x2 ![8, 0] S1x128.size inb_S16x128_S1x128_8_0) (VecWindow.window x2 ![9, 0] S1x128.size inb_S16x128_S1x128_9_0) (VecWindow.window x2 ![10, 0] S1x128.size inb_S16x128_S1x128_10_0) (VecWindow.window x2 ![11, 0] S1x128.size inb_S16x128_S1x128_11_0) old
/-- Group 3's payload. -/
def payG4 (x0 : Vec F S768x96 .bf16) (x1 : Vec F S16x24x128 .i32) (x2 : Vec F S16x128 .f32) (old : Vec F S1x768x128 .f32) : Vec F S1x768x128 .f32 :=
  k0_pay2 (k0_pay14 (k0_pay13 (VecWindow.window x1 ![12, 0, 0] S1x24x128.size inb_S16x24x128_S1x24x128_12_0_0)) (VecWindow.window x1 ![13, 0, 0] S1x24x128.size inb_S16x24x128_S1x24x128_13_0_0) (VecWindow.window x1 ![14, 0, 0] S1x24x128.size inb_S16x24x128_S1x24x128_14_0_0) (VecWindow.window x1 ![15, 0, 0] S1x24x128.size inb_S16x24x128_S1x24x128_15_0_0) (VecWindow.window x0 ![0, 0] S768x96.size inb_S768x96_S768x96_0_0) (VecWindow.window x2 ![12, 0] S1x128.size inb_S16x128_S1x128_12_0) (VecWindow.window x2 ![13, 0] S1x128.size inb_S16x128_S1x128_13_0) (VecWindow.window x2 ![14, 0] S1x128.size inb_S16x128_S1x128_14_0) (VecWindow.window x2 ![15, 0] S1x128.size inb_S16x128_S1x128_15_0)) (k0_pay15 old)

/-- What a processed grid point leaves in the output block, from the queries, the point's words and scales, the four
    groups' words of the table, and what the point found there. -/
def outB (x0 : Vec F S768x96 .bf16) (x1 : Vec F S16x24x128 .i32) (x2 : Vec F S16x128 .f32) (w1 w2 w3 w4 : BitVec 32) (x3 : Vec F S41x768x128 .f32) : Vec F S41x768x128 .f32 :=
  step w4 (step w3 (step w2 (step w1 x3 (payG1 x0 x1 x2)) (payG2 x0 x1 x2)) (payG3 x0 x1 x2)) (payG4 x0 x1 x2)

theorem step_of (w : BitVec 32) (o : Vec F S41x768x128 .f32) (pay : Vec F S1x768x128 .f32 → Vec F S1x768x128 .f32)
    (h : ∀ a, k0_off2 w a + S1x768x128.size a ≤ S41x768x128.size a) :
    step w o pay = VecWindow.put o (k0_off2 w) S1x768x128.size (pay (VecWindow.window o (k0_off2 w) S1x768x128.size h)) := dif_pos h

/-- A read after a store at a unit-stride rectangle puts the payload over what was read. -/
theorem read_cons {κ : Kind} {sp : Space} {s : Shape} {e : EltTy} {off size : Fin s.rank → ℕ} (v : View sig κ sp s e) (f : v.ty.Contents (Elt F))
    (inb : ∀ a, off a + size a ≤ s.size a) (w : (Rect.unit off size inb).shape.Idx → Elt F e) (L : List (View.Piece (Elt F) s e)) :
    v.read (Elt F) (v.writes (Elt F) f (⟨Rect.unit off size inb, w⟩ :: L)) = VecWindow.put (v.read (Elt F) (v.writes (Elt F) f L)) off size w :=
  View.read_writes_cons_put v f inb w L rfl
/-- A load at a unit-stride rectangle is a window of what the view reads. -/
theorem readAt_win {κ : Kind} {sp : Space} {s : Shape} {e : EltTy} {off size : Fin s.rank → ℕ} (v : View sig κ sp s e) (f : v.ty.Contents (Elt F))
    (inb : ∀ a, off a + size a ≤ s.size a) :
    v.readAt (Elt F) (Rect.unit off size inb).toLoadRect f = VecWindow.window (v.read (Elt F) f) off size inb := rfl

/-- A load of a whole memref that holds `x` is a window of `x`. -/
theorem readAt_unread {κ : Kind} {sp : Space} {s : Shape} {e : EltTy} {off size : Fin s.rank → ℕ} {M : Memref sig κ sp s e} (hM : M.IsWhole) (x : s.Idx → Elt F e)
    (inb : ∀ a, off a + size a ≤ s.size a) :
    M.view.readAt (Elt F) (Rect.unit off size inb).toLoadRect (hM.unread x) = VecWindow.window x off size inb := by
  rw [readAt_win, hM.read_unread]

theorem off4_eq (w : BitVec 32) : k0_off4 w = k0_off2 w := rfl
theorem off6_eq (w : BitVec 32) : k0_off6 w = k0_off2 w := rfl
theorem off8_eq (w : BitVec 32) : k0_off8 w = k0_off2 w := rfl

/-- A slab's read, joined and stored back, after the stores of `L`: one `step` on what is read after `L`. -/
theorem read_step {κ : Kind} {sp : Space} (v : View sig κ sp S41x768x128 .f32) (f : v.ty.Contents (Elt F)) (w : BitVec 32) {off : Fin 3 → ℕ} (hw : off = k0_off2 w)
    (h : ∀ a, off a + S1x768x128.size a ≤ S41x768x128.size a) (pay : Vec F S1x768x128 .f32 → Vec F S1x768x128 .f32) (L : List (View.Piece (Elt F) S41x768x128 .f32))
    (o : Vec F S41x768x128 .f32) (p : Vec F S1x768x128 .f32)
    (hp : p = pay (v.readAt (Elt F) (Rect.unit (s := S41x768x128) off S1x768x128.size h).toLoadRect (v.writes (Elt F) f L)))
    (ho : v.read (Elt F) (v.writes (Elt F) f L) = o) :
    v.read (Elt F) (v.writes (Elt F) f (⟨Rect.unit (s := S41x768x128) off S1x768x128.size h, p⟩ :: L)) = step w o pay := by
  subst ho; subst hw; subst hp
  rw [step_of w _ pay h, read_cons, readAt_win]

end Cert.Kernel.Hand

end
-- ==== Proof.Kernel.RunA.lean ====
/- The body's run at the first point. -/
module

public import proofs.«01_k».proof.Proof.Kernel.Out

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)

variable {F : FTy → Type} [FloatOps F]

local notation "𝕄" => MT nD τ sig Unit (Elt F) ℕ (UR sig nD τ) ℕ

-- variable (m : (ℓ : Loc nD τ sig) → Buf (Elt F) ℓ) (ρ : Dev nD → PrngReg)

attribute [local irreducible] k0_pay1 k0_pay2 k0_pay3 k0_pay4 k0_pay5 k0_pay6 k0_pay7 k0_pay8 k0_pay9 k0_pay10 k0_pay11 k0_pay12 k0_pay13 k0_pay14 k0_pay15

set_option maxHeartbeats 400000 in
/-- The first point, processed: the output block is filled, then goes from the fill to `outB … fill`. -/
theorem kernelRun0_A (c : Dev nD) (i : grid0.Coords) (arg2 : Memref sig .tc .vmem S768x96 .bf16) (harg2 : arg2.IsWhole) (arg3 : Memref sig .tc .vmem S16x24x128 .i32) (harg3 : arg3.IsWhole) (arg4 : Memref sig .tc .vmem S16x128 .f32) (harg4 : arg4.IsWhole) (arg5 : Memref sig .tc .vmem S41x768x128 .f32) (harg5 : arg5.IsWhole) (hc0 : k0_cond1 i = 1#1)
    (x0 : Vec F S768x96 .bf16) (x1 : Vec F S16x24x128 .i32) (x2 : Vec F S16x128 .f32) (xt0 : TbBuf0 (F := F) c tbM0_0) (hc2 : k0_cond2 i (wTot xt0) = 1#1)
    (k0_hw1 : k0_chk1 i (wTot xt0) (wBlk1 i xt0)) (k0_hw2 : k0_chk2 i (wTot xt0) (wBlk2 i xt0)) (k0_hw3 : k0_chk3 i (wTot xt0) (wBlk3 i xt0)) (k0_hw4 : k0_chk4 i (wTot xt0) (wBlk4 i xt0)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare (outB x0 x1 x2 (wBlk1 i xt0) (wBlk2 i xt0) (wBlk3 i xt0) (wBlk4 i xt0) (k0_pay1 (F := F))) ∗ tbPt0 c tbM0_0 xt0) -∗ K ⟨⟩))
          ⊢ wp frame (wpE (defs₀ (F := F)) Variants.none c none) E (cc0_score_tokens i tbM0_0 htbM0_0 arg2 harg2 arg3 harg3 arg4 harg4 arg5 harg5) K := by
    intro E K
    simp only [cc0_score_tokens_eq_skeleton]; unfold cc0_score_tokens_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%d3, %f3, -, H3⟩, HT0, Hk⟩
    obtain rfl := harg2.eq_unread hf0; obtain rfl := harg3.eq_unread hf1; obtain rfl := harg4.eq_unread hf2
    sl_exec (disch := first | sl_exact hc0 | sl_exact hc2 | sl_exact k0_hw1 | sl_exact k0_hw2 | sl_exact k0_hw3 | sl_exact k0_hw4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      unfold outB
      refine read_step arg5.view _ (wBlk4 i xt0) (off8_eq _) _ (payG4 x0 x1 x2) _ _ _ ?_ ?_
      · unfold payG4; dsimp only [kernelRun0_A.sl.v93, kernelRun0_A.sl.v139, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14]; simp only [readAt_unread]; try rfl
      unfold kernelRun0_A.sl.H3_4
      refine read_step arg5.view _ (wBlk3 i xt0) (off6_eq _) _ (payG3 x0 x1 x2) _ _ _ ?_ ?_
      · unfold payG3; dsimp only [kernelRun0_A.sl.v93, kernelRun0_A.sl.v139, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14]; simp only [readAt_unread]; try rfl
      unfold kernelRun0_A.sl.H3_3
      refine read_step arg5.view _ (wBlk2 i xt0) (off4_eq _) _ (payG2 x0 x1 x2) _ _ _ ?_ ?_
      · unfold payG2; dsimp only [kernelRun0_A.sl.v93, kernelRun0_A.sl.v139, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14]; simp only [readAt_unread]; try rfl
      unfold kernelRun0_A.sl.H3_2
      refine read_step arg5.view _ (wBlk1 i xt0) (rfl) _ (payG1 x0 x1 x2) _ _ _ ?_ ?_
      · unfold payG1; dsimp only [kernelRun0_A.sl.v93, kernelRun0_A.sl.v139, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14]; simp only [readAt_unread]; try rfl
      exact (View.read_writes_full _ _ _ _ _)
    iexact HT0

end Cert.Kernel.Hand

end
-- ==== Proof.Kernel.RunB.lean ====
/- The body's run at a processed point after the first. -/
module

public import proofs.«01_k».proof.Proof.Kernel.Out

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)

variable {F : FTy → Type} [FloatOps F]

local notation "𝕄" => MT nD τ sig Unit (Elt F) ℕ (UR sig nD τ) ℕ

-- variable (m : (ℓ : Loc nD τ sig) → Buf (Elt F) ℓ) (ρ : Dev nD → PrngReg)

attribute [local irreducible] k0_pay1 k0_pay2 k0_pay3 k0_pay4 k0_pay5 k0_pay6 k0_pay7 k0_pay8 k0_pay9 k0_pay10 k0_pay11 k0_pay12 k0_pay13 k0_pay14 k0_pay15

set_option maxHeartbeats 400000 in
/-- A processed point after the first: the output block goes from `x3` to `outB … x3`. -/
theorem kernelRun0_B (c : Dev nD) (i : grid0.Coords) (arg2 : Memref sig .tc .vmem S768x96 .bf16) (harg2 : arg2.IsWhole) (arg3 : Memref sig .tc .vmem S16x24x128 .i32) (harg3 : arg3.IsWhole) (arg4 : Memref sig .tc .vmem S16x128 .f32) (harg4 : arg4.IsWhole) (arg5 : Memref sig .tc .vmem S41x768x128 .f32) (harg5 : arg5.IsWhole) (hc0 : ¬k0_cond1 i = 1#1)
    (x0 : Vec F S768x96 .bf16) (x1 : Vec F S16x24x128 .i32) (x2 : Vec F S16x128 .f32) (x3 : Vec F S41x768x128 .f32) (xt0 : TbBuf0 (F := F) c tbM0_0) (hc2 : k0_cond2 i (wTot xt0) = 1#1)
    (k0_hw1 : k0_chk1 i (wTot xt0) (wBlk1 i xt0)) (k0_hw2 : k0_chk2 i (wTot xt0) (wBlk2 i xt0)) (k0_hw3 : k0_chk3 i (wTot xt0) (wBlk3 i xt0)) (k0_hw4 : k0_chk4 i (wTot xt0) (wBlk4 i xt0)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare (outB x0 x1 x2 (wBlk1 i xt0) (wBlk2 i xt0) (wBlk3 i xt0) (wBlk4 i xt0) x3) ∗ tbPt0 c tbM0_0 xt0) -∗ K ⟨⟩))
          ⊢ wp frame (wpE (defs₀ (F := F)) Variants.none c none) E (cc0_score_tokens i tbM0_0 htbM0_0 arg2 harg2 arg3 harg3 arg4 harg4 arg5 harg5) K := by
    intro E K
    simp only [cc0_score_tokens_eq_skeleton]; unfold cc0_score_tokens_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, HT0, Hk⟩
    obtain rfl := harg2.eq_unread hf0; obtain rfl := harg3.eq_unread hf1; obtain rfl := harg4.eq_unread hf2
    sl_exec (disch := first | sl_exact hc0 | sl_exact hc2 | sl_exact k0_hw1 | sl_exact k0_hw2 | sl_exact k0_hw3 | sl_exact k0_hw4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      unfold outB
      refine read_step arg5.view _ (wBlk4 i xt0) (off8_eq _) _ (payG4 x0 x1 x2) _ _ _ ?_ ?_
      · unfold payG4; dsimp only [kernelRun0_B.sl.v93, kernelRun0_B.sl.v139, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14]; simp only [readAt_unread]; try rfl
      unfold kernelRun0_B.sl.H3_3
      refine read_step arg5.view _ (wBlk3 i xt0) (off6_eq _) _ (payG3 x0 x1 x2) _ _ _ ?_ ?_
      · unfold payG3; dsimp only [kernelRun0_B.sl.v93, kernelRun0_B.sl.v139, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14]; simp only [readAt_unread]; try rfl
      unfold kernelRun0_B.sl.H3_2
      refine read_step arg5.view _ (wBlk2 i xt0) (off4_eq _) _ (payG2 x0 x1 x2) _ _ _ ?_ ?_
      · unfold payG2; dsimp only [kernelRun0_B.sl.v93, kernelRun0_B.sl.v139, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14]; simp only [readAt_unread]; try rfl
      unfold kernelRun0_B.sl.H3_1
      refine read_step arg5.view _ (wBlk1 i xt0) (rfl) _ (payG1 x0 x1 x2) _ _ _ ?_ ?_
      · unfold payG1; dsimp only [kernelRun0_B.sl.v93, kernelRun0_B.sl.v139, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14]; simp only [readAt_unread]; try rfl
      exact hf3
    iexact HT0

end Cert.Kernel.Hand

end
-- ==== Proof.Kernel.RunC.lean ====
/- The body's run at a point past the steps in use. -/
module

public import proofs.«01_k».proof.Proof.Kernel.Out

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)

variable {F : FTy → Type} [FloatOps F]

local notation "𝕄" => MT nD τ sig Unit (Elt F) ℕ (UR sig nD τ) ℕ

-- variable (m : (ℓ : Loc nD τ sig) → Buf (Elt F) ℓ) (ρ : Dev nD → PrngReg)

attribute [local irreducible] k0_pay1 k0_pay2 k0_pay3 k0_pay4 k0_pay5 k0_pay6 k0_pay7 k0_pay8 k0_pay9 k0_pay10 k0_pay11 k0_pay12 k0_pay13 k0_pay14 k0_pay15

set_option maxHeartbeats 400000 in
/-- A point past the steps in use: the output block is left as it was. -/
theorem kernelRun0_C (c : Dev nD) (i : grid0.Coords) (arg2 : Memref sig .tc .vmem S768x96 .bf16) (harg2 : arg2.IsWhole) (arg3 : Memref sig .tc .vmem S16x24x128 .i32) (harg3 : arg3.IsWhole) (arg4 : Memref sig .tc .vmem S16x128 .f32) (harg4 : arg4.IsWhole) (arg5 : Memref sig .tc .vmem S41x768x128 .f32) (harg5 : arg5.IsWhole) (hc0 : ¬k0_cond1 i = 1#1)
    (x0 : Vec F S768x96 .bf16) (x1 : Vec F S16x24x128 .i32) (x2 : Vec F S16x128 .f32) (x3 : Vec F S41x768x128 .f32) (xt0 : TbBuf0 (F := F) c tbM0_0) (hc2 : ¬k0_cond2 i (wTot xt0) = 1#1) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare (x3) ∗ tbPt0 c tbM0_0 xt0) -∗ K ⟨⟩))
          ⊢ wp frame (wpE (defs₀ (F := F)) Variants.none c none) E (cc0_score_tokens i tbM0_0 htbM0_0 arg2 harg2 arg3 harg3 arg4 harg4 arg5 harg5) K := by
    intro E K
    simp only [cc0_score_tokens_eq_skeleton]; unfold cc0_score_tokens_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, HT0, Hk⟩
    obtain rfl := harg2.eq_unread hf0; obtain rfl := harg3.eq_unread hf1; obtain rfl := harg4.eq_unread hf2
    sl_exec (disch := first | sl_exact hc0 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      exact hf3
    iexact HT0

end Cert.Kernel.Hand

end
-- ==== Proof.Kernel.Frame.lean ====
/- The frame of the kernel with its output named: what the output block holds after every grid point, the proof data, the body's
   obligation at every point, the run, and the frame. -/
module

public import proofs.«01_k».proof.Proof.Kernel.RunA
public import proofs.«01_k».proof.Proof.Kernel.RunB
public import proofs.«01_k».proof.Proof.Kernel.RunC
public import Idealize.ShloMosaic.Lib.Pipeline.Value

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the output block holds after each point -/

/-- The condition that a point is processed: its first step is among the steps in use. -/
abbrev proc (c : Dev nD) (t : Fin grid0.N) : Prop := k0_cond2 (grid0.coords t) (wTot (c := c) (tbl m 0)) = 1#1

/-- What a processed point `t` makes of contents `o` of the output block. -/
def outAt (hO : Ok m) (c : Dev nD) (t : Fin (cfgM m hO).N) (o : Vec F S41x768x128 .f32) : Vec F S41x768x128 .f32 :=
  outB (iblk m hO c 0 t) (iblk m hO c 1 t) (iblk m hO c 2 t) (wBlk1 (c := c) (grid0.coords t) (tbl m 0)) (wBlk2 (c := c) (grid0.coords t) (tbl m 0))
    (wBlk3 (c := c) (grid0.coords t) (tbl m 0)) (wBlk4 (c := c) (grid0.coords t) (tbl m 0)) o

/-- What the output block holds after point `n`: filled and processed at the first point, then processed or left. -/
def acc (hO : Ok m) (c : Dev nD) : ℕ → Vec F S41x768x128 .f32
  | 0 => outAt m hO c ⟨0, by rw [show (cfgM m hO).N = 208 from N_0]; omega⟩ (k0_pay1 (F := F))
  | n + 1 => if h : n + 1 < (cfgM m hO).N then
      (if proc m c ⟨n + 1, h⟩ then outAt m hO c ⟨n + 1, h⟩ (acc hO c n) else acc hO c n)
    else acc hO c n

theorem acc_zero (hO : Ok m) (c : Dev nD) (t : Fin (cfgM m hO).N) (h0 : t.val = 0) :
    acc m hO c t.val = outAt m hO c t (k0_pay1 (F := F)) := by
  obtain ⟨n, hn⟩ := t
  subst h0
  rfl

theorem acc_proc (hO : Ok m) (c : Dev nD) (t : Fin (cfgM m hO).N) (h0 : t.val ≠ 0) (hp : proc m c t) :
    acc m hO c t.val = outAt m hO c t (acc m hO c (t.val - 1)) := by
  obtain ⟨n, hn⟩ := t
  cases n with
  | zero => exact absurd rfl h0
  | succ k =>
    show (if h : k + 1 < (cfgM m hO).N then _ else _) = _
    rw [dif_pos hn, if_pos hp]; rfl

theorem acc_idle (hO : Ok m) (c : Dev nD) (t : Fin (cfgM m hO).N) (h0 : t.val ≠ 0) (hp : ¬ proc m c t) :
    acc m hO c t.val = acc m hO c (t.val - 1) := by
  obtain ⟨n, hn⟩ := t
  cases n with
  | zero => exact absurd rfl h0
  | succ k =>
    show (if h : k + 1 < (cfgM m hO).N then _ else _) = _
    rw [dif_pos hn, if_neg hp]; rfl

/-! ## The pipeline's proof data -/

/-- The proof data of the one pipeline on core `c`: after the body at point `t` each input's buffer at its block and the
    output at `acc`; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => acc m hO c t.val
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = acc m hO c t.val := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## Where the output is idle -/

theorem wTot_eq (c : Dev nD) : wTot (F := F) (c := c) (tbl m 0) = (tbl m : pre0.Contents (Elt F)).atD 0 ![1024] := by
  unfold wTot Pipeline.Prefetch.Contents.atD
  have hin : ∀ a : Fin 1, (![1024] : Fin 1 → Nat) a + 1 ≤ S1040.size a := by decide
  refine Eq.trans ?_ (dif_pos hin).symm
  show tbl m 0 _ = tbl m 0 _
  congr 1

/-- The output is idle at the points that neither fill nor process it. -/
theorem idle0_3 (hO : Ok m) (c : Dev nD) (t : Fin (cfgM m hO).N) :
    (cfgM m hO).idle 3 ((cfgM m hO).grid.coords t) = (!(k0_cond1 (grid0.coords t) == 1#1) && !(k0_cond2 (grid0.coords t) (wTot (c := c) (tbl m 0)) == 1#1)) := by
  rw [wTot_eq m c]; rfl

theorem cond1_iff (hO : Ok m) (t : Fin (cfgM m hO).N) : k0_cond1 (grid0.coords t) = 1#1 ↔ t.val = 0 := by
  have hN : t.val < 208 := lt_of_lt_of_eq t.isLt (show (cfgM m hO).N = 208 from N_0)
  have h := hcond0_0 t
  rw [Nat.mod_eq_of_lt hN] at h
  exact h

theorem flush_false (hO : Ok m) (t : Fin (cfgM m hO).N) (h : t.val ≠ 207) : ((cfgM m hO).win 3).flush t = false := by
  have hN : t.val < 208 := lt_of_lt_of_eq t.isLt (show (cfgM m hO).N = 208 from N_0)
  have := flush0_3 (adm m hO) t
  rw [Nat.mod_eq_of_lt hN] at this
  exact Bool.eq_false_iff.mpr fun e => h (this.mp e)

/-- After the first point the output's buffer holds what the body left in it: it is never fresh again. -/
theorem fresh_false (hO : Ok m) (c : Dev nD) : ∀ n, n ≠ 0 → n < 208 → (cfgM m hO).fresh 3 n = false
  | 0, h, _ => absurd rfl h
  | n + 1, _, hn => by
    have hN : n < (cfgM m hO).N := by rw [show (cfgM m hO).N = 208 from N_0]; omega
    rw [Pipeline.Cfg.fresh_succ _ _ n hN, flush_false m hO ⟨n, hN⟩ (by simp only; omega), Bool.false_or]
    rcases Nat.eq_zero_or_pos n with rfl | hp
    · rw [idle0_3 m hO c, (cond1_iff m hO ⟨0, hN⟩).mpr rfl]; rfl
    · rw [fresh_false hO c n (by omega) (by omega), Bool.and_false]

theorem before0_3 (hO : Ok m) (c : Dev nD) (t : Fin (cfgM m hO).N) (h0 : t.val ≠ 0) (d) :
    (dats m hO 0 c).before 3 t d = acc m hO c (t.val - 1) := by
  have hN : t.val < 208 := lt_of_lt_of_eq t.isLt (show (cfgM m hO).N = 208 from N_0)
  rw [(dats m hO 0 c).before_out_traj 3 rfl (fun _ _ => rfl) (fun u hu hi _ => ?_) t.val t rfl d, fresh_false m hO c t.val h0 hN, if_neg Bool.false_ne_true, after0_3]
  rw [after0_3, after0_3]
  refine acc_idle m hO c u hu fun hp => ?_
  rw [idle0_3 m hO c, show k0_cond2 (grid0.coords u) (wTot (c := c) (tbl m 0)) = 1#1 from hp, beq_self_eq_true, Bool.not_true, Bool.and_false] at hi
  exact Bool.false_ne_true hi

/-! ## The body obligation, at a generic point -/

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- the output's buffer as the body hands it back, -/
def post3 (hO : Ok m) (c : Dev nD) (t : Fin (cfgM m hO).N) : sProp 𝕄 :=
  match (cfgM m hO).idle 3 ((cfgM m hO).grid.coords t) with
  | true => match ((cfgM m hO).win 3).flush t with
    | false => iprop(∃ d, owns (c : Thread nD τ) (ms0_3 m hO t) fullShare ((dats m hO 0 c).before 3 t d))
    | true => owns (c : Thread nD τ) (ms0_3 m hO t) fullShare ((dats m hO 0 c).after 3 t)
  | false => owns (c : Thread nD τ) (ms0_3 m hO t) fullShare ((dats m hO 0 c).after 3 t)

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ post3 m hO c t)

/-- A buffer held at contents that are what some `e` gives is held at what `e` gives. -/
theorem owns_ex {sp : Space} {S : Shape} {e : EltTy} {α : Type} {c : Thread nD τ} {M : Memref sig c.2.kind sp S e} {q : PosShare TreeShare} (f : α → S.Idx → Elt F e) (X : S.Idx → Elt F e) (e0 : α) (h : f e0 = X) :
    (owns c M q X : sProp 𝕄) ⊢ iprop(∃ d, owns c M q (f d)) := by
  subst h
  iintro H
  iexists e0
  iexact H

/-- Whatever the point, a buffer holding `acc` at the point is what the body hands back. -/
theorem post3_of (hO : Ok m) (c : Dev nD) (t : Fin (cfgM m hO).N) (d : Vec F S41x768x128 .f32) (hd : d = acc m hO c t.val)
    (hb : (cfgM m hO).idle 3 ((cfgM m hO).grid.coords t) = true → ∀ e, (dats m hO 0 c).before 3 t e = acc m hO c t.val) :
    owns (c : Thread nD τ) (ms0_3 m hO t) fullShare d ⊢ post3 m hO c t := by
  subst hd
  unfold post3
  cases hi : (cfgM m hO).idle 3 ((cfgM m hO).grid.coords t)
  · dsimp only; rw [after0_3]
  · cases hf : ((cfgM m hO).win 3).flush t
    · dsimp only
      exact owns_ex (fun e => (dats m hO 0 c).before 3 t e) _ (acc m hO c t.val : Vec F S41x768x128 .f32) (hb hi _)
    · dsimp only; rw [after0_3]

set_option maxHeartbeats 800000 in
/-- The body at any point. -/
theorem sound_body (hO : Ok m) (hH : Hyps m hO) (h1 : ∀ c, proc m c ⟨0, by rw [N_0]; omega⟩) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq]
  have hid : (cfgM m hO).idle 3 ((cfgM m hO).grid.coords t) = true → t.val ≠ 0 ∧ ¬ proc m c t := fun hi => by
    rw [idle0_3 m hO c] at hi
    simp only [Bool.and_eq_true, Bool.not_eq_true', beq_eq_false_iff_ne] at hi
    exact ⟨fun h => hi.1 ((cond1_iff m hO t).mpr h), hi.2⟩
  have hb : (cfgM m hO).idle 3 ((cfgM m hO).grid.coords t) = true → ∀ e, (dats m hO 0 c).before 3 t e = acc m hO c t.val := fun hi e => by
    rw [before0_3 m hO c t (hid hi).1, acc_idle m hO c t (hid hi).1 (hid hi).2]
  by_cases h0 : t.val = 0
  · have hp : proc m c t := by
      have e : t = ⟨0, by rw [show (cfgM m hO).N = 208 from N_0]; omega⟩ := Fin.ext h0
      rw [e]; exact h1 c
    have ea : outAt m hO c t (k0_pay1 (F := F)) = acc m hO c t.val := (acc_zero m hO c t h0).symm
    iintro ⟨⟨HΦ, HT0⟩, Ho, ⟨%d0, H0⟩, ⟨%d1, H1⟩, ⟨%d2, H2⟩, ⟨%d3, H3⟩⟩
    iapply (kernelRun0_A c (grid0.coords t) _ _ _ _ _ _ _ _ ((cond1_iff m hO t).mpr h0) (iblk m hO c 0 t) (iblk m hO c 1 t) (iblk m hO c 2 t) (tbl m 0) hp (hH c t).1 (hH c t).2.1 (hH c t).2.2.1 (hH c t).2.2.2 Set.univ _)
    isplitl [H0]; · iexact H0
    isplitl [H1]; · iexact H1
    isplitl [H2]; · iexact H2
    isplitl [H3]; · iexists _; iexact H3
    isplitl [HT0]; · iexact HT0
    iintro ⟨H0, H1, H2, H3, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    iapply (post3_of m hO c t _ (ea) hb)
    iexact H3
  · by_cases hp : proc m c t
    · simp only [before0_3 m hO c t h0]
      iintro ⟨⟨HΦ, HT0⟩, Ho, ⟨%d0, H0⟩, ⟨%d1, H1⟩, ⟨%d2, H2⟩, ⟨%d3, H3⟩⟩
      iapply (kernelRun0_B c (grid0.coords t) _ _ _ _ _ _ _ _ (fun h => h0 ((cond1_iff m hO t).mp h)) (iblk m hO c 0 t) (iblk m hO c 1 t) (iblk m hO c 2 t) (acc m hO c (t.val - 1)) (tbl m 0) hp (hH c t).1 (hH c t).2.1 (hH c t).2.2.1 (hH c t).2.2.2 Set.univ _)
      isplitl [H0]; · iexact H0
      isplitl [H1]; · iexact H1
      isplitl [H2]; · iexact H2
      isplitl [H3]; · iexact H3
      isplitl [HT0]; · iexact HT0
      iintro ⟨H0, H1, H2, H3, HT0⟩
      isplitl [HΦ HT0]
      · isplitl [HΦ]
        · iexact HΦ
        iexact HT0
      isplitl [Ho]; · iexact Ho
      isplitl [H0]; · iexact H0
      isplitl [H1]; · iexact H1
      isplitl [H2]; · iexact H2
      iapply (post3_of m hO c t _ ((acc_proc m hO c t h0 hp).symm) hb)
      iexact H3
    · simp only [before0_3 m hO c t h0]
      iintro ⟨⟨HΦ, HT0⟩, Ho, ⟨%d0, H0⟩, ⟨%d1, H1⟩, ⟨%d2, H2⟩, ⟨%d3, H3⟩⟩
      iapply (kernelRun0_C c (grid0.coords t) _ _ _ _ _ _ _ _ (fun h => h0 ((cond1_iff m hO t).mp h)) (iblk m hO c 0 t) (iblk m hO c 1 t) (iblk m hO c 2 t) (acc m hO c (t.val - 1)) (tbl m 0) hp Set.univ _)
      isplitl [H0]; · iexact H0
      isplitl [H1]; · iexact H1
      isplitl [H2]; · iexact H2
      isplitl [H3]; · iexact H3
      isplitl [HT0]; · iexact HT0
      iintro ⟨H0, H1, H2, H3, HT0⟩
      isplitl [HΦ HT0]
      · isplitl [HΦ]
        · iexact HΦ
        iexact HT0
      isplitl [Ho]; · iexact Ho
      isplitl [H0]; · iexact H0
      isplitl [H1]; · iexact H1
      isplitl [H2]; · iexact H2
      iapply (post3_of m hO c t _ ((acc_idle m hO c t h0 hp).symm) hb)
      iexact H3

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligation (hO : Ok m) (hH : Hyps m hO) (h1 : ∀ c, proc m c ⟨0, by rw [N_0]; omega⟩) (c : Dev nD) :
    BodyObligation (dats (F := F) m hO 0 c) (defs₀ (F := F)) Variants.none () Set.univ := fun t => by
  rw [bigSep_W0, bigSep_W0, defs₀_row m hO]
  exact triple_restated (sound_body m hO hH h1 c t) rfl .rfl fun _ => .rfl

/-! ## The run and the frame -/

set_option backward.isDefEq.respectTransparency.types false in
/-- The run: every array of the pipeline ends at what its write-backs left, every other unscoped buffer unchanged, every
    counter zero. -/
theorem run_main (hO : Ok m) (hH : Hyps m hO) (h1 : ∀ c, proc m c ⟨0, by rw [N_0]; omega⟩) :
    θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP (Q' := _) pcfgs (fun _ => adm m hO) (dats m hO) (0 : Fin 1) launch0 defs₀ Variants.none m ρ main
    (hbody := fun c => (body_obligation m hO hH h1 c).loose) (hshare := fun c => (dats m hO 0 c).share_full fun _ => rfl)
    (howed := fun _ _ => rfl) (V := V m) (hmain := hmain m Variants.none) (hA := A_eq m hO) (hpf := V_pre m) (hΦ := fun _ _ => rfl)

/-- The output array at the end of the run: its one block, as the last point leaves it. -/
theorem arr_out (hO : Ok m) (c : Dev nD) :
    (dats m hO 0 c).arrAt 3 (cfgM m hO).N = (acc m hO c 207 : Vec F S41x768x128 .f32) := by
  have hN : (cfgM m hO).N = 208 := N_0
  have h207 : 207 < (cfgM m hO).N := by rw [hN]; omega
  have only : ∀ t : Fin (cfgM m hO).N, ((cfgM m hO).win 3).flush t = true → t.val = 207 := fun t hf => by
    by_contra h
    rw [flush_false m hO t h] at hf
    exact absurd hf (by decide)
  have hfl : ((cfgM m hO).win 3).flush ⟨207, h207⟩ = true := (flush0_3 (adm m hO) ⟨207, h207⟩).mpr rfl
  funext i
  have key := (dats m hO 0 c).arrAt_emb_eq_flushed 3
    (fun t t' hf hf' hne => absurd (Fin.ext ((only t hf).trans (only t' hf').symm)) hne) ⟨207, h207⟩ hfl i
  have e : (((cfgM m hO).win 3).blk ⟨207, h207⟩).view.emb i = i := by
    funext a
    apply Fin.ext
    refine (Pipeline.Window.rect_emb_val ((cfgM m hO).win 3) ⟨207, h207⟩ i a).trans ?_
    fin_cases a <;> exact Nat.zero_add _
  refine (congrArg _ e.symm).trans (key.trans ?_)
  rfl

/-- The frame, with the output array's contents named: the argument arrays end unchanged, the counters at zero. -/
theorem frame_out (hO : Ok m) (hH : Hyps m hO) (h1 : ∀ c, proc m c ⟨0, by rw [N_0]; omega⟩) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v0) = (acc m hO c 207 : Vec F S41x768x128 .f32))
      ∧ r.2.sem = fun _ => 0) :=
  (θ_run defs _ _).mono (fun _ h => ⟨fun c => ⟨((h.1 c).2 main_arg0 (by decide : main_arg0 ∈ Pipeline.restRefs sig spec0)).trans (V_main_arg0 m c),
      ((h.1 c).1 0).trans (((dats m hO 0 c).arrAt_in 0 rfl _).trans ((A_eq m hO c 0).trans (V_main_arg1 m c))),
      ((h.1 c).1 1).trans (((dats m hO 0 c).arrAt_in 1 rfl _).trans ((A_eq m hO c 1).trans (V_main_arg2 m c))),
      ((h.1 c).1 2).trans (((dats m hO 0 c).arrAt_in 2 rfl _).trans ((A_eq m hO c 2).trans (V_main_arg3 m c))),
      ((h.1 c).1 3).trans (arr_out m hO c)⟩, h.2⟩) (run_main m ρ hO hH h1)

/-- The frame alone. -/
theorem frame (hO : Ok m) (hH : Hyps m hO) (h1 : ∀ c, proc m c ⟨0, by rw [N_0]; omega⟩) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1, (h.1 c).2.1, (h.1 c).2.2.1, (h.1 c).2.2.2.1⟩, h.2⟩) (frame_out m ρ hO hH h1)

end Cert.Kernel.Hand

end
-- ==== Proof.Tables.lean ====
/- What the precondition says of the table: the number of steps in use is at least one, every group's block lies in `[0, 40]`, and
   a group with no step in use names block 40. Stated on the signed values of the words, for any float interpretation. -/
module

public import proofs.«01_k».proof.Proof.Gen.Pre_tables_ok
public import Idealize.ShloMosaic.Lib.Pointwise.ShapeOpsCore
public import Idealize.ShloMosaic.Lib.WordCmp
public import Idealize.ShloMosaic.Lib.Affine

@[expose] public section

namespace Cert.Tables

open Idealize.ShloMosaic
open Cert.Pre_tables_ok

/-- The table's index `n`. -/
def ix (n : Fin 1040) : S1040.Idx := fun b => ⟨n.val, by obtain rfl : b = 0 := Subsingleton.elim _ _; exact n.isLt⟩

/-- The table's word `n`. -/
def word (a : IVec S1040 32) (n : Fin 1040) : BitVec 32 := a (ix n)

theorem word_of (a : IVec S1040 32) (n : Fin 1040) (I : S1040.Idx) (h : (I 0).val = n.val) : a I = word a n := by
  unfold word
  congr 1
  funext b
  obtain rfl : b = 0 := Subsingleton.elim _ _
  exact Fin.ext h

/-- The table is as the kernel needs it. -/
structure Good (a : IVec S1040 32) : Prop where
  tot : 1 ≤ (word a 1024).toInt
  lo (g : Fin 832) : 0 ≤ (word a (g.castLE (by omega))).toInt
  hi (g : Fin 832) : (word a (g.castLE (by omega))).toInt ≤ 40
  used (g : Fin 832) : 4 * (g.val : Int) < (word a 1024).toInt ∨ (word a (g.castLE (by omega))).toInt = 40

theorem good_of_fn {F : FTy → Type} [FloatOps F] (a : IVec S1040 32) (q : FVec F S768x96 .bf16) (w : IVec S3328x24x128 32) (s : FVec F S3328x128 .f32)
    (h : Cert.Pre_tables_ok.fn (F := F) a q w s = fun _ => 1#1) : Good a := by
  have andi_one (a b : BitVec 1) : IntOp.andi a b = 1#1 ↔ a = 1#1 ∧ b = 1#1 := by revert a b; decide
  have ori_one (a b : BitVec 1) : IntOp.ori a b = 1#1 ↔ a = 1#1 ∨ b = 1#1 := by revert a b; decide
  have ofBool_one (p : Bool) : (BitVec.ofBool p = 1#1) ↔ p = true := by cases p <;> decide
  have key (g : Fin 832) : 1 ≤ (word a 1024).toInt ∧ 0 ≤ (word a (g.castLE (by omega))).toInt ∧ (word a (g.castLE (by omega))).toInt ≤ 40
      ∧ (4 * (g.val : Int) < (word a 1024).toInt ∨ (word a (g.castLE (by omega))).toInt = 40) := by
    have pre := congrFun h (fun b => ⟨g.val, by obtain rfl : b = 0 := Subsingleton.elim _ _; exact g.isLt⟩)
    simp only [Cert.Pre_tables_ok.fn, Cert.Pre_tables_ok.fn_part1, constantI, broadcastInDim, cmpi, andi, ori, muli, andi_one, ori_one, extractStridedSlice, shapeCast, iotaInDim] at pre
    obtain ⟨⟨⟨h1, h2⟩, h3⟩, h4⟩ := pre
    have hg : g.val < 832 := g.isLt
    rw [word_of a 1024 _ (congrArg (1024 + ·) (Nat.lt_one_iff.mp (Fin.isLt _)))] at h1
    rw [word_of a (g.castLE (by omega)) _ (by exact Nat.zero_add _)] at h2 h3
    rw [word_of a 1024 _ (congrArg (1024 + ·) (Nat.lt_one_iff.mp (Fin.isLt _))), word_of a (g.castLE (by omega)) _ (by exact Nat.zero_add _)] at h4
    have e4 : (IntOp.muli 4#32 (BitVec.ofNat 32 g.val)).toInt = 4 * (g.val : Int) := by
      show (4#32 * BitVec.ofNat 32 g.val).toInt = _
      rw [show (4#32 : BitVec 32) = BitVec.ofNat 32 4 from rfl, ← BitVec.ofNat_mul, WordCmp.toInt_ofNat_of_lt (by omega)]
      push_cast; rfl
    change IntOp.cmpi .slt (IntOp.muli 4#32 (BitVec.ofNat 32 g.val)) _ = 1#1 ∨ _ at h4
    simp only [IntOp.cmpi, ofBool_one, BitVec.sle, BitVec.slt, decide_eq_true_eq, beq_iff_eq, e4] at h1 h2 h3 h4
    refine ⟨h1, h2, h3, h4.imp id fun e => ?_⟩
    rw [e]; rfl
  exact ⟨(key 0).1, fun g => (key g).2.1, fun g => (key g).2.2.1, fun g => (key g).2.2.2⟩

/-! ## The block index the index maps compute of the table -/

theorem isInt {x : BitVec 32} {e : Int} : Affine.IsInt x e ↔ x.toInt = e := by unfold Affine.IsInt; exact Iff.rfl

/-- The floor of a sixteenth of a word, as the index maps compute it. -/
def floor16 (v : BitVec 32) : BitVec 32 :=
  Scalar.select (Scalar.andi (Scalar.cmpi .ne (Scalar.subi (Scalar.extui (Scalar.cmpi .sgt v 0#32)) (Scalar.extui (Scalar.cmpi .slt v 0#32)))
      (Scalar.subi (Scalar.extui (Scalar.cmpi .sgt 16#32 0#32)) (Scalar.extui (Scalar.cmpi .slt 16#32 0#32)))) (Scalar.cmpi .ne (Scalar.remsi v 16#32) 0#32))
    (Scalar.subi (Scalar.divsi v 16#32) 1#32) (Scalar.divsi v 16#32)

theorem floor16_toInt (v : BitVec 32) (h : 0 ≤ v.toInt) : (floor16 v).toInt = v.toInt / 16 := by
  have hd : (Scalar.divsi v 16#32).toInt = v.toInt / 16 :=
    isInt.mp (Affine.divsi (isInt.mpr rfl) (isInt.mpr (by decide : (16#32 : BitVec 32).toInt = 16)) ⟨rfl, h, by decide⟩)
  have hsel : floor16 v = Scalar.divsi v 16#32 := by
    by_cases h0 : v = 0#32
    · subst h0; decide
    · have hpos : 0 < v.toInt := lt_of_le_of_ne h fun e => h0 (BitVec.eq_of_toInt_eq (by rw [← e]; rfl))
      have h1 : Scalar.cmpi .sgt v 0#32 = 1#1 := by
        simp only [Scalar.cmpi, IntOp.cmpi, BitVec.slt, BitVec.toInt_zero, decide_eq_true hpos]; rfl
      have h2 : Scalar.cmpi .slt v 0#32 = 0#1 := by
        simp only [Scalar.cmpi, IntOp.cmpi, BitVec.slt, BitVec.toInt_zero, decide_eq_false (not_lt.mpr h)]; rfl
      unfold floor16
      rw [h1, h2]
      generalize Scalar.cmpi .ne (Scalar.remsi v 16#32) 0#32 = b
      have : Scalar.andi (Scalar.cmpi .ne (Scalar.subi (Scalar.extui 1#1) (Scalar.extui 0#1))
          (Scalar.subi (Scalar.extui (Scalar.cmpi .sgt 16#32 0#32)) (Scalar.extui (Scalar.cmpi .slt 16#32 0#32)))) b = 0#1 := by
        revert b; decide
      rw [this]; rfl
  rw [hsel, hd]

/-- The index maps' block index of point `i`, of the number of steps `T`: `i`, or the last block in use if that is less. -/
theorem index_toNat (i : ℕ) (hi : i < 208) (T : BitVec 32) (hT : 1 ≤ T.toInt) :
    ((Scalar.minsi (BitVec.ofNat 32 i) (floor16 (Scalar.subi T 1#32))).toNat : Int) = min (i : Int) ((T.toInt - 1) / 16) := by
  have hub := BitVec.toInt_lt (x := T)
  have hs : (Scalar.subi T 1#32).toInt = T.toInt - 1 :=
    isInt.mp (Affine.subi (isInt.mpr rfl) (isInt.mpr (by decide : (1#32 : BitVec 32).toInt = 1)) ⟨rfl, by omega, by omega⟩)
  have hf := floor16_toInt (Scalar.subi T 1#32) (by omega)
  rw [hs] at hf
  have hm : (Scalar.minsi (BitVec.ofNat 32 i) (floor16 (Scalar.subi T 1#32))).toInt = min (i : Int) ((T.toInt - 1) / 16) :=
    isInt.mp (Affine.minsi (isInt.mpr (WordCmp.toInt_ofNat_of_lt (w := 32) (a := i) (by omega))) (isInt.mpr hf) rfl)
  have h0 : 0 ≤ (T.toInt - 1) / 16 := by omega
  rw [← hm, BitVec.toInt_eq_toNat_of_lt]
  have := BitVec.toInt_eq_toNat_cond (Scalar.minsi (BitVec.ofNat 32 i) (floor16 (Scalar.subi T 1#32)))
  split at this <;> omega

end Cert.Tables
-- ==== Proof.Kernel.Pre.lean ====
/- From the precondition on the table: the pipeline's side condition of the blocks the index maps name, the side conditions the
   body assumes of the groups' words, and which points are processed. -/
module

public import proofs.«01_k».proof.Proof.Kernel.Frame
public import proofs.«01_k».proof.Proof.Tables

@[expose] public section

set_option maxRecDepth 16384

noncomputable section

namespace Cert.Kernel.Hand

open Idealize.ShloMosaic Idealize.ShloMosaic.TcCoe
open Cert.Kernel Cert.Kernel.Gen
open Cert.Tables (word Good)

variable {F : FTy → Type} [FloatOps F]
variable (m : (ℓ : Loc nD τ sig) → Buf (Elt F) ℓ)

/-- The table, as the kernel's launch memory holds it. -/
abbrev table : IVec Cert.Pre_tables_ok.S1040 32 := m (((0 : Dev nD) : Thread nD τ).loc main_arg0)

theorem coords_lt (i : grid0.Coords) : (i 0).val < 208 := (i 0).isLt

/-! ## The words the body and the index maps read -/

theorem wTot_word (c : Dev nD) : wTot (F := F) (c := c) (tbl m 0) = word (table m) 1024 :=
  Tables.word_of (table m) 1024 _ rfl

theorem off_eq (i : grid0.Coords) (k : ℕ) (hk : k < 4) :
    (Scalar.indexCast (Scalar.addi (Scalar.muli (BitVec.ofNat 32 (i 0).val) 4#32) (BitVec.ofNat 32 k))).toNat = 4 * (i 0).val + k := by
  have h := coords_lt i
  show (BitVec.ofNat 32 (i 0).val * BitVec.ofNat 32 4 + BitVec.ofNat 32 k).toNat = _
  rw [← BitVec.ofNat_mul, ← BitVec.ofNat_add, WordCmp.toNat_ofNat_of_lt (by omega)]
  omega

/-- Group `k` of point `i`, as a table index. -/
abbrev grp (i : grid0.Coords) (k : ℕ) (hk : k < 4) : Fin 832 := ⟨4 * (i 0).val + k, by have := coords_lt i; omega⟩

theorem wBlk1_word (c : Dev nD) (i : grid0.Coords) : wBlk1 (F := F) (c := c) i (tbl m 0) = word (table m) ((grp i 0 (by omega)).castLE (by omega)) :=
  Tables.word_of (table m) _ _ (off_eq i 0 (by omega))
theorem wBlk2_word (c : Dev nD) (i : grid0.Coords) : wBlk2 (F := F) (c := c) i (tbl m 0) = word (table m) ((grp i 1 (by omega)).castLE (by omega)) :=
  Tables.word_of (table m) _ _ (off_eq i 1 (by omega))
theorem wBlk3_word (c : Dev nD) (i : grid0.Coords) : wBlk3 (F := F) (c := c) i (tbl m 0) = word (table m) ((grp i 2 (by omega)).castLE (by omega)) :=
  Tables.word_of (table m) _ _ (off_eq i 2 (by omega))
theorem wBlk4_word (c : Dev nD) (i : grid0.Coords) : wBlk4 (F := F) (c := c) i (tbl m 0) = word (table m) ((grp i 3 (by omega)).castLE (by omega)) :=
  Tables.word_of (table m) _ _ (off_eq i 3 (by omega))

/-! ## The blocks in bounds -/

/-- The block index of windows 1 and 2 at point `i`: `i` itself, or the last block in use. -/
def bix (i : grid0.Coords) : ℕ := (Scalar.minsi (BitVec.ofNat 32 (i 0).val) (Tables.floor16 (Scalar.subi (word (table m) 1024) 1#32))).toNat

theorem transform1 (i : grid0.Coords) : cc0_transform_1 inb_S1040_S1_1024 numel1_S1 (tbl m : pre0.Contents (Elt F)) i = ![bix m i, 0, 0] := by
  unfold bix
  rw [← wTot_word m 0]
  rfl
theorem transform2 (i : grid0.Coords) : cc0_transform_2 inb_S1040_S1_1024 numel1_S1 (tbl m : pre0.Contents (Elt F)) i = ![bix m i, 0] := by
  unfold bix
  rw [← wTot_word m 0]
  rfl

theorem bix_eq (hG : Good (table m)) (i : grid0.Coords) : (bix m i : Int) = min ((i 0).val : Int) (((word (table m) 1024).toInt - 1) / 16) :=
  Tables.index_toNat _ (coords_lt i) _ hG.tot
theorem bix_le (hG : Good (table m)) (i : grid0.Coords) : bix m i ≤ (i 0).val := by
  have := bix_eq m hG i
  omega

theorem ok_of (hG : Good (table m)) : Ok m := by
  refine ⟨fun i => ⟨?_, Or.inl rfl⟩, fun i => ⟨?_, Or.inl rfl⟩⟩
  · have h := bix_le m hG i
    have hi := coords_lt i
    rw [transform1 m i]
    intro a
    fin_cases a
    · show (bix m i + 1) * 16 ≤ 3328; omega
    · show (0 + 1) * 24 ≤ 24; omega
    · show (0 + 1) * 128 ≤ 128; omega
  · have h := bix_le m hG i
    have hi := coords_lt i
    rw [transform2 m i]
    intro a
    fin_cases a
    · show (bix m i + 1) * 16 ≤ 3328; omega
    · show (0 + 1) * 128 ≤ 128; omega

/-! ## The slabs in bounds -/

theorem toNat_le (w : BitVec 32) (h0 : 0 ≤ w.toInt) (h : w.toInt ≤ 40) : w.toNat ≤ 40 := by
  have := BitVec.toInt_eq_toNat_cond w
  split at this <;> omega

theorem slab_in (w : BitVec 32) (h0 : 0 ≤ w.toInt) (h : w.toInt ≤ 40) : ∀ a, k0_off2 w a + S1x768x128.size a ≤ S41x768x128.size a := by
  have := toNat_le w h0 h
  intro a
  fin_cases a
  · show w.toNat + 1 ≤ 41; omega
  · show 0 + 768 ≤ 768; omega
  · show 0 + 128 ≤ 128; omega

theorem hyps_of (hG : Good (table m)) (hO : Ok m) : Hyps m hO := by
  intro c t
  rw [wBlk1_word, wBlk2_word, wBlk3_word, wBlk4_word]
  exact ⟨fun _ => slab_in _ (hG.lo _) (hG.hi _), fun _ => slab_in _ (hG.lo _) (hG.hi _), fun _ => slab_in _ (hG.lo _) (hG.hi _),
    fun _ => slab_in _ (hG.lo _) (hG.hi _)⟩

/-! ## The points processed -/

theorem cond2_iff (i : grid0.Coords) (T : BitVec 32) : k0_cond2 i T = 1#1 ↔ 16 * ((i 0).val : Int) < T.toInt := by
  have hi := coords_lt i
  have e : (Scalar.muli (BitVec.ofNat 32 (i 0).val) 16#32).toInt = 16 * ((i 0).val : Int) := by
    show (BitVec.ofNat 32 (i 0).val * BitVec.ofNat 32 16).toInt = _
    rw [← BitVec.ofNat_mul, WordCmp.toInt_ofNat_of_lt (by omega)]
    push_cast; omega
  show Scalar.cmpi .ne (Scalar.extui (Scalar.cmpi .slt (Scalar.muli (BitVec.ofNat 32 (i 0).val) 16#32) T)) 0#32 = 1#1 ↔ _
  rw [Scalar.guard_iff]
  show BitVec.ofBool (decide ((Scalar.muli (BitVec.ofNat 32 (i 0).val) 16#32).toInt < T.toInt)) = 1#1 ↔ _
  rw [e]
  by_cases h : 16 * ((i 0).val : Int) < T.toInt <;> simp [h]

theorem coords_val (t : Fin grid0.N) : (grid0.coords t 0).val = t.val := by
  have ht : t.val < 208 := Nat.lt_of_lt_of_eq t.isLt N_0
  have e0 : (grid0.coords t 0).val = t.val / 1 % 208 := Pipeline.Grid.coords_val t 0 (by decide) rfl
  omega

theorem proc_iff (c : Dev nD) (t : Fin grid0.N) : proc m c t ↔ 16 * (t.val : Int) < (word (table m) 1024).toInt := by
  unfold proc
  rw [wTot_word, cond2_iff, coords_val]

theorem proc_zero (hG : Good (table m)) (c : Dev nD) : proc m c ⟨0, by rw [N_0]; omega⟩ := by
  rw [proc_iff]
  have := hG.tot
  simp only
  omega

end Cert.Kernel.Hand

end
-- ==== Proof.KernelIdeal.Kit.lean ====
/- What the runs of the kernel's body share: the launch kit (what the region is entered with, each window's block, the
   frame off the run's post), and the words the body reads of its table. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S1040 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c))⟩) h

/-! ## The body's branch conditions -/

/-- The condition of the body's `scf.if` 0 (`k0_h1`), from the grid coordinates (the printed condition unfolded). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 208 = 0 :=
  (fun t => by
    have ht : t.val < 208 := Nat.lt_of_lt_of_eq t.isLt N_0
    have e0 : (grid0.coords t 0).val = t.val / 1 % 208 := Pipeline.Grid.coords_val t 0 (by decide) rfl
    simp only [cond0_0, e0]
    word_cmp
   : ∀ t : Fin grid0.N, cond0_0 (grid0.coords t) ↔ t.val % 208 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S768x96 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S16x24x128 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S16x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S41x768x128 .f32 := spec0_3.stage ((cfgM m hO).slots t 3)
abbrev hs0_3 (hO : Ok m) (t : Fin (cfgM m hO).N) : (ms0_3 m hO t).IsWhole := hstage0_3 (((cfgM m hO).slots t 3).cast nbuf0_3)

/-! ## The schedule -/

/-- Window 0 (operand 1 (%arg1)) is fetched at the first point only, at any contents of the tables (its index map reads none). -/
theorem fetch0_0 (a : (pcfg0 (F := F)).Adm) : ∀ t : Fin (cfg0 a).N, ((cfg0 a).win 0).fetch t = true ↔ t.val % 208 = 0 :=
  (fun t => Pipeline.Window.fetchOf_const cc0_transform_0 (fun _ _ => rfl) (n := 208) (by decide) t : ∀ t : Fin grid0.N, Pipeline.Window.fetchOf grid0 false cc0_transform_0 t = true ↔ t.val % 208 = 0)
-- window 1: no schedule fact — its index map reads a prefetched table, so where it is fetched or written back depends on the tables' contents
-- window 2: no schedule fact — its index map reads a prefetched table, so where it is fetched or written back depends on the tables' contents
/-- Window 3 (result 0 (%0)) is written back at the last point only, at any contents of the tables (its index map reads none). -/
theorem flush0_3 (a : (pcfg0 (F := F)).Adm) : ∀ t : Fin (cfg0 a).N, ((cfg0 a).win 3).flush t = true ↔ t.val % 208 = 207 :=
  (fun t => Pipeline.Window.flushOf_const cc0_transform_3 (fun _ _ => rfl) (n := 208) (by decide) rfl t : ∀ t : Fin grid0.N, Pipeline.Window.flushOf grid0 true cc0_transform_3 t = true ↔ t.val % 208 = 207)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_score_tokens (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3))

/-! ## The words the body reads of its table -/

/-- The table's word of the number of steps (entry 1024), as the body reads it. -/
abbrev wTot {c : Dev nD} (xt0 : TbBuf0 (F := F) c tbM0_0) : Elt F .i32 :=
  tbM0_0.view.readAt (Elt F) (Rect.unit (s := S1040) ![1024] S1.size inb_S1040_S1_1024).toLoadRect xt0 (Shape.Idx.first (numel1_S1.symm ▸ Nat.one_pos))
/-- The table's word of the block of group 0 of grid point `i`, as the body reads it. -/
abbrev wBlk1 {c : Dev nD} (i : grid0.Coords) (xt0 : TbBuf0 (F := F) c tbM0_0) : Elt F .i32 :=
  tbM0_0.view.readAt (Elt F) (Rect.unit (s := S1040) (k0_off1 i) S1.size (k0_off1_inb i)).toLoadRect xt0 (Shape.Idx.first (numel1_S1.symm ▸ Nat.one_pos))
/-- The table's word of the block of group 1 of grid point `i`, as the body reads it. -/
abbrev wBlk2 {c : Dev nD} (i : grid0.Coords) (xt0 : TbBuf0 (F := F) c tbM0_0) : Elt F .i32 :=
  tbM0_0.view.readAt (Elt F) (Rect.unit (s := S1040) (k0_off3 i) S1.size (k0_off3_inb i)).toLoadRect xt0 (Shape.Idx.first (numel1_S1.symm ▸ Nat.one_pos))
/-- The table's word of the block of group 2 of grid point `i`, as the body reads it. -/
abbrev wBlk3 {c : Dev nD} (i : grid0.Coords) (xt0 : TbBuf0 (F := F) c tbM0_0) : Elt F .i32 :=
  tbM0_0.view.readAt (Elt F) (Rect.unit (s := S1040) (k0_off5 i) S1.size (k0_off5_inb i)).toLoadRect xt0 (Shape.Idx.first (numel1_S1.symm ▸ Nat.one_pos))
/-- The table's word of the block of group 3 of grid point `i`, as the body reads it. -/
abbrev wBlk4 {c : Dev nD} (i : grid0.Coords) (xt0 : TbBuf0 (F := F) c tbM0_0) : Elt F .i32 :=
  tbM0_0.view.readAt (Elt F) (Rect.unit (s := S1040) (k0_off7 i) S1.size (k0_off7_inb i)).toLoadRect xt0 (Shape.Idx.first (numel1_S1.symm ▸ Nat.one_pos))

/-- The side conditions the body assumes of the blocks it reads, at every point. -/
def Hyps (m : (ℓ : Loc nD τ sig) → Buf (Elt F) ℓ) (hO : Ok m) : Prop :=
  ∀ (c : Dev nD) (t : Fin (cfgM m hO).N),
    k0_chk1 (grid0.coords t) (wTot (c := c) (tbl m 0)) (wBlk1 (c := c) (grid0.coords t) (tbl m 0))
    ∧ k0_chk2 (grid0.coords t) (wTot (c := c) (tbl m 0)) (wBlk2 (c := c) (grid0.coords t) (tbl m 0))
    ∧ k0_chk3 (grid0.coords t) (wTot (c := c) (tbl m 0)) (wBlk3 (c := c) (grid0.coords t) (tbl m 0))
    ∧ k0_chk4 (grid0.coords t) (wTot (c := c) (tbl m 0)) (wBlk4 (c := c) (grid0.coords t) (tbl m 0))

end Cert.KernelIdeal.Hand

end
-- ==== Proof.KernelIdeal.Out.lean ====
/- What one grid point leaves in the output block, as a function of vectors. -/
module

public import proofs.«01_k».proof.Proof.KernelIdeal.Kit
public import Idealize.ShloMosaic.Lib.VecWindow

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

-- variable (m : (ℓ : Loc nD τ sig) → Buf (Elt F) ℓ) (ρ : Dev nD → PrngReg)

/-- What one group does to the output block `o`: at the slab the word `w` names, the payload of what was there. The
    test is the slab's lying in the array, which the body assumes of the word. -/
def step (w : BitVec 32) (o : Vec F S41x768x128 .f32) (pay : Vec F S1x768x128 .f32 → Vec F S1x768x128 .f32) : Vec F S41x768x128 .f32 :=
  if h : ∀ a, k0_off2 w a + S1x768x128.size a ≤ S41x768x128.size a then
    VecWindow.put o (k0_off2 w) S1x768x128.size (pay (VecWindow.window o (k0_off2 w) S1x768x128.size h))
  else o

/-- Group 0's payload: its four steps' greatest, joined with what was there. -/
def payG1 (x0 : Vec F S768x96 .bf16) (x1 : Vec F S16x24x128 .i32) (x2 : Vec F S16x128 .f32) (old : Vec F S1x768x128 .f32) : Vec F S1x768x128 .f32 :=
  k0_pay4 (k0_pay3 (VecWindow.window x1 ![0, 0, 0] S1x24x128.size inb_S16x24x128_S1x24x128_0_0_0) (VecWindow.window x1 ![1, 0, 0] S1x24x128.size inb_S16x24x128_S1x24x128_1_0_0) (VecWindow.window x1 ![2, 0, 0] S1x24x128.size inb_S16x24x128_S1x24x128_2_0_0) (VecWindow.window x1 ![3, 0, 0] S1x24x128.size inb_S16x24x128_S1x24x128_3_0_0) (VecWindow.window x0 ![0, 0] S768x96.size inb_S768x96_S768x96_0_0) (VecWindow.window x2 ![0, 0] S1x128.size inb_S16x128_S1x128_0_0) (VecWindow.window x2 ![1, 0] S1x128.size inb_S16x128_S1x128_1_0) (VecWindow.window x2 ![2, 0] S1x128.size inb_S16x128_S1x128_2_0) (VecWindow.window x2 ![3, 0] S1x128.size inb_S16x128_S1x128_3_0)) old
/-- Group 1's payload. -/
def payG2 (x0 : Vec F S768x96 .bf16) (x1 : Vec F S16x24x128 .i32) (x2 : Vec F S16x128 .f32) (old : Vec F S1x768x128 .f32) : Vec F S1x768x128 .f32 :=
  k0_pay7 (k0_pay5 (VecWindow.window x1 ![4, 0, 0] S1x24x128.size inb_S16x24x128_S1x24x128_4_0_0) (VecWindow.window x1 ![5, 0, 0] S1x24x128.size inb_S16x24x128_S1x24x128_5_0_0) (VecWindow.window x1 ![6, 0, 0] S1x24x128.size inb_S16x24x128_S1x24x128_6_0_0) (VecWindow.window x1 ![7, 0, 0] S1x24x128.size inb_S16x24x128_S1x24x128_7_0_0) (VecWindow.window x0 ![0, 0] S768x96.size inb_S768x96_S768x96_0_0)) (k0_pay6 (VecWindow.window x1 ![4, 0, 0] S1x24x128.size inb_S16x24x128_S1x24x128_4_0_0) (VecWindow.window x1 ![5, 0, 0] S1x24x128.size inb_S16x24x128_S1x24x128_5_0_0) (VecWindow.window x1 ![6, 0, 0] S1x24x128.size inb_S16x24x128_S1x24x128_6_0_0) (VecWindow.window x1 ![7, 0, 0] S1x24x128.size inb_S16x24x128_S1x24x128_7_0_0) (VecWindow.window x0 ![0, 0] S768x96.size inb_S768x96_S768x96_0_0) (VecWindow.window x2 ![4, 0] S1x128.size inb_S16x128_S1x128_4_0) (VecWindow.window x2 ![5, 0] S1x128.size inb_S16x128_S1x128_5_0)) (VecWindow.window x2 ![6, 0] S1x128.size inb_S16x128_S1x128_6_0) (VecWindow.window x2 ![7, 0] S1x128.size inb_S16x128_S1x128_7_0) old
/-- Group 2's payload. -/
def payG3 (x0 : Vec F S768x96 .bf16) (x1 : Vec F S16x24x128 .i32) (x2 : Vec F S16x128 .f32) (old : Vec F S1x768x128 .f32) : Vec F S1x768x128 .f32 :=
  k0_pay12 (k0_pay8 (VecWindow.window x1 ![8, 0, 0] S1x24x128.size inb_S16x24x128_S1x24x128_8_0_0)) (k0_pay9 (VecWindow.window x1 ![9, 0, 0] S1x24x128.size inb_S16x24x128_S1x24x128_9_0_0)) (k0_pay10 (VecWindow.window x1 ![10, 0, 0] S1x24x128.size inb_S16x24x128_S1x24x128_10_0_0)) (k0_pay11 (VecWindow.window x1 ![11, 0, 0] S1x24x128.size inb_S16x24x128_S1x24x128_11_0_0)) (VecWindow.window x0 ![0, 0] S768x96.size inb_S768x96_S768x96_0_0) (VecWindow.window x2 ![8, 0] S1x128.size inb_S16x128_S1x128_8_0) (VecWindow.window x2 ![9, 0] S1x128.size inb_S16x128_S1x128_9_0) (VecWindow.window x2 ![10, 0] S1x128.size inb_S16x128_S1x128_10_0) (VecWindow.window x2 ![11, 0] S1x128.size inb_S16x128_S1x128_11_0) old
/-- Group 3's payload. -/
def payG4 (x0 : Vec F S768x96 .bf16) (x1 : Vec F S16x24x128 .i32) (x2 : Vec F S16x128 .f32) (old : Vec F S1x768x128 .f32) : Vec F S1x768x128 .f32 :=
  k0_pay2 (k0_pay14 (k0_pay13 (VecWindow.window x1 ![12, 0, 0] S1x24x128.size inb_S16x24x128_S1x24x128_12_0_0)) (VecWindow.window x1 ![13, 0, 0] S1x24x128.size inb_S16x24x128_S1x24x128_13_0_0) (VecWindow.window x1 ![14, 0, 0] S1x24x128.size inb_S16x24x128_S1x24x128_14_0_0) (VecWindow.window x1 ![15, 0, 0] S1x24x128.size inb_S16x24x128_S1x24x128_15_0_0) (VecWindow.window x0 ![0, 0] S768x96.size inb_S768x96_S768x96_0_0) (VecWindow.window x2 ![12, 0] S1x128.size inb_S16x128_S1x128_12_0) (VecWindow.window x2 ![13, 0] S1x128.size inb_S16x128_S1x128_13_0) (VecWindow.window x2 ![14, 0] S1x128.size inb_S16x128_S1x128_14_0) (VecWindow.window x2 ![15, 0] S1x128.size inb_S16x128_S1x128_15_0)) (k0_pay15 old)

/-- What a processed grid point leaves in the output block, from the queries, the point's words and scales, the four
    groups' words of the table, and what the point found there. -/
def outB (x0 : Vec F S768x96 .bf16) (x1 : Vec F S16x24x128 .i32) (x2 : Vec F S16x128 .f32) (w1 w2 w3 w4 : BitVec 32) (x3 : Vec F S41x768x128 .f32) : Vec F S41x768x128 .f32 :=
  step w4 (step w3 (step w2 (step w1 x3 (payG1 x0 x1 x2)) (payG2 x0 x1 x2)) (payG3 x0 x1 x2)) (payG4 x0 x1 x2)

theorem step_of (w : BitVec 32) (o : Vec F S41x768x128 .f32) (pay : Vec F S1x768x128 .f32 → Vec F S1x768x128 .f32)
    (h : ∀ a, k0_off2 w a + S1x768x128.size a ≤ S41x768x128.size a) :
    step w o pay = VecWindow.put o (k0_off2 w) S1x768x128.size (pay (VecWindow.window o (k0_off2 w) S1x768x128.size h)) := dif_pos h

/-- A read after a store at a unit-stride rectangle puts the payload over what was read. -/
theorem read_cons {κ : Kind} {sp : Space} {s : Shape} {e : EltTy} {off size : Fin s.rank → ℕ} (v : View sig κ sp s e) (f : v.ty.Contents (Elt F))
    (inb : ∀ a, off a + size a ≤ s.size a) (w : (Rect.unit off size inb).shape.Idx → Elt F e) (L : List (View.Piece (Elt F) s e)) :
    v.read (Elt F) (v.writes (Elt F) f (⟨Rect.unit off size inb, w⟩ :: L)) = VecWindow.put (v.read (Elt F) (v.writes (Elt F) f L)) off size w :=
  View.read_writes_cons_put v f inb w L rfl
/-- A load at a unit-stride rectangle is a window of what the view reads. -/
theorem readAt_win {κ : Kind} {sp : Space} {s : Shape} {e : EltTy} {off size : Fin s.rank → ℕ} (v : View sig κ sp s e) (f : v.ty.Contents (Elt F))
    (inb : ∀ a, off a + size a ≤ s.size a) :
    v.readAt (Elt F) (Rect.unit off size inb).toLoadRect f = VecWindow.window (v.read (Elt F) f) off size inb := rfl

/-- A load of a whole memref that holds `x` is a window of `x`. -/
theorem readAt_unread {κ : Kind} {sp : Space} {s : Shape} {e : EltTy} {off size : Fin s.rank → ℕ} {M : Memref sig κ sp s e} (hM : M.IsWhole) (x : s.Idx → Elt F e)
    (inb : ∀ a, off a + size a ≤ s.size a) :
    M.view.readAt (Elt F) (Rect.unit off size inb).toLoadRect (hM.unread x) = VecWindow.window x off size inb := by
  rw [readAt_win, hM.read_unread]

theorem off4_eq (w : BitVec 32) : k0_off4 w = k0_off2 w := rfl
theorem off6_eq (w : BitVec 32) : k0_off6 w = k0_off2 w := rfl
theorem off8_eq (w : BitVec 32) : k0_off8 w = k0_off2 w := rfl

/-- A slab's read, joined and stored back, after the stores of `L`: one `step` on what is read after `L`. -/
theorem read_step {κ : Kind} {sp : Space} (v : View sig κ sp S41x768x128 .f32) (f : v.ty.Contents (Elt F)) (w : BitVec 32) {off : Fin 3 → ℕ} (hw : off = k0_off2 w)
    (h : ∀ a, off a + S1x768x128.size a ≤ S41x768x128.size a) (pay : Vec F S1x768x128 .f32 → Vec F S1x768x128 .f32) (L : List (View.Piece (Elt F) S41x768x128 .f32))
    (o : Vec F S41x768x128 .f32) (p : Vec F S1x768x128 .f32)
    (hp : p = pay (v.readAt (Elt F) (Rect.unit (s := S41x768x128) off S1x768x128.size h).toLoadRect (v.writes (Elt F) f L)))
    (ho : v.read (Elt F) (v.writes (Elt F) f L) = o) :
    v.read (Elt F) (v.writes (Elt F) f (⟨Rect.unit (s := S41x768x128) off S1x768x128.size h, p⟩ :: L)) = step w o pay := by
  subst ho; subst hw; subst hp
  rw [step_of w _ pay h, read_cons, readAt_win]

end Cert.KernelIdeal.Hand

end
-- ==== Proof.KernelIdeal.RunA.lean ====
/- The body's run at the first point. -/
module

public import proofs.«01_k».proof.Proof.KernelIdeal.Out

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

-- variable (m : (ℓ : Loc nD τ sig) → Buf (Elt F) ℓ) (ρ : Dev nD → PrngReg)

attribute [local irreducible] k0_pay1 k0_pay2 k0_pay3 k0_pay4 k0_pay5 k0_pay6 k0_pay7 k0_pay8 k0_pay9 k0_pay10 k0_pay11 k0_pay12 k0_pay13 k0_pay14 k0_pay15

set_option maxHeartbeats 400000 in
/-- The first point, processed: the output block is filled, then goes from the fill to `outB … fill`. -/
theorem kernelRun0_A (c : Dev nD) (i : grid0.Coords) (arg2 : Memref sig .tc .vmem S768x96 .bf16) (harg2 : arg2.IsWhole) (arg3 : Memref sig .tc .vmem S16x24x128 .i32) (harg3 : arg3.IsWhole) (arg4 : Memref sig .tc .vmem S16x128 .f32) (harg4 : arg4.IsWhole) (arg5 : Memref sig .tc .vmem S41x768x128 .f32) (harg5 : arg5.IsWhole) (hc0 : k0_cond1 i = 1#1)
    (x0 : Vec F S768x96 .bf16) (x1 : Vec F S16x24x128 .i32) (x2 : Vec F S16x128 .f32) (xt0 : TbBuf0 (F := F) c tbM0_0) (hc2 : k0_cond2 i (wTot xt0) = 1#1)
    (k0_hw1 : k0_chk1 i (wTot xt0) (wBlk1 i xt0)) (k0_hw2 : k0_chk2 i (wTot xt0) (wBlk2 i xt0)) (k0_hw3 : k0_chk3 i (wTot xt0) (wBlk3 i xt0)) (k0_hw4 : k0_chk4 i (wTot xt0) (wBlk4 i xt0)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare (outB x0 x1 x2 (wBlk1 i xt0) (wBlk2 i xt0) (wBlk3 i xt0) (wBlk4 i xt0) (k0_pay1 (F := F))) ∗ tbPt0 c tbM0_0 xt0) -∗ K ⟨⟩))
          ⊢ wp frame (wpE (defs₀ (F := F)) Variants.none c none) E (cc0_score_tokens i tbM0_0 htbM0_0 arg2 harg2 arg3 harg3 arg4 harg4 arg5 harg5) K := by
    intro E K
    simp only [cc0_score_tokens_eq_skeleton]; unfold cc0_score_tokens_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%d3, %f3, -, H3⟩, HT0, Hk⟩
    obtain rfl := harg2.eq_unread hf0; obtain rfl := harg3.eq_unread hf1; obtain rfl := harg4.eq_unread hf2
    sl_exec (disch := first | sl_exact hc0 | sl_exact hc2 | sl_exact k0_hw1 | sl_exact k0_hw2 | sl_exact k0_hw3 | sl_exact k0_hw4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      unfold outB
      refine read_step arg5.view _ (wBlk4 i xt0) (off8_eq _) _ (payG4 x0 x1 x2) _ _ _ ?_ ?_
      · unfold payG4; dsimp only [kernelRun0_A.sl.v93, kernelRun0_A.sl.v139, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14]; simp only [readAt_unread]; try rfl
      unfold kernelRun0_A.sl.H3_4
      refine read_step arg5.view _ (wBlk3 i xt0) (off6_eq _) _ (payG3 x0 x1 x2) _ _ _ ?_ ?_
      · unfold payG3; dsimp only [kernelRun0_A.sl.v93, kernelRun0_A.sl.v139, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14]; simp only [readAt_unread]; try rfl
      unfold kernelRun0_A.sl.H3_3
      refine read_step arg5.view _ (wBlk2 i xt0) (off4_eq _) _ (payG2 x0 x1 x2) _ _ _ ?_ ?_
      · unfold payG2; dsimp only [kernelRun0_A.sl.v93, kernelRun0_A.sl.v139, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14]; simp only [readAt_unread]; try rfl
      unfold kernelRun0_A.sl.H3_2
      refine read_step arg5.view _ (wBlk1 i xt0) (rfl) _ (payG1 x0 x1 x2) _ _ _ ?_ ?_
      · unfold payG1; dsimp only [kernelRun0_A.sl.v93, kernelRun0_A.sl.v139, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14]; simp only [readAt_unread]; try rfl
      exact (View.read_writes_full _ _ _ _ _)
    iexact HT0

end Cert.KernelIdeal.Hand

end
-- ==== Proof.KernelIdeal.RunB.lean ====
/- The body's run at a processed point after the first. -/
module

public import proofs.«01_k».proof.Proof.KernelIdeal.Out

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

-- variable (m : (ℓ : Loc nD τ sig) → Buf (Elt F) ℓ) (ρ : Dev nD → PrngReg)

attribute [local irreducible] k0_pay1 k0_pay2 k0_pay3 k0_pay4 k0_pay5 k0_pay6 k0_pay7 k0_pay8 k0_pay9 k0_pay10 k0_pay11 k0_pay12 k0_pay13 k0_pay14 k0_pay15

set_option maxHeartbeats 400000 in
/-- A processed point after the first: the output block goes from `x3` to `outB … x3`. -/
theorem kernelRun0_B (c : Dev nD) (i : grid0.Coords) (arg2 : Memref sig .tc .vmem S768x96 .bf16) (harg2 : arg2.IsWhole) (arg3 : Memref sig .tc .vmem S16x24x128 .i32) (harg3 : arg3.IsWhole) (arg4 : Memref sig .tc .vmem S16x128 .f32) (harg4 : arg4.IsWhole) (arg5 : Memref sig .tc .vmem S41x768x128 .f32) (harg5 : arg5.IsWhole) (hc0 : ¬k0_cond1 i = 1#1)
    (x0 : Vec F S768x96 .bf16) (x1 : Vec F S16x24x128 .i32) (x2 : Vec F S16x128 .f32) (x3 : Vec F S41x768x128 .f32) (xt0 : TbBuf0 (F := F) c tbM0_0) (hc2 : k0_cond2 i (wTot xt0) = 1#1)
    (k0_hw1 : k0_chk1 i (wTot xt0) (wBlk1 i xt0)) (k0_hw2 : k0_chk2 i (wTot xt0) (wBlk2 i xt0)) (k0_hw3 : k0_chk3 i (wTot xt0) (wBlk3 i xt0)) (k0_hw4 : k0_chk4 i (wTot xt0) (wBlk4 i xt0)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare (outB x0 x1 x2 (wBlk1 i xt0) (wBlk2 i xt0) (wBlk3 i xt0) (wBlk4 i xt0) x3) ∗ tbPt0 c tbM0_0 xt0) -∗ K ⟨⟩))
          ⊢ wp frame (wpE (defs₀ (F := F)) Variants.none c none) E (cc0_score_tokens i tbM0_0 htbM0_0 arg2 harg2 arg3 harg3 arg4 harg4 arg5 harg5) K := by
    intro E K
    simp only [cc0_score_tokens_eq_skeleton]; unfold cc0_score_tokens_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, HT0, Hk⟩
    obtain rfl := harg2.eq_unread hf0; obtain rfl := harg3.eq_unread hf1; obtain rfl := harg4.eq_unread hf2
    sl_exec (disch := first | sl_exact hc0 | sl_exact hc2 | sl_exact k0_hw1 | sl_exact k0_hw2 | sl_exact k0_hw3 | sl_exact k0_hw4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      unfold outB
      refine read_step arg5.view _ (wBlk4 i xt0) (off8_eq _) _ (payG4 x0 x1 x2) _ _ _ ?_ ?_
      · unfold payG4; dsimp only [kernelRun0_B.sl.v93, kernelRun0_B.sl.v139, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14]; simp only [readAt_unread]; try rfl
      unfold kernelRun0_B.sl.H3_3
      refine read_step arg5.view _ (wBlk3 i xt0) (off6_eq _) _ (payG3 x0 x1 x2) _ _ _ ?_ ?_
      · unfold payG3; dsimp only [kernelRun0_B.sl.v93, kernelRun0_B.sl.v139, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14]; simp only [readAt_unread]; try rfl
      unfold kernelRun0_B.sl.H3_2
      refine read_step arg5.view _ (wBlk2 i xt0) (off4_eq _) _ (payG2 x0 x1 x2) _ _ _ ?_ ?_
      · unfold payG2; dsimp only [kernelRun0_B.sl.v93, kernelRun0_B.sl.v139, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14]; simp only [readAt_unread]; try rfl
      unfold kernelRun0_B.sl.H3_1
      refine read_step arg5.view _ (wBlk1 i xt0) (rfl) _ (payG1 x0 x1 x2) _ _ _ ?_ ?_
      · unfold payG1; dsimp only [kernelRun0_B.sl.v93, kernelRun0_B.sl.v139, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14]; simp only [readAt_unread]; try rfl
      exact hf3
    iexact HT0

end Cert.KernelIdeal.Hand

end
-- ==== Proof.KernelIdeal.RunC.lean ====
/- The body's run at a point past the steps in use. -/
module

public import proofs.«01_k».proof.Proof.KernelIdeal.Out

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

-- variable (m : (ℓ : Loc nD τ sig) → Buf (Elt F) ℓ) (ρ : Dev nD → PrngReg)

attribute [local irreducible] k0_pay1 k0_pay2 k0_pay3 k0_pay4 k0_pay5 k0_pay6 k0_pay7 k0_pay8 k0_pay9 k0_pay10 k0_pay11 k0_pay12 k0_pay13 k0_pay14 k0_pay15

set_option maxHeartbeats 400000 in
/-- A point past the steps in use: the output block is left as it was. -/
theorem kernelRun0_C (c : Dev nD) (i : grid0.Coords) (arg2 : Memref sig .tc .vmem S768x96 .bf16) (harg2 : arg2.IsWhole) (arg3 : Memref sig .tc .vmem S16x24x128 .i32) (harg3 : arg3.IsWhole) (arg4 : Memref sig .tc .vmem S16x128 .f32) (harg4 : arg4.IsWhole) (arg5 : Memref sig .tc .vmem S41x768x128 .f32) (harg5 : arg5.IsWhole) (hc0 : ¬k0_cond1 i = 1#1)
    (x0 : Vec F S768x96 .bf16) (x1 : Vec F S16x24x128 .i32) (x2 : Vec F S16x128 .f32) (x3 : Vec F S41x768x128 .f32) (xt0 : TbBuf0 (F := F) c tbM0_0) (hc2 : ¬k0_cond2 i (wTot xt0) = 1#1) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare (x3) ∗ tbPt0 c tbM0_0 xt0) -∗ K ⟨⟩))
          ⊢ wp frame (wpE (defs₀ (F := F)) Variants.none c none) E (cc0_score_tokens i tbM0_0 htbM0_0 arg2 harg2 arg3 harg3 arg4 harg4 arg5 harg5) K := by
    intro E K
    simp only [cc0_score_tokens_eq_skeleton]; unfold cc0_score_tokens_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, HT0, Hk⟩
    obtain rfl := harg2.eq_unread hf0; obtain rfl := harg3.eq_unread hf1; obtain rfl := harg4.eq_unread hf2
    sl_exec (disch := first | sl_exact hc0 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      exact hf3
    iexact HT0

end Cert.KernelIdeal.Hand

end
-- ==== Proof.KernelIdeal.Frame.lean ====
/- The frame of the kernel with its output named: what the output block holds after every grid point, the proof data, the body's
   obligation at every point, the run, and the frame. -/
module

public import proofs.«01_k».proof.Proof.KernelIdeal.RunA
public import proofs.«01_k».proof.Proof.KernelIdeal.RunB
public import proofs.«01_k».proof.Proof.KernelIdeal.RunC
public import Idealize.ShloMosaic.Lib.Pipeline.Value

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the output block holds after each point -/

/-- The condition that a point is processed: its first step is among the steps in use. -/
abbrev proc (c : Dev nD) (t : Fin grid0.N) : Prop := k0_cond2 (grid0.coords t) (wTot (c := c) (tbl m 0)) = 1#1

/-- What a processed point `t` makes of contents `o` of the output block. -/
def outAt (hO : Ok m) (c : Dev nD) (t : Fin (cfgM m hO).N) (o : Vec F S41x768x128 .f32) : Vec F S41x768x128 .f32 :=
  outB (iblk m hO c 0 t) (iblk m hO c 1 t) (iblk m hO c 2 t) (wBlk1 (c := c) (grid0.coords t) (tbl m 0)) (wBlk2 (c := c) (grid0.coords t) (tbl m 0))
    (wBlk3 (c := c) (grid0.coords t) (tbl m 0)) (wBlk4 (c := c) (grid0.coords t) (tbl m 0)) o

/-- What the output block holds after point `n`: filled and processed at the first point, then processed or left. -/
def acc (hO : Ok m) (c : Dev nD) : ℕ → Vec F S41x768x128 .f32
  | 0 => outAt m hO c ⟨0, by rw [show (cfgM m hO).N = 208 from N_0]; omega⟩ (k0_pay1 (F := F))
  | n + 1 => if h : n + 1 < (cfgM m hO).N then
      (if proc m c ⟨n + 1, h⟩ then outAt m hO c ⟨n + 1, h⟩ (acc hO c n) else acc hO c n)
    else acc hO c n

theorem acc_zero (hO : Ok m) (c : Dev nD) (t : Fin (cfgM m hO).N) (h0 : t.val = 0) :
    acc m hO c t.val = outAt m hO c t (k0_pay1 (F := F)) := by
  obtain ⟨n, hn⟩ := t
  subst h0
  rfl

theorem acc_proc (hO : Ok m) (c : Dev nD) (t : Fin (cfgM m hO).N) (h0 : t.val ≠ 0) (hp : proc m c t) :
    acc m hO c t.val = outAt m hO c t (acc m hO c (t.val - 1)) := by
  obtain ⟨n, hn⟩ := t
  cases n with
  | zero => exact absurd rfl h0
  | succ k =>
    show (if h : k + 1 < (cfgM m hO).N then _ else _) = _
    rw [dif_pos hn, if_pos hp]; rfl

theorem acc_idle (hO : Ok m) (c : Dev nD) (t : Fin (cfgM m hO).N) (h0 : t.val ≠ 0) (hp : ¬ proc m c t) :
    acc m hO c t.val = acc m hO c (t.val - 1) := by
  obtain ⟨n, hn⟩ := t
  cases n with
  | zero => exact absurd rfl h0
  | succ k =>
    show (if h : k + 1 < (cfgM m hO).N then _ else _) = _
    rw [dif_pos hn, if_neg hp]; rfl

/-! ## The pipeline's proof data -/

/-- The proof data of the one pipeline on core `c`: after the body at point `t` each input's buffer at its block and the
    output at `acc`; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => acc m hO c t.val
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = acc m hO c t.val := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## Where the output is idle -/

theorem wTot_eq (c : Dev nD) : wTot (F := F) (c := c) (tbl m 0) = (tbl m : pre0.Contents (Elt F)).atD 0 ![1024] := by
  unfold wTot Pipeline.Prefetch.Contents.atD
  have hin : ∀ a : Fin 1, (![1024] : Fin 1 → Nat) a + 1 ≤ S1040.size a := by decide
  refine Eq.trans ?_ (dif_pos hin).symm
  show tbl m 0 _ = tbl m 0 _
  congr 1

/-- The output is idle at the points that neither fill nor process it. -/
theorem idle0_3 (hO : Ok m) (c : Dev nD) (t : Fin (cfgM m hO).N) :
    (cfgM m hO).idle 3 ((cfgM m hO).grid.coords t) = (!(k0_cond1 (grid0.coords t) == 1#1) && !(k0_cond2 (grid0.coords t) (wTot (c := c) (tbl m 0)) == 1#1)) := by
  rw [wTot_eq m c]; rfl

theorem cond1_iff (hO : Ok m) (t : Fin (cfgM m hO).N) : k0_cond1 (grid0.coords t) = 1#1 ↔ t.val = 0 := by
  have hN : t.val < 208 := lt_of_lt_of_eq t.isLt (show (cfgM m hO).N = 208 from N_0)
  have h := hcond0_0 t
  rw [Nat.mod_eq_of_lt hN] at h
  exact h

theorem flush_false (hO : Ok m) (t : Fin (cfgM m hO).N) (h : t.val ≠ 207) : ((cfgM m hO).win 3).flush t = false := by
  have hN : t.val < 208 := lt_of_lt_of_eq t.isLt (show (cfgM m hO).N = 208 from N_0)
  have := flush0_3 (adm m hO) t
  rw [Nat.mod_eq_of_lt hN] at this
  exact Bool.eq_false_iff.mpr fun e => h (this.mp e)

/-- After the first point the output's buffer holds what the body left in it: it is never fresh again. -/
theorem fresh_false (hO : Ok m) (c : Dev nD) : ∀ n, n ≠ 0 → n < 208 → (cfgM m hO).fresh 3 n = false
  | 0, h, _ => absurd rfl h
  | n + 1, _, hn => by
    have hN : n < (cfgM m hO).N := by rw [show (cfgM m hO).N = 208 from N_0]; omega
    rw [Pipeline.Cfg.fresh_succ _ _ n hN, flush_false m hO ⟨n, hN⟩ (by simp only; omega), Bool.false_or]
    rcases Nat.eq_zero_or_pos n with rfl | hp
    · rw [idle0_3 m hO c, (cond1_iff m hO ⟨0, hN⟩).mpr rfl]; rfl
    · rw [fresh_false hO c n (by omega) (by omega), Bool.and_false]

theorem before0_3 (hO : Ok m) (c : Dev nD) (t : Fin (cfgM m hO).N) (h0 : t.val ≠ 0) (d) :
    (dats m hO 0 c).before 3 t d = acc m hO c (t.val - 1) := by
  have hN : t.val < 208 := lt_of_lt_of_eq t.isLt (show (cfgM m hO).N = 208 from N_0)
  rw [(dats m hO 0 c).before_out_traj 3 rfl (fun _ _ => rfl) (fun u hu hi _ => ?_) t.val t rfl d, fresh_false m hO c t.val h0 hN, if_neg Bool.false_ne_true, after0_3]
  rw [after0_3, after0_3]
  refine acc_idle m hO c u hu fun hp => ?_
  rw [idle0_3 m hO c, show k0_cond2 (grid0.coords u) (wTot (c := c) (tbl m 0)) = 1#1 from hp, beq_self_eq_true, Bool.not_true, Bool.and_false] at hi
  exact Bool.false_ne_true hi

/-! ## The body obligation, at a generic point -/

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- the output's buffer as the body hands it back, -/
def post3 (hO : Ok m) (c : Dev nD) (t : Fin (cfgM m hO).N) : sProp 𝕄 :=
  match (cfgM m hO).idle 3 ((cfgM m hO).grid.coords t) with
  | true => match ((cfgM m hO).win 3).flush t with
    | false => iprop(∃ d, owns (c : Thread nD τ) (ms0_3 m hO t) fullShare ((dats m hO 0 c).before 3 t d))
    | true => owns (c : Thread nD τ) (ms0_3 m hO t) fullShare ((dats m hO 0 c).after 3 t)
  | false => owns (c : Thread nD τ) (ms0_3 m hO t) fullShare ((dats m hO 0 c).after 3 t)

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ post3 m hO c t)

/-- A buffer held at contents that are what some `e` gives is held at what `e` gives. -/
theorem owns_ex {sp : Space} {S : Shape} {e : EltTy} {α : Type} {c : Thread nD τ} {M : Memref sig c.2.kind sp S e} {q : PosShare TreeShare} (f : α → S.Idx → Elt F e) (X : S.Idx → Elt F e) (e0 : α) (h : f e0 = X) :
    (owns c M q X : sProp 𝕄) ⊢ iprop(∃ d, owns c M q (f d)) := by
  subst h
  iintro H
  iexists e0
  iexact H

/-- Whatever the point, a buffer holding `acc` at the point is what the body hands back. -/
theorem post3_of (hO : Ok m) (c : Dev nD) (t : Fin (cfgM m hO).N) (d : Vec F S41x768x128 .f32) (hd : d = acc m hO c t.val)
    (hb : (cfgM m hO).idle 3 ((cfgM m hO).grid.coords t) = true → ∀ e, (dats m hO 0 c).before 3 t e = acc m hO c t.val) :
    owns (c : Thread nD τ) (ms0_3 m hO t) fullShare d ⊢ post3 m hO c t := by
  subst hd
  unfold post3
  cases hi : (cfgM m hO).idle 3 ((cfgM m hO).grid.coords t)
  · dsimp only; rw [after0_3]
  · cases hf : ((cfgM m hO).win 3).flush t
    · dsimp only
      exact owns_ex (fun e => (dats m hO 0 c).before 3 t e) _ (acc m hO c t.val : Vec F S41x768x128 .f32) (hb hi _)
    · dsimp only; rw [after0_3]

set_option maxHeartbeats 800000 in
/-- The body at any point. -/
theorem sound_body (hO : Ok m) (hH : Hyps m hO) (h1 : ∀ c, proc m c ⟨0, by rw [N_0]; omega⟩) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq]
  have hid : (cfgM m hO).idle 3 ((cfgM m hO).grid.coords t) = true → t.val ≠ 0 ∧ ¬ proc m c t := fun hi => by
    rw [idle0_3 m hO c] at hi
    simp only [Bool.and_eq_true, Bool.not_eq_true', beq_eq_false_iff_ne] at hi
    exact ⟨fun h => hi.1 ((cond1_iff m hO t).mpr h), hi.2⟩
  have hb : (cfgM m hO).idle 3 ((cfgM m hO).grid.coords t) = true → ∀ e, (dats m hO 0 c).before 3 t e = acc m hO c t.val := fun hi e => by
    rw [before0_3 m hO c t (hid hi).1, acc_idle m hO c t (hid hi).1 (hid hi).2]
  by_cases h0 : t.val = 0
  · have hp : proc m c t := by
      have e : t = ⟨0, by rw [show (cfgM m hO).N = 208 from N_0]; omega⟩ := Fin.ext h0
      rw [e]; exact h1 c
    have ea : outAt m hO c t (k0_pay1 (F := F)) = acc m hO c t.val := (acc_zero m hO c t h0).symm
    iintro ⟨⟨HΦ, HT0⟩, Ho, ⟨%d0, H0⟩, ⟨%d1, H1⟩, ⟨%d2, H2⟩, ⟨%d3, H3⟩⟩
    iapply (kernelRun0_A c (grid0.coords t) _ _ _ _ _ _ _ _ ((cond1_iff m hO t).mpr h0) (iblk m hO c 0 t) (iblk m hO c 1 t) (iblk m hO c 2 t) (tbl m 0) hp (hH c t).1 (hH c t).2.1 (hH c t).2.2.1 (hH c t).2.2.2 Set.univ _)
    isplitl [H0]; · iexact H0
    isplitl [H1]; · iexact H1
    isplitl [H2]; · iexact H2
    isplitl [H3]; · iexists _; iexact H3
    isplitl [HT0]; · iexact HT0
    iintro ⟨H0, H1, H2, H3, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    iapply (post3_of m hO c t _ (ea) hb)
    iexact H3
  · by_cases hp : proc m c t
    · simp only [before0_3 m hO c t h0]
      iintro ⟨⟨HΦ, HT0⟩, Ho, ⟨%d0, H0⟩, ⟨%d1, H1⟩, ⟨%d2, H2⟩, ⟨%d3, H3⟩⟩
      iapply (kernelRun0_B c (grid0.coords t) _ _ _ _ _ _ _ _ (fun h => h0 ((cond1_iff m hO t).mp h)) (iblk m hO c 0 t) (iblk m hO c 1 t) (iblk m hO c 2 t) (acc m hO c (t.val - 1)) (tbl m 0) hp (hH c t).1 (hH c t).2.1 (hH c t).2.2.1 (hH c t).2.2.2 Set.univ _)
      isplitl [H0]; · iexact H0
      isplitl [H1]; · iexact H1
      isplitl [H2]; · iexact H2
      isplitl [H3]; · iexact H3
      isplitl [HT0]; · iexact HT0
      iintro ⟨H0, H1, H2, H3, HT0⟩
      isplitl [HΦ HT0]
      · isplitl [HΦ]
        · iexact HΦ
        iexact HT0
      isplitl [Ho]; · iexact Ho
      isplitl [H0]; · iexact H0
      isplitl [H1]; · iexact H1
      isplitl [H2]; · iexact H2
      iapply (post3_of m hO c t _ ((acc_proc m hO c t h0 hp).symm) hb)
      iexact H3
    · simp only [before0_3 m hO c t h0]
      iintro ⟨⟨HΦ, HT0⟩, Ho, ⟨%d0, H0⟩, ⟨%d1, H1⟩, ⟨%d2, H2⟩, ⟨%d3, H3⟩⟩
      iapply (kernelRun0_C c (grid0.coords t) _ _ _ _ _ _ _ _ (fun h => h0 ((cond1_iff m hO t).mp h)) (iblk m hO c 0 t) (iblk m hO c 1 t) (iblk m hO c 2 t) (acc m hO c (t.val - 1)) (tbl m 0) hp Set.univ _)
      isplitl [H0]; · iexact H0
      isplitl [H1]; · iexact H1
      isplitl [H2]; · iexact H2
      isplitl [H3]; · iexact H3
      isplitl [HT0]; · iexact HT0
      iintro ⟨H0, H1, H2, H3, HT0⟩
      isplitl [HΦ HT0]
      · isplitl [HΦ]
        · iexact HΦ
        iexact HT0
      isplitl [Ho]; · iexact Ho
      isplitl [H0]; · iexact H0
      isplitl [H1]; · iexact H1
      isplitl [H2]; · iexact H2
      iapply (post3_of m hO c t _ ((acc_idle m hO c t h0 hp).symm) hb)
      iexact H3

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligation (hO : Ok m) (hH : Hyps m hO) (h1 : ∀ c, proc m c ⟨0, by rw [N_0]; omega⟩) (c : Dev nD) :
    BodyObligation (dats (F := F) m hO 0 c) (defs₀ (F := F)) Variants.none () Set.univ := fun t => by
  rw [bigSep_W0, bigSep_W0, defs₀_row m hO]
  exact triple_restated (sound_body m hO hH h1 c t) rfl .rfl fun _ => .rfl

/-! ## The run and the frame -/

set_option backward.isDefEq.respectTransparency.types false in
/-- The run: every array of the pipeline ends at what its write-backs left, every other unscoped buffer unchanged, every
    counter zero. -/
theorem run_main (hO : Ok m) (hH : Hyps m hO) (h1 : ∀ c, proc m c ⟨0, by rw [N_0]; omega⟩) :
    θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP (Q' := _) pcfgs (fun _ => adm m hO) (dats m hO) (0 : Fin 1) launch0 defs₀ Variants.none m ρ main
    (hbody := fun c => (body_obligation m hO hH h1 c).loose) (hshare := fun c => (dats m hO 0 c).share_full fun _ => rfl)
    (howed := fun _ _ => rfl) (V := V m) (hmain := hmain m Variants.none) (hA := A_eq m hO) (hpf := V_pre m) (hΦ := fun _ _ => rfl)

/-- The output array at the end of the run: its one block, as the last point leaves it. -/
theorem arr_out (hO : Ok m) (c : Dev nD) :
    (dats m hO 0 c).arrAt 3 (cfgM m hO).N = (acc m hO c 207 : Vec F S41x768x128 .f32) := by
  have hN : (cfgM m hO).N = 208 := N_0
  have h207 : 207 < (cfgM m hO).N := by rw [hN]; omega
  have only : ∀ t : Fin (cfgM m hO).N, ((cfgM m hO).win 3).flush t = true → t.val = 207 := fun t hf => by
    by_contra h
    rw [flush_false m hO t h] at hf
    exact absurd hf (by decide)
  have hfl : ((cfgM m hO).win 3).flush ⟨207, h207⟩ = true := (flush0_3 (adm m hO) ⟨207, h207⟩).mpr rfl
  funext i
  have key := (dats m hO 0 c).arrAt_emb_eq_flushed 3
    (fun t t' hf hf' hne => absurd (Fin.ext ((only t hf).trans (only t' hf').symm)) hne) ⟨207, h207⟩ hfl i
  have e : (((cfgM m hO).win 3).blk ⟨207, h207⟩).view.emb i = i := by
    funext a
    apply Fin.ext
    refine (Pipeline.Window.rect_emb_val ((cfgM m hO).win 3) ⟨207, h207⟩ i a).trans ?_
    fin_cases a <;> exact Nat.zero_add _
  refine (congrArg _ e.symm).trans (key.trans ?_)
  rfl

/-- The frame, with the output array's contents named: the argument arrays end unchanged, the counters at zero. -/
theorem frame_out (hO : Ok m) (hH : Hyps m hO) (h1 : ∀ c, proc m c ⟨0, by rw [N_0]; omega⟩) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v0) = (acc m hO c 207 : Vec F S41x768x128 .f32))
      ∧ r.2.sem = fun _ => 0) :=
  (θ_run defs _ _).mono (fun _ h => ⟨fun c => ⟨((h.1 c).2 main_arg0 (by decide : main_arg0 ∈ Pipeline.restRefs sig spec0)).trans (V_main_arg0 m c),
      ((h.1 c).1 0).trans (((dats m hO 0 c).arrAt_in 0 rfl _).trans ((A_eq m hO c 0).trans (V_main_arg1 m c))),
      ((h.1 c).1 1).trans (((dats m hO 0 c).arrAt_in 1 rfl _).trans ((A_eq m hO c 1).trans (V_main_arg2 m c))),
      ((h.1 c).1 2).trans (((dats m hO 0 c).arrAt_in 2 rfl _).trans ((A_eq m hO c 2).trans (V_main_arg3 m c))),
      ((h.1 c).1 3).trans (arr_out m hO c)⟩, h.2⟩) (run_main m ρ hO hH h1)

/-- The frame alone. -/
theorem frame (hO : Ok m) (hH : Hyps m hO) (h1 : ∀ c, proc m c ⟨0, by rw [N_0]; omega⟩) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1, (h.1 c).2.1, (h.1 c).2.2.1, (h.1 c).2.2.2.1⟩, h.2⟩) (frame_out m ρ hO hH h1)

end Cert.KernelIdeal.Hand

end
-- ==== Proof.KernelIdeal.Pre.lean ====
/- From the precondition on the table: the pipeline's side condition of the blocks the index maps name, the side conditions the
   body assumes of the groups' words, and which points are processed. -/
module

public import proofs.«01_k».proof.Proof.KernelIdeal.Frame
public import proofs.«01_k».proof.Proof.Tables

@[expose] public section

set_option maxRecDepth 16384

noncomputable section

namespace Cert.KernelIdeal.Hand

open Idealize.ShloMosaic Idealize.ShloMosaic.TcCoe
open Cert.KernelIdeal Cert.KernelIdeal.Gen
open Cert.Tables (word Good)

variable {F : FTy → Type} [FloatOps F]
variable (m : (ℓ : Loc nD τ sig) → Buf (Elt F) ℓ)

/-- The table, as the kernel's launch memory holds it. -/
abbrev table : IVec Cert.Pre_tables_ok.S1040 32 := m (((0 : Dev nD) : Thread nD τ).loc main_arg0)

theorem coords_lt (i : grid0.Coords) : (i 0).val < 208 := (i 0).isLt

/-! ## The words the body and the index maps read -/

theorem wTot_word (c : Dev nD) : wTot (F := F) (c := c) (tbl m 0) = word (table m) 1024 :=
  Tables.word_of (table m) 1024 _ rfl

theorem off_eq (i : grid0.Coords) (k : ℕ) (hk : k < 4) :
    (Scalar.indexCast (Scalar.addi (Scalar.muli (BitVec.ofNat 32 (i 0).val) 4#32) (BitVec.ofNat 32 k))).toNat = 4 * (i 0).val + k := by
  have h := coords_lt i
  show (BitVec.ofNat 32 (i 0).val * BitVec.ofNat 32 4 + BitVec.ofNat 32 k).toNat = _
  rw [← BitVec.ofNat_mul, ← BitVec.ofNat_add, WordCmp.toNat_ofNat_of_lt (by omega)]
  omega

/-- Group `k` of point `i`, as a table index. -/
abbrev grp (i : grid0.Coords) (k : ℕ) (hk : k < 4) : Fin 832 := ⟨4 * (i 0).val + k, by have := coords_lt i; omega⟩

theorem wBlk1_word (c : Dev nD) (i : grid0.Coords) : wBlk1 (F := F) (c := c) i (tbl m 0) = word (table m) ((grp i 0 (by omega)).castLE (by omega)) :=
  Tables.word_of (table m) _ _ (off_eq i 0 (by omega))
theorem wBlk2_word (c : Dev nD) (i : grid0.Coords) : wBlk2 (F := F) (c := c) i (tbl m 0) = word (table m) ((grp i 1 (by omega)).castLE (by omega)) :=
  Tables.word_of (table m) _ _ (off_eq i 1 (by omega))
theorem wBlk3_word (c : Dev nD) (i : grid0.Coords) : wBlk3 (F := F) (c := c) i (tbl m 0) = word (table m) ((grp i 2 (by omega)).castLE (by omega)) :=
  Tables.word_of (table m) _ _ (off_eq i 2 (by omega))
theorem wBlk4_word (c : Dev nD) (i : grid0.Coords) : wBlk4 (F := F) (c := c) i (tbl m 0) = word (table m) ((grp i 3 (by omega)).castLE (by omega)) :=
  Tables.word_of (table m) _ _ (off_eq i 3 (by omega))

/-! ## The blocks in bounds -/

/-- The block index of windows 1 and 2 at point `i`: `i` itself, or the last block in use. -/
def bix (i : grid0.Coords) : ℕ := (Scalar.minsi (BitVec.ofNat 32 (i 0).val) (Tables.floor16 (Scalar.subi (word (table m) 1024) 1#32))).toNat

theorem transform1 (i : grid0.Coords) : cc0_transform_1 inb_S1040_S1_1024 numel1_S1 (tbl m : pre0.Contents (Elt F)) i = ![bix m i, 0, 0] := by
  unfold bix
  rw [← wTot_word m 0]
  rfl
theorem transform2 (i : grid0.Coords) : cc0_transform_2 inb_S1040_S1_1024 numel1_S1 (tbl m : pre0.Contents (Elt F)) i = ![bix m i, 0] := by
  unfold bix
  rw [← wTot_word m 0]
  rfl

theorem bix_eq (hG : Good (table m)) (i : grid0.Coords) : (bix m i : Int) = min ((i 0).val : Int) (((word (table m) 1024).toInt - 1) / 16) :=
  Tables.index_toNat _ (coords_lt i) _ hG.tot
theorem bix_le (hG : Good (table m)) (i : grid0.Coords) : bix m i ≤ (i 0).val := by
  have := bix_eq m hG i
  omega

theorem ok_of (hG : Good (table m)) : Ok m := by
  refine ⟨fun i => ⟨?_, Or.inl rfl⟩, fun i => ⟨?_, Or.inl rfl⟩⟩
  · have h := bix_le m hG i
    have hi := coords_lt i
    rw [transform1 m i]
    intro a
    fin_cases a
    · show (bix m i + 1) * 16 ≤ 3328; omega
    · show (0 + 1) * 24 ≤ 24; omega
    · show (0 + 1) * 128 ≤ 128; omega
  · have h := bix_le m hG i
    have hi := coords_lt i
    rw [transform2 m i]
    intro a
    fin_cases a
    · show (bix m i + 1) * 16 ≤ 3328; omega
    · show (0 + 1) * 128 ≤ 128; omega

/-! ## The slabs in bounds -/

theorem toNat_le (w : BitVec 32) (h0 : 0 ≤ w.toInt) (h : w.toInt ≤ 40) : w.toNat ≤ 40 := by
  have := BitVec.toInt_eq_toNat_cond w
  split at this <;> omega

theorem slab_in (w : BitVec 32) (h0 : 0 ≤ w.toInt) (h : w.toInt ≤ 40) : ∀ a, k0_off2 w a + S1x768x128.size a ≤ S41x768x128.size a := by
  have := toNat_le w h0 h
  intro a
  fin_cases a
  · show w.toNat + 1 ≤ 41; omega
  · show 0 + 768 ≤ 768; omega
  · show 0 + 128 ≤ 128; omega

theorem hyps_of (hG : Good (table m)) (hO : Ok m) : Hyps m hO := by
  intro c t
  rw [wBlk1_word, wBlk2_word, wBlk3_word, wBlk4_word]
  exact ⟨fun _ => slab_in _ (hG.lo _) (hG.hi _), fun _ => slab_in _ (hG.lo _) (hG.hi _), fun _ => slab_in _ (hG.lo _) (hG.hi _),
    fun _ => slab_in _ (hG.lo _) (hG.hi _)⟩

/-! ## The points processed -/

theorem cond2_iff (i : grid0.Coords) (T : BitVec 32) : k0_cond2 i T = 1#1 ↔ 16 * ((i 0).val : Int) < T.toInt := by
  have hi := coords_lt i
  have e : (Scalar.muli (BitVec.ofNat 32 (i 0).val) 16#32).toInt = 16 * ((i 0).val : Int) := by
    show (BitVec.ofNat 32 (i 0).val * BitVec.ofNat 32 16).toInt = _
    rw [← BitVec.ofNat_mul, WordCmp.toInt_ofNat_of_lt (by omega)]
    push_cast; omega
  show Scalar.cmpi .ne (Scalar.extui (Scalar.cmpi .slt (Scalar.muli (BitVec.ofNat 32 (i 0).val) 16#32) T)) 0#32 = 1#1 ↔ _
  rw [Scalar.guard_iff]
  show BitVec.ofBool (decide ((Scalar.muli (BitVec.ofNat 32 (i 0).val) 16#32).toInt < T.toInt)) = 1#1 ↔ _
  rw [e]
  by_cases h : 16 * ((i 0).val : Int) < T.toInt <;> simp [h]

theorem coords_val (t : Fin grid0.N) : (grid0.coords t 0).val = t.val := by
  have ht : t.val < 208 := Nat.lt_of_lt_of_eq t.isLt N_0
  have e0 : (grid0.coords t 0).val = t.val / 1 % 208 := Pipeline.Grid.coords_val t 0 (by decide) rfl
  omega

theorem proc_iff (c : Dev nD) (t : Fin grid0.N) : proc m c t ↔ 16 * (t.val : Int) < (word (table m) 1024).toInt := by
  unfold proc
  rw [wTot_word, cond2_iff, coords_val]

theorem proc_zero (hG : Good (table m)) (c : Dev nD) : proc m c ⟨0, by rw [N_0]; omega⟩ := by
  rw [proc_iff]
  have := hG.tot
  simp only
  omega

end Cert.KernelIdeal.Hand

end
-- ==== Proof.Reference.lean ====
/- The reference's run. -/
module

public import proofs.«01_k».proof.Proof.Gen.ReferenceIdeal
public import proofs.«01_k».proof.Proof.Gen.ReferenceIdeal.Frame
public import proofs.«01_k».proof.Proof.Gen.ReferenceIdeal.Run
public import proofs.«01_k».proof.Proof.Gen.ReferenceIdeal.Read
-- ==== Proof.Score.lean ====
/- What the claim is about, in plain terms: a step's elements decoded from its words, a step's score, and a block's score, the greatest
   of its steps'. -/
module

public import Idealize.ShloMosaic.Lib.BitcastFour
public import Idealize.ShloMosaic.Lib.ValueIdx
public import Idealize.ShloMosaic.PureOps.Ideal.Laws

@[expose] public section

noncomputable section

namespace Cert.Score

open Idealize.ShloMosaic Idealize.ShloMosaic.ValueIdx

/-- Byte `k` of a word, the lowest byte first. -/
def byte (w : BitVec 32) (k : ℕ) : BitVec 8 := BitVec.extractLsb' (8 * k) 8 w

/-- The words of one step seen as bytes: row `d` is byte `d % 4` of word row `d / 4`. -/
theorem bitcast_step (x : IVec ⟨2, ![24, 128]⟩ 32) (h : (⟨2, ![24, 128]⟩ : Shape).Bitcasts 32 ⟨2, ![96, 128]⟩ 8) (d : Fin 96) (l : Fin 128) :
    bitcast ⟨2, ![96, 128]⟩ 8 x h (ix2 d l) = byte (x (ix2 ⟨d.val / 4, by omega⟩ l)) (d.val % 4) := by
  apply BitVec.eq_of_getLsbD_eq
  intro i hi
  rw [bitcast_getLsbD x h _ i hi (by decide)]
  unfold byte
  rw [BitVec.getLsbD_extractLsb', decide_eq_true hi, Bool.true_and]
  have hr : (⟨2, ![96, 128]⟩ : Shape).row (ix2 d l) = d.val := rfl
  have e1 : (d.val * 8 + i) % 32 = 8 * (d.val % 4) + i := by omega
  have e2 : (d.val * 8 + i) / 32 = d.val / 4 := by omega
  rw [← e1]
  refine congrArg₂ (fun (a : BitVec 32) n => a.getLsbD n) (congrArg x ?_) (by rw [hr])
  funext c
  match c with
  | ⟨0, _⟩ => exact Fin.ext ((h.srcIdx_row _ _ _ ⟨0, Nat.zero_lt_two⟩ rfl).trans (by rw [hr]; exact e2))
  | ⟨1, _⟩ => exact Fin.ext (h.srcIdx_other _ _ _ ⟨1, Nat.one_lt_two⟩ (by show ¬ 1 + 2 = 2; omega))

/-- The words of all the steps seen as bytes. -/
theorem bitcast_steps (x : IVec ⟨3, ![3328, 24, 128]⟩ 32) (h : (⟨3, ![3328, 24, 128]⟩ : Shape).Bitcasts 32 ⟨3, ![3328, 96, 128]⟩ 8)
    (t : Fin 3328) (d : Fin 96) (l : Fin 128) :
    bitcast ⟨3, ![3328, 96, 128]⟩ 8 x h (ix3 t d l) = byte (x (ix3 t ⟨d.val / 4, by omega⟩ l)) (d.val % 4) := by
  apply BitVec.eq_of_getLsbD_eq
  intro i hi
  rw [bitcast_getLsbD x h _ i hi (by decide)]
  unfold byte
  rw [BitVec.getLsbD_extractLsb', decide_eq_true hi, Bool.true_and]
  have hr : (⟨3, ![3328, 96, 128]⟩ : Shape).row (ix3 t d l) = d.val := rfl
  have e1 : (d.val * 8 + i) % 32 = 8 * (d.val % 4) + i := by omega
  have e2 : (d.val * 8 + i) / 32 = d.val / 4 := by omega
  rw [← e1]
  refine congrArg₂ (fun (a : BitVec 32) n => a.getLsbD n) (congrArg x ?_) (by rw [hr])
  funext c
  match c with
  | ⟨0, _⟩ => exact Fin.ext (h.srcIdx_other _ _ _ ⟨0, by show 0 < 3; omega⟩ (by show ¬ 0 + 2 = 3; omega))
  | ⟨1, _⟩ => exact Fin.ext ((h.srcIdx_row _ _ _ ⟨1, by show 1 < 3; omega⟩ rfl).trans (by rw [hr]; exact e2))
  | ⟨2, _⟩ => exact Fin.ext (h.srcIdx_other _ _ _ ⟨2, by show 2 < 3; omega⟩ (by show ¬ 2 + 2 = 3; omega))

/-- The number a byte of a word stands for. -/
def elt (w : BitVec 32) (k : ℕ) : EReal := FloatOps.ofBits (F := Ideal) .fp8e4m3 (byte w k)

/-- The queries, the words and the scales, as arrays. -/
abbrev Queries := (⟨2, ![768, 96]⟩ : Shape).Idx → EReal
abbrev Words := (⟨3, ![3328, 24, 128]⟩ : Shape).Idx → BitVec 32
abbrev Scales := (⟨2, ![3328, 128]⟩ : Shape).Idx → EReal

/-- Step `t`'s score of query row `r` at lane `l`. -/
def sc (q : Queries) (w : Words) (s : Scales) (t : Fin 3328) (r : Fin 768) (l : Fin 128) : EReal :=
  (∑ d : Fin 96, q (ix2 r d) * elt (w (ix3 t ⟨d.val / 4, by omega⟩ l)) (d.val % 4)) * s (ix2 t l)

/-- What step `t` offers block `b`: its score if its group's word is `b`, else nothing. -/
def offer (blk : ℕ → ℕ) (q : Queries) (w : Words) (s : Scales) (b : ℕ) (r : Fin 768) (l : Fin 128) (t : ℕ) : EReal :=
  if h : t < 3328 then (if blk (t / 4) = b then sc q w s ⟨t, h⟩ r l else ⊥) else ⊥

/-- The greatest of what the first `n` steps offer. -/
def best (g : ℕ → EReal) (n : ℕ) : EReal := (Finset.range n).sup g

theorem best_zero (g : ℕ → EReal) : best g 0 = ⊥ := rfl

theorem best_four (g : ℕ → EReal) (n : ℕ) : best g (n + 4) = max (best g n) (max (max (max (g n) (g (n + 1))) (g (n + 2))) (g (n + 3))) := by
  unfold best
  rw [Finset.range_add_one, Finset.range_add_one, Finset.range_add_one, Finset.range_add_one]
  simp only [Finset.sup_insert]
  rw [sup_comm, sup_comm (g (n + 2)), sup_comm (g (n + 1)), sup_comm (g n)]
  simp only [sup_assoc]

/-- Steps that offer nothing change nothing. -/
theorem best_stay (g : ℕ → EReal) (n k : ℕ) (h : ∀ t, n ≤ t → t < n + k → g t = ⊥) : best g (n + k) = best g n := by
  induction k with
  | zero => rfl
  | succ k ih =>
    have e : best g (n + (k + 1)) = g (n + k) ⊔ best g (n + k) := by
      unfold best
      rw [← Nat.add_assoc, Finset.range_add_one, Finset.sup_insert]
    rw [e, h (n + k) (by omega) (by omega), bot_sup_eq, ih fun t h1 h2 => h t h1 (by omega)]

end Cert.Score

end
-- ==== Proof.KernelIdeal.Payload.lean ====
/- What one group's payload is, element by element, in the ideal program. -/
module

public import proofs.«01_k».proof.Proof.KernelIdeal.Out
public import proofs.«01_k».proof.Proof.Score
public import Idealize.ShloMosaic.Lib.MatmulPlain
public import Idealize.ShloMosaic.Lib.Pipeline.Value

@[expose] public section

set_option maxRecDepth 16384

noncomputable section

namespace Cert.KernelIdeal.Hand

open Idealize.ShloMosaic Idealize.ShloMosaic.TcCoe Idealize.ShloMosaic.ValueIdx
open Cert.KernelIdeal Cert.KernelIdeal.Gen
open Cert.Score (elt byte)

/-- The product of the queries with four steps' elements side by side. -/
abbrev prod (q : FVec Ideal S768x96 .bf16) (v1 v2 v3 v4 : FVec Ideal S96x128 .fp8e4m3) : FVec Ideal S768x512 .f32 :=
  matmul dot_S768x96_S96x512_S768x512_1_0_0_1_n_n none q
    (concatenate S96x512 1 [⟨S96x128, v1⟩, ⟨S96x128, v2⟩, ⟨S96x128, v3⟩, ⟨S96x128, v4⟩] concatenates_S96x128_S96x128_S96x128_S96x128_S96x512_d1)
    (constant S768x512 .f32 0x00000000#32)

theorem dot_plain : dot_S768x96_S96x512_S768x512_1_0_0_1_n_n = DotDims.plain 768 96 512 := rfl

/-- Lanes `128 k` to `128 k + 127` of the product are step `k`'s: the sum over the 96 coordinates. -/
theorem prod_apply (q : FVec Ideal S768x96 .bf16) (v1 v2 v3 v4 : FVec Ideal S96x128 .fp8e4m3) (r : Fin 768) (l : Fin 128) (c : Fin 512)
    (v : FVec Ideal S96x128 .fp8e4m3) (k : ℕ) (hk : k < 4) (hv : ([v1, v2, v3, v4] : List (FVec Ideal S96x128 .fp8e4m3))[k] = v) (hc : c.val = 128 * k + l.val) :
    prod q v1 v2 v3 v4 (ix2 r c) = ∑ d : Fin 96, q (ix2 r d) * v (ix2 d l) := by
  have key := Ideal.matmul_plain_apply (M := 768) (K := 96) (N := 512) (φ₁ := .bf16) (φ₂ := .fp8e4m3) none q
    (concatenate S96x512 1 [⟨S96x128, v1⟩, ⟨S96x128, v2⟩, ⟨S96x128, v3⟩, ⟨S96x128, v4⟩] concatenates_S96x128_S96x128_S96x128_S96x128_S96x512_d1)
    (constant S768x512 .f32 0x00000000#32) r c
  refine Eq.trans key ?_
  rw [show (constant S768x512 .f32 0x00000000#32 : FVec Ideal S768x512 .f32) (ix2 r c) = (0 : EReal) from Ideal.ofBits_zero_f32, zero_add]
  refine Finset.sum_congr rfl fun d _ => congrArg (fun z : EReal => q (ix2 r d) * z) ?_
  refine concatenate_apply_piece (t := S96x512) 1 [⟨S96x128, v1⟩, ⟨S96x128, v2⟩, ⟨S96x128, v3⟩, ⟨S96x128, v4⟩] _ (ix2 d c) k hk S96x128 v ?_ rfl (128 * k) ?_ (ix2 d l) ?_ ?_
  · interval_cases k <;> (subst hv; rfl)
  · interval_cases k <;> rfl
  · intro b hb
    fin_cases b
    · rfl
    · exact absurd rfl hb
  · exact hc.symm

/-- One step's elements decoded from its words. -/
abbrev dec (v : Vec Ideal S1x24x128 .i32) : FVec Ideal S96x128 .fp8e4m3 :=
  bitcastToFloat .fp8e4m3 (bitcast S96x128 8 (shapeCast S24x128 v shapeCasts_S1x24x128_S24x128 : IVec S24x128 32) bitcasts_S24x128_w32_S96x128_w8)

theorem dec_apply (v : Vec Ideal S1x24x128 .i32) (d : Fin 96) (l : Fin 128) :
    dec v (ix2 d l) = elt (v (ix3 0 ⟨d.val / 4, by omega⟩ l)) (d.val % 4) := by
  unfold dec bitcastToFloat elt
  refine congrArg _ ((Cert.Score.bitcast_step _ _ d l).trans (congrArg (fun z => byte z (d.val % 4)) ?_))
  refine (shapeCast_dropUnit_apply (n := 2) ![24, 128] v shapeCasts_S1x24x128_S24x128 _).trans (congrArg v ?_)
  funext a
  fin_cases a <;> rfl

/-- One step's score within a group: its lanes of the product times its scales. -/
theorem term_apply (q : FVec Ideal S768x96 .bf16) (v1 v2 v3 v4 : FVec Ideal S96x128 .fp8e4m3) (z : Vec Ideal S1x128 .f32) (r : Fin 768) (l : Fin 128)
    (v : FVec Ideal S96x128 .fp8e4m3) (k : ℕ) (hk : k < 4) (hv : ([v1, v2, v3, v4] : List (FVec Ideal S96x128 .fp8e4m3))[k] = v)
    (hs : S768x512.Slices ![0, 128 * k] S768x128) :
    mulf (extractStridedSlice S768x128 ![0, 128 * k] (prod q v1 v2 v3 v4) hs) (broadcastTo S768x128 z broadcasts_S1x128_S768x128) (ix2 r l)
      = (∑ d : Fin 96, q (ix2 r d) * v (ix2 d l)) * z (ix2 0 l) := by
  have e1 : extractStridedSlice S768x128 ![0, 128 * k] (prod q v1 v2 v3 v4) hs (ix2 r l) = ∑ d : Fin 96, q (ix2 r d) * v (ix2 d l) := by
    refine (extractStridedSlice_apply _ _ hs (ix2 r l) (ix2 r ⟨128 * k + l.val, by omega⟩) fun a => ?_).trans (prod_apply q v1 v2 v3 v4 r l _ v k hk hv rfl)
    fin_cases a
    · exact (Nat.zero_add _).symm
    · rfl
  have e2 : broadcastTo S768x128 z broadcasts_S1x128_S768x128 (ix2 r l) = z (ix2 0 l) := by
    refine broadcastTo_apply z _ (ix2 r l) (ix2 0 l) fun a => ?_
    fin_cases a <;> rfl
  exact congrArg₂ (fun a b : EReal => a * b) e1 e2

/-- The greatest of a group's four step scores. -/
abbrev four (q : FVec Ideal S768x96 .bf16) (v1 v2 v3 v4 : FVec Ideal S96x128 .fp8e4m3) (z1 z2 z3 z4 : Vec Ideal S1x128 .f32) : FVec Ideal S768x128 .f32 :=
  maximumf (maximumf (maximumf (mulf (extractStridedSlice S768x128 ![0, 0] (prod q v1 v2 v3 v4) slices_S768x512_o0_0_S768x128) (broadcastTo S768x128 z1 broadcasts_S1x128_S768x128))
    (mulf (extractStridedSlice S768x128 ![0, 128] (prod q v1 v2 v3 v4) slices_S768x512_o0_128_S768x128) (broadcastTo S768x128 z2 broadcasts_S1x128_S768x128)))
    (mulf (extractStridedSlice S768x128 ![0, 256] (prod q v1 v2 v3 v4) slices_S768x512_o0_256_S768x128) (broadcastTo S768x128 z3 broadcasts_S1x128_S768x128)))
    (mulf (extractStridedSlice S768x128 ![0, 384] (prod q v1 v2 v3 v4) slices_S768x512_o0_384_S768x128) (broadcastTo S768x128 z4 broadcasts_S1x128_S768x128))

theorem four_apply (q : FVec Ideal S768x96 .bf16) (v1 v2 v3 v4 : FVec Ideal S96x128 .fp8e4m3) (z1 z2 z3 z4 : Vec Ideal S1x128 .f32) (r : Fin 768) (l : Fin 128) :
    four q v1 v2 v3 v4 z1 z2 z3 z4 (ix2 r l) = max (max (max ((∑ d : Fin 96, q (ix2 r d) * v1 (ix2 d l)) * z1 (ix2 0 l)) ((∑ d : Fin 96, q (ix2 r d) * v2 (ix2 d l)) * z2 (ix2 0 l)))
      ((∑ d : Fin 96, q (ix2 r d) * v3 (ix2 d l)) * z3 (ix2 0 l))) ((∑ d : Fin 96, q (ix2 r d) * v4 (ix2 d l)) * z4 (ix2 0 l)) :=
  congrArg₂ (max : EReal → EReal → EReal) (congrArg₂ (max : EReal → EReal → EReal) (congrArg₂ (max : EReal → EReal → EReal)
    (term_apply q v1 v2 v3 v4 z1 r l v1 0 (by omega) rfl slices_S768x512_o0_0_S768x128) (term_apply q v1 v2 v3 v4 z2 r l v2 1 (by omega) rfl slices_S768x512_o0_128_S768x128))
    (term_apply q v1 v2 v3 v4 z3 r l v3 2 (by omega) rfl slices_S768x512_o0_256_S768x128)) (term_apply q v1 v2 v3 v4 z4 r l v4 3 (by omega) rfl slices_S768x512_o0_384_S768x128)

/-- A group's payload: what was there, joined with the greatest of the four. -/
abbrev join (old : Vec Ideal S1x768x128 .f32) (v : FVec Ideal S768x128 .f32) : FVec Ideal S1x768x128 .f32 :=
  shapeCast S1x768x128 (maximumf (shapeCast S768x128 old shapeCasts_S1x768x128_S768x128) v) shapeCasts_S768x128_S1x768x128

theorem join_apply (old : Vec Ideal S1x768x128 .f32) (v : FVec Ideal S768x128 .f32) (r : Fin 768) (l : Fin 128) :
    join old v (ix3 0 r l) = (max (old (ix3 0 r l)) (v (ix2 r l)) : EReal) := by
  refine (shapeCast_apply _ _ (ix3 0 r l) (ix2 r l) ?_).trans (congrArg (fun z : EReal => max z (v (ix2 r l))) ?_)
  · rw [Shape.rowMajor_val_two, Shape.rowMajor_val_three]; show r.val * 128 + l.val = (0 * 768 + r.val) * 128 + l.val; omega
  · refine (shapeCast_dropUnit_apply (n := 2) ![768, 128] old shapeCasts_S1x768x128_S768x128 _).trans (congrArg old ?_)
    funext a
    fin_cases a <;> rfl

/-! ## The four payloads -/

variable (x0 : Vec Ideal S768x96 .bf16) (x1 : Vec Ideal S16x24x128 .i32) (x2 : Vec Ideal S16x128 .f32)

/-- Step `k`'s score among the point's sixteen. -/
def stepScore (k : Fin 16) (r : Fin 768) (l : Fin 128) : EReal :=
  (∑ d : Fin 96, (x0 (ix2 r d) : EReal) * elt (x1 (ix3 k ⟨d.val / 4, by omega⟩ l)) (d.val % 4)) * (x2 (ix2 k l) : EReal)

/-- A window of one step's words, of one step's scales, and of the queries, at an element. -/
theorem win1 (k : ℕ) (hk : k < 16) (h : ∀ a, (![k, 0, 0] : Fin 3 → ℕ) a + S1x24x128.size a ≤ S16x24x128.size a) (d : Fin 24) (l : Fin 128) :
    VecWindow.window x1 ![k, 0, 0] S1x24x128.size h (ix3 0 d l) = x1 (ix3 ⟨k, hk⟩ d l) := by
  refine congrArg x1 (funext fun a => Fin.ext ?_)
  fin_cases a
  · show k + 1 * 0 = k; omega
  · show 0 + 1 * d.val = d.val; omega
  · show 0 + 1 * l.val = l.val; omega

theorem win2 (k : ℕ) (hk : k < 16) (h : ∀ a, (![k, 0] : Fin 2 → ℕ) a + S1x128.size a ≤ S16x128.size a) (l : Fin 128) :
    VecWindow.window x2 ![k, 0] S1x128.size h (ix2 0 l) = x2 (ix2 ⟨k, hk⟩ l) := by
  refine congrArg x2 (funext fun a => Fin.ext ?_)
  fin_cases a
  · show k + 1 * 0 = k; omega
  · show 0 + 1 * l.val = l.val; omega

theorem win0 (h : ∀ a, (![0, 0] : Fin 2 → ℕ) a + S768x96.size a ≤ S768x96.size a) (r : Fin 768) (d : Fin 96) :
    VecWindow.window x0 ![0, 0] S768x96.size h (ix2 r d) = x0 (ix2 r d) := by
  refine congrArg x0 (funext fun a => Fin.ext ?_)
  fin_cases a
  · show 0 + 1 * r.val = r.val; omega
  · show 0 + 1 * d.val = d.val; omega

theorem score_of (k : ℕ) (hk : k < 16) (h0 h1 h2) (r : Fin 768) (l : Fin 128) :
    (∑ d : Fin 96, VecWindow.window x0 ![0, 0] S768x96.size h0 (ix2 r d) * dec (VecWindow.window x1 ![k, 0, 0] S1x24x128.size h1) (ix2 d l))
      * VecWindow.window x2 ![k, 0] S1x128.size h2 (ix2 0 l) = stepScore x0 x1 x2 ⟨k, hk⟩ r l := by
  unfold stepScore
  refine congrArg₂ (fun a b : EReal => a * b) (Finset.sum_congr rfl fun d _ => congrArg₂ (fun a b : EReal => a * b) (win0 x0 h0 r d) ?_) (win2 x2 k hk h2 l)
  rw [dec_apply, win1 x1 k hk]

/-- The greatest of the four steps from `k` on. -/
def bestFour (k : ℕ) (hk : k + 3 < 16) (r : Fin 768) (l : Fin 128) : EReal :=
  max (max (max (stepScore x0 x1 x2 ⟨k, by omega⟩ r l) (stepScore x0 x1 x2 ⟨k + 1, by omega⟩ r l)) (stepScore x0 x1 x2 ⟨k + 2, by omega⟩ r l))
    (stepScore x0 x1 x2 ⟨k + 3, hk⟩ r l)

theorem payG1_apply (old : Vec Ideal S1x768x128 .f32) (r : Fin 768) (l : Fin 128) :
    payG1 x0 x1 x2 old (ix3 0 r l) = (max (old (ix3 0 r l)) (bestFour x0 x1 x2 0 (by omega) r l) : EReal) := by
  refine (join_apply old (four _ (dec _) (dec _) (dec _) (dec _) _ _ _ _) r l).trans ?_
  rw [four_apply, score_of x0 x1 x2 0 (by omega), score_of x0 x1 x2 1 (by omega), score_of x0 x1 x2 2 (by omega), score_of x0 x1 x2 3 (by omega)]
  rfl
theorem payG2_apply (old : Vec Ideal S1x768x128 .f32) (r : Fin 768) (l : Fin 128) :
    payG2 x0 x1 x2 old (ix3 0 r l) = (max (old (ix3 0 r l)) (bestFour x0 x1 x2 4 (by omega) r l) : EReal) := by
  refine (join_apply old (four _ (dec _) (dec _) (dec _) (dec _) _ _ _ _) r l).trans ?_
  rw [four_apply, score_of x0 x1 x2 4 (by omega), score_of x0 x1 x2 5 (by omega), score_of x0 x1 x2 6 (by omega), score_of x0 x1 x2 7 (by omega)]
  rfl
theorem payG3_apply (old : Vec Ideal S1x768x128 .f32) (r : Fin 768) (l : Fin 128) :
    payG3 x0 x1 x2 old (ix3 0 r l) = (max (old (ix3 0 r l)) (bestFour x0 x1 x2 8 (by omega) r l) : EReal) := by
  refine (join_apply old (four _ (dec _) (dec _) (dec _) (dec _) _ _ _ _) r l).trans ?_
  rw [four_apply, score_of x0 x1 x2 8 (by omega), score_of x0 x1 x2 9 (by omega), score_of x0 x1 x2 10 (by omega), score_of x0 x1 x2 11 (by omega)]
  rfl
theorem payG4_apply (old : Vec Ideal S1x768x128 .f32) (r : Fin 768) (l : Fin 128) :
    payG4 x0 x1 x2 old (ix3 0 r l) = (max (old (ix3 0 r l)) (bestFour x0 x1 x2 12 (by omega) r l) : EReal) := by
  refine (join_apply old (four _ (dec _) (dec _) (dec _) (dec _) _ _ _ _) r l).trans ?_
  rw [four_apply, score_of x0 x1 x2 12 (by omega), score_of x0 x1 x2 13 (by omega), score_of x0 x1 x2 14 (by omega), score_of x0 x1 x2 15 (by omega)]
  rfl

end Cert.KernelIdeal.Hand

end
-- ==== Proof.KernelIdeal.Value.lean ====
/- What the output array holds at the end of the ideal program's run: at block `b`, the greatest score of the steps whose group's
   word is `b`. -/
module

public import proofs.«01_k».proof.Proof.KernelIdeal.Payload
public import proofs.«01_k».proof.Proof.KernelIdeal.Pre

@[expose] public section

set_option maxRecDepth 16384

noncomputable section

namespace Cert.KernelIdeal.Hand

open Idealize.ShloMosaic Idealize.ShloMosaic.TcCoe Idealize.ShloMosaic.ValueIdx
open Cert.KernelIdeal Cert.KernelIdeal.Gen
open Cert.Tables (word Good)
open Cert.Score (sc offer best)

/-- One group's step on the output at block `b`: joined if the group's word is `b`, else left. -/
theorem step_apply (w : BitVec 32) (o : Vec Ideal S41x768x128 .f32) (pay : Vec Ideal S1x768x128 .f32 → Vec Ideal S1x768x128 .f32) (x : Fin 768 → Fin 128 → EReal)
    (hpay : ∀ old r l, pay old (ValueIdx.ix3 0 r l) = (max (old (ValueIdx.ix3 0 r l)) (x r l) : EReal))
    (hw : ∀ a, k0_off2 w a + S1x768x128.size a ≤ S41x768x128.size a) (b : Fin 41) (r : Fin 768) (l : Fin 128) :
    step w o pay (ValueIdx.ix3 b r l) = (max (o (ValueIdx.ix3 b r l)) (if w.toNat = b.val then x r l else ⊥) : EReal) := by
  rw [step_of w o pay hw]
  unfold VecWindow.put
  by_cases h : w.toNat = b.val
  · have hin : ∀ a, k0_off2 w a ≤ ((ValueIdx.ix3 b r l : S41x768x128.Idx) a).val ∧ ((ValueIdx.ix3 b r l : S41x768x128.Idx) a).val < k0_off2 w a + S1x768x128.size a := by
      intro a
      fin_cases a
      · show w.toNat ≤ b.val ∧ b.val < w.toNat + 1; omega
      · show 0 ≤ r.val ∧ r.val < 0 + 768; omega
      · show 0 ≤ l.val ∧ l.val < 0 + 128; omega
    rw [dif_pos hin, if_pos h]
    have e : Rect.unitLocal (s := S41x768x128) (off := k0_off2 w) (size := S1x768x128.size) (ValueIdx.ix3 b r l) hin = (ValueIdx.ix3 0 r l : S1x768x128.Idx) := by
      funext a
      apply Fin.ext
      fin_cases a
      · show b.val - w.toNat = 0; omega
      · show r.val - 0 = r.val; omega
      · show l.val - 0 = l.val; omega
    rw [e, hpay]
    refine congrArg (fun z : EReal => max z (x r l)) (congrArg o (funext fun a => Fin.ext ?_))
    fin_cases a
    · show w.toNat + 1 * 0 = b.val; omega
    · show 0 + 1 * r.val = r.val; omega
    · show 0 + 1 * l.val = l.val; omega
  · have hin : ¬ ∀ a, k0_off2 w a ≤ ((ValueIdx.ix3 b r l : S41x768x128.Idx) a).val ∧ ((ValueIdx.ix3 b r l : S41x768x128.Idx) a).val < k0_off2 w a + S1x768x128.size a := fun hin => by
      have := hin 0
      have h0 : w.toNat ≤ b.val ∧ b.val < w.toNat + 1 := this
      omega
    rw [dif_neg hin, if_neg h]
    exact (sup_bot_eq _).symm

/-- The four groups' steps on the output at block `b`. -/
theorem outB_apply (x0 : Vec Ideal S768x96 .bf16) (x1 : Vec Ideal S16x24x128 .i32) (x2 : Vec Ideal S16x128 .f32) (w1 w2 w3 w4 : BitVec 32) (o : Vec Ideal S41x768x128 .f32)
    (h1 : ∀ a, k0_off2 w1 a + S1x768x128.size a ≤ S41x768x128.size a) (h2 : ∀ a, k0_off2 w2 a + S1x768x128.size a ≤ S41x768x128.size a)
    (h3 : ∀ a, k0_off2 w3 a + S1x768x128.size a ≤ S41x768x128.size a) (h4 : ∀ a, k0_off2 w4 a + S1x768x128.size a ≤ S41x768x128.size a)
    (b : Fin 41) (r : Fin 768) (l : Fin 128) :
    outB x0 x1 x2 w1 w2 w3 w4 o (ValueIdx.ix3 b r l)
      = (max (max (max (max (o (ValueIdx.ix3 b r l)) (if w1.toNat = b.val then bestFour x0 x1 x2 0 (by omega) r l else ⊥)) (if w2.toNat = b.val then bestFour x0 x1 x2 4 (by omega) r l else ⊥))
        (if w3.toNat = b.val then bestFour x0 x1 x2 8 (by omega) r l else ⊥)) (if w4.toNat = b.val then bestFour x0 x1 x2 12 (by omega) r l else ⊥) : EReal) := by
  unfold outB
  rw [step_apply w4 _ _ _ (payG4_apply x0 x1 x2) h4, step_apply w3 _ _ _ (payG3_apply x0 x1 x2) h3, step_apply w2 _ _ _ (payG2_apply x0 x1 x2) h2,
    step_apply w1 _ _ _ (payG1_apply x0 x1 x2) h1]

variable (m : (ℓ : Loc nD τ sig) → Buf (Elt Ideal) ℓ)

/-- The queries, the words and the scales as the launch memory holds them. -/
abbrev mq : Cert.Score.Queries := m (((0 : Dev nD) : Thread nD τ).loc main_arg1)
abbrev mw : Cert.Score.Words := m (((0 : Dev nD) : Thread nD τ).loc main_arg2)
abbrev ms : Cert.Score.Scales := m (((0 : Dev nD) : Thread nD τ).loc main_arg3)

theorem ibix (hG : Good (table m)) (t : Fin grid0.N) (hp : 16 * (t.val : Int) < (word (table m) 1024).toInt) : bix m (grid0.coords t) = t.val := by
  have h := bix_eq m hG (grid0.coords t)
  rw [coords_val] at h
  omega

/-- At a processed point the blocks staged are the queries, and the point's own sixteen steps' words and scales. -/
theorem iblk0_apply (hO : Ok m) (c : Dev nD) (t : Fin (cfgM m hO).N) (r : Fin 768) (d : Fin 96) :
    (iblk m hO c 0 t : Vec Ideal S768x96 .bf16) (ValueIdx.ix2 r d) = mq m (ValueIdx.ix2 r d) := by
  obtain rfl : c = 0 := Subsingleton.elim _ _
  unfold iblk
  refine (congrFun (V_main_arg1 m 0) _).trans (congrArg (mq m) (funext fun a => Fin.ext ?_))
  refine (Pipeline.Window.rect_emb_val ((cfgM m hO).win 0) t (ValueIdx.ix2 r d) a).trans ?_
  fin_cases a <;> exact Nat.zero_add _

theorem iblk1_apply (hO : Ok m) (hG : Good (table m)) (c : Dev nD) (t : Fin (cfgM m hO).N) (hp : 16 * (t.val : Int) < (word (table m) 1024).toInt)
    (k : Fin 16) (d : Fin 24) (l : Fin 128) (h : 16 * t.val + k.val < 3328) :
    (iblk m hO c 1 t : Vec Ideal S16x24x128 .i32) (ValueIdx.ix3 k d l) = mw m (ValueIdx.ix3 ⟨16 * t.val + k.val, h⟩ d l) := by
  obtain rfl : c = 0 := Subsingleton.elim _ _
  have hb := ibix m hG t hp
  have ht := transform1 m (grid0.coords t)
  unfold iblk
  refine (congrFun (V_main_arg2 m 0) _).trans (congrArg (mw m) (funext fun a => Fin.ext ?_))
  refine (Pipeline.Window.rect_emb_val ((cfgM m hO).win 1) t (ValueIdx.ix3 k d l) a).trans ?_
  have e : ((cfgM m hO).win 1).index t a = (![bix m (grid0.coords t), 0, 0] : Fin 3 → ℕ) a := congrFun ht a
  rw [e]
  fin_cases a
  · show bix m (grid0.coords t) * 16 + k.val = 16 * t.val + k.val; omega
  · show 0 * 24 + d.val = d.val; omega
  · show 0 * 128 + l.val = l.val; omega

theorem iblk2_apply (hO : Ok m) (hG : Good (table m)) (c : Dev nD) (t : Fin (cfgM m hO).N) (hp : 16 * (t.val : Int) < (word (table m) 1024).toInt)
    (k : Fin 16) (l : Fin 128) (h : 16 * t.val + k.val < 3328) :
    (iblk m hO c 2 t : Vec Ideal S16x128 .f32) (ValueIdx.ix2 k l) = ms m (ValueIdx.ix2 ⟨16 * t.val + k.val, h⟩ l) := by
  obtain rfl : c = 0 := Subsingleton.elim _ _
  have hb := ibix m hG t hp
  have ht := transform2 m (grid0.coords t)
  unfold iblk
  refine (congrFun (V_main_arg3 m 0) _).trans (congrArg (ms m) (funext fun a => Fin.ext ?_))
  refine (Pipeline.Window.rect_emb_val ((cfgM m hO).win 2) t (ValueIdx.ix2 k l) a).trans ?_
  have e : ((cfgM m hO).win 2).index t a = (![bix m (grid0.coords t), 0] : Fin 2 → ℕ) a := congrFun ht a
  rw [e]
  fin_cases a
  · show bix m (grid0.coords t) * 16 + k.val = 16 * t.val + k.val; omega
  · show 0 * 128 + l.val = l.val; omega

/-- The block the table gives group `g`. -/
def blk (a : IVec Cert.Pre_tables_ok.S1040 32) (g : ℕ) : ℕ := if h : g < 1040 then (word a ⟨g, h⟩).toNat else 0

/-- What the steps offer block `b` at a row and lane. -/
abbrev off (b : ℕ) (r : Fin 768) (l : Fin 128) : ℕ → EReal := offer (blk (table m)) (mq m) (mw m) (ms m) b r l

/-- A group's four steps' greatest, if the group's word is `b`, is the greatest of what the four offer `b`. -/
theorem group_eq (hO : Ok m) (hG : Good (table m)) (c : Dev nD) (t : Fin (cfgM m hO).N) (hp : 16 * (t.val : Int) < (word (table m) 1024).toInt)
    (j : ℕ) (hj : j < 4) (b : ℕ) (r : Fin 768) (l : Fin 128) :
    (if (word (table m) ((grp (grid0.coords t) j hj).castLE (by omega))).toNat = b then
        bestFour (iblk m hO c 0 t) (iblk m hO c 1 t) (iblk m hO c 2 t) (4 * j) (by omega) r l else ⊥)
      = max (max (max (off m b r l (16 * t.val + 4 * j)) (off m b r l (16 * t.val + 4 * j + 1))) (off m b r l (16 * t.val + 4 * j + 2))) (off m b r l (16 * t.val + 4 * j + 3)) := by
  have hN : t.val < 208 := lt_of_lt_of_eq t.isLt (show (cfgM m hO).N = 208 from N_0)
  have hs : ∀ (i : ℕ) (hi : i < 4), off m b r l (16 * t.val + 4 * j + i)
      = if (word (table m) ((grp (grid0.coords t) j hj).castLE (by omega))).toNat = b then stepScore (iblk m hO c 0 t) (iblk m hO c 1 t) (iblk m hO c 2 t) ⟨4 * j + i, by omega⟩ r l else ⊥ := by
    intro i hi
    have hlt : 16 * t.val + 4 * j + i < 3328 := by omega
    unfold off offer
    rw [dif_pos hlt]
    have eb : blk (table m) ((16 * t.val + 4 * j + i) / 4) = (word (table m) ((grp (grid0.coords t) j hj).castLE (by omega))).toNat := by
      unfold blk
      rw [dif_pos (by omega)]
      refine congrArg (fun n => (word (table m) n).toNat) (Fin.ext ?_)
      show (16 * t.val + 4 * j + i) / 4 = 4 * (grid0.coords t 0).val + j
      rw [coords_val]; omega
    have es : sc (mq m) (mw m) (ms m) ⟨16 * t.val + 4 * j + i, hlt⟩ r l
        = stepScore (iblk m hO c 0 t) (iblk m hO c 1 t) (iblk m hO c 2 t) ⟨4 * j + i, by omega⟩ r l := by
      have e3 : (⟨16 * t.val + 4 * j + i, hlt⟩ : Fin 3328) = ⟨16 * t.val + (4 * j + i), by omega⟩ := Fin.ext (by simp only; omega)
      unfold sc stepScore
      rw [iblk2_apply m hO hG c t hp ⟨4 * j + i, by omega⟩ l (by simp only; omega), e3]
      refine congrArg (fun z : EReal => z * _) (Finset.sum_congr rfl fun d _ => ?_)
      rw [iblk0_apply, iblk1_apply m hO hG c t hp ⟨4 * j + i, by omega⟩ _ l (by simp only; omega)]
    rw [eb, es]
  rw [show off m b r l (16 * t.val + 4 * j) = _ from hs 0 (by omega), hs 1 (by omega), hs 2 (by omega), hs 3 (by omega)]
  by_cases h : (word (table m) ((grp (grid0.coords t) j hj).castLE (by omega))).toNat = b
  · simp only [if_pos h]; rfl
  · simp only [if_neg h, max_self]

/-- A processed point adds its sixteen steps' offers. -/
theorem outAt_apply (hO : Ok m) (hG : Good (table m)) (c : Dev nD) (t : Fin (cfgM m hO).N) (hp : 16 * (t.val : Int) < (word (table m) 1024).toInt)
    (o : Vec Ideal S41x768x128 .f32) (b : Fin 41) (r : Fin 768) (l : Fin 128) (ho : o (ValueIdx.ix3 b r l) = best (off m b.val r l) (16 * t.val)) :
    outAt m hO c t o (ValueIdx.ix3 b r l) = best (off m b.val r l) (16 * t.val + 16) := by
  have hH := hyps_of m hG hO c t
  have hslab : ∀ n : Fin 832, ∀ a, k0_off2 (word (table m) (n.castLE (by omega))) a + S1x768x128.size a ≤ S41x768x128.size a := fun n => slab_in _ (hG.lo _) (hG.hi _)
  unfold outAt
  rw [wBlk1_word, wBlk2_word, wBlk3_word, wBlk4_word]
  refine (outB_apply (iblk m hO c 0 t) (iblk m hO c 1 t) (iblk m hO c 2 t) _ _ _ _ o (hslab _) (hslab _) (hslab _) (hslab _) b r l).trans ?_
  rw [ho, show 16 * t.val + 16 = 16 * t.val + 4 + 4 + 4 + 4 by omega, Cert.Score.best_four, Cert.Score.best_four, Cert.Score.best_four, Cert.Score.best_four]
  exact congrArg₂ max (congrArg₂ max (congrArg₂ max (congrArg₂ max rfl (group_eq m hO hG c t hp 0 (by omega) b.val r l))
    (group_eq m hO hG c t hp 1 (by omega) b.val r l)) (group_eq m hO hG c t hp 2 (by omega) b.val r l)) (group_eq m hO hG c t hp 3 (by omega) b.val r l)

/-- The steps of a point not processed offer nothing below block 40. -/
theorem idle_off (hG : Good (table m)) (n : ℕ) (hn : n < 208) (hp : ¬ 16 * (n : Int) < (word (table m) 1024).toInt) (b : ℕ) (hb : b < 40) (r : Fin 768) (l : Fin 128)
    (t : ℕ) (h1 : 16 * n ≤ t) (h2 : t < 16 * n + 16) : off m b r l t = ⊥ := by
  have hlt : t < 3328 := by omega
  unfold off offer
  rw [dif_pos hlt]
  refine if_neg fun e => ?_
  have hu := hG.used ⟨t / 4, by omega⟩
  unfold blk at e
  rw [dif_pos (by omega)] at e
  rcases hu with hu | hu
  · have h4 : (4 * ((t / 4 : ℕ) : Int)) < (word (table m) 1024).toInt := hu
    omega
  · have hw : (word (table m) ⟨t / 4, by omega⟩).toInt = 40 := hu
    have := BitVec.toInt_eq_toNat_cond (word (table m) ⟨t / 4, by omega⟩)
    split at this <;> omega

/-- After point `n` the output holds the greatest of what the first `16 (n + 1)` steps offer. -/
theorem acc_apply (hO : Ok m) (hG : Good (table m)) (c : Dev nD) (b : Fin 41) (hb : b.val < 40) (r : Fin 768) (l : Fin 128) (n : ℕ) (hn : n < 208) :
    acc m hO c n (ValueIdx.ix3 b r l) = best (off m b.val r l) (16 * n + 16) := by
  have hN : (cfgM m hO).N = 208 := N_0
  induction n with
  | zero =>
    have hp : 16 * ((0 : ℕ) : Int) < (word (table m) 1024).toInt := by have := hG.tot; omega
    exact outAt_apply m hO hG c ⟨0, by rw [hN]; omega⟩ hp _ b r l
      (by show (k0_pay1 (F := Ideal) (ValueIdx.ix3 b r l) : EReal) = ⊥
          exact (by simp [Ideal.ofBits, Ideal.ieee] : Ideal.ofBits .f32 0xFF800000#32 = ⊥))
  | succ k ih =>
    have hk : k + 1 < (cfgM m hO).N := by rw [hN]; exact hn
    have ih' := ih (by omega)
    by_cases hp : proc m c ⟨k + 1, hk⟩
    · rw [show acc m hO c (k + 1) = outAt m hO c ⟨k + 1, hk⟩ (acc m hO c k) from acc_proc m hO c ⟨k + 1, hk⟩ (by simp) hp]
      exact outAt_apply m hO hG c ⟨k + 1, hk⟩ ((proc_iff m c _).mp hp) _ b r l ih'
    · rw [show acc m hO c (k + 1) = acc m hO c k from acc_idle m hO c ⟨k + 1, hk⟩ (by simp) hp, ih']
      have hp' := fun h => hp ((proc_iff m c _).mpr h)
      exact (Cert.Score.best_stay _ (16 * (k + 1)) 16 fun t h1 h2 => idle_off m hG (k + 1) hn hp' b.val hb r l t h1 h2).symm

/-- What the kernel leaves at block `b`. -/
theorem out_apply (hO : Ok m) (hG : Good (table m)) (c : Dev nD) (b : Fin 41) (hb : b.val < 40) (r : Fin 768) (l : Fin 128) :
    acc m hO c 207 (ValueIdx.ix3 b r l) = best (off m b.val r l) 3328 := acc_apply m hO hG c b hb r l 207 (by omega)

end Cert.KernelIdeal.Hand

end
-- ==== Proof.RefValue.lean ====
/- What the reference's ideal program computes: at block `b`, the greatest score of the steps whose group's word is `b`. -/
module

public import proofs.«01_k».proof.Proof.Reference
public import proofs.«01_k».proof.Proof.Score
public import proofs.«01_k».proof.Proof.Tables
public import Idealize.ShloMosaic.Lib.Pipeline.ValueKit.Basic

@[expose] public section

set_option maxRecDepth 16384

noncomputable section

namespace Cert.ReferenceIdeal.Hand

open Idealize.ShloMosaic Idealize.ShloMosaic.TcCoe
open Cert.ReferenceIdeal Cert.ReferenceIdeal.Gen Cert.ReferenceIdeal.Read
open Cert.Tables (word)
open Cert.Score (elt sc offer best)

variable (m : (ℓ : Loc nD τ sig) → Buf (Elt Ideal) ℓ)

/-- The steps' words as the launch memory holds them. -/
abbrev rw2 (c : Dev nD) : Cert.Score.Words := m ((c : Thread nD τ).loc main_arg2)

/-- The decoding's payload at an element. -/
theorem pay_apply (v : Vec Ideal S3328x24x128 .i32) (t : Fin 3328) (d : Fin 96) (l : Fin 128) :
    (k0_pay1 (F := Ideal) v : S3328x96x128.Idx → EReal) (ValueIdx.ix3 t d l) = elt (v (ValueIdx.ix3 t ⟨d.val / 4, by omega⟩ l)) (d.val % 4) := by
  have e := Cert.Score.bitcast_steps v bitcasts_S3328x24x128_w32_S3328x96x128_w8 t d l
  unfold k0_pay1 elt
  rw [← e]
  rfl

/-- The launch has one point. -/
theorem one_point (t t' : Fin cfg0.N) : t = t' := Fin.ext (by
  have h : cfg0.N = 1 := rfl
  have := t.isLt; have := t'.isLt; omega)

/-- The decoded array is what its one launch stores. -/
theorem reg_out {F : FTy → Type} [FloatOps F] (m : (ℓ : Loc nD τ sig) → Buf (Elt F) ℓ) (c : Dev nD) (p : Fin cfg0.N) (i : S3328x96x128.Idx) :
    (Value.reg_main_v0 m c : Vec F S3328x96x128 .bf16) i = out0_1 (iblk m c 0 p) i := by
  have key := (dats m 0 c).arrAt_emb_eq_flushed 1 (fun t t' _ _ hne => absurd (one_point t t') hne) p (flush0_1 p) i
  have e : ((cfg0.win 1).blk p).view.emb i = i := by
    funext a
    apply Fin.ext
    refine (Pipeline.Window.rect_emb_val (cfg0.win 1) p i a).trans ?_
    fin_cases a <;> exact Nat.zero_add _
  have hf : (dats m 0 c).flushed 1 p = out0_1 (iblk m c 0 p) := after0_1 m c p
  refine (congrArg _ e.symm).trans (key.trans ?_)
  exact congrFun hf i

/-- What is stored is the payload of the words. -/
theorem out_pay {F : FTy → Type} [FloatOps F] (x : Vec F S3328x24x128 .i32) : out0_1 x = k0_pay1 x := by
  unfold out0_1
  rw [View.canon_cons_unit_lit _ _ _ (by decide), View.ld_unit_lit _ _ (by decide)]

/-- The launch reads the whole words array. -/
theorem words_apply {F : FTy → Type} [FloatOps F] (m : (ℓ : Loc nD τ sig) → Buf (Elt F) ℓ) (c : Dev nD) (p : Fin cfg0.N) (i : S3328x24x128.Idx) :
    (iblk m c 0 p : Vec F S3328x24x128 .i32) i = (m ((c : Thread nD τ).loc main_arg2) : Vec F S3328x24x128 .i32) i := by
  unfold iblk
  refine (congrFun (V_main_arg2 m c) _).trans (congrArg (m ((c : Thread nD τ).loc main_arg2)) (funext fun a => Fin.ext ?_))
  refine (Pipeline.Window.rect_emb_val (cfg0.win 0) p i a).trans ?_
  fin_cases a <;> exact Nat.zero_add _

/-- What the decoding leaves: each element of each step, from its byte. -/
theorem reg_apply (c : Dev nD) (t : Fin 3328) (d : Fin 96) (l : Fin 128) :
    (Value.reg_main_v0 m c : S3328x96x128.Idx → EReal) (ValueIdx.ix3 t d l) = elt (rw2 m c (ValueIdx.ix3 t ⟨d.val / 4, by omega⟩ l)) (d.val % 4) := by
  have p : Fin cfg0.N := ⟨0, by decide⟩
  have e1 := reg_out m c p (ValueIdx.ix3 t d l)
  have e2 := congrFun (out_pay (F := Ideal) (iblk m c 0 p)) (ValueIdx.ix3 t d l)
  have e3 := pay_apply (iblk m c 0 p) t d l
  exact e1.trans (e2.trans (e3.trans (congrArg (fun z => elt z (d.val % 4)) (words_apply m c p _))))

/-- The greatest over the steps, one by one. -/
theorem sup_eq_best (g : Fin 3328 → EReal) : (Finset.univ : Finset (Fin 3328)).sup g = best (fun t => if h : t < 3328 then g ⟨t, h⟩ else ⊥) 3328 := by
  unfold best
  apply le_antisymm
  · refine Finset.sup_le fun t _ => ?_
    have := Finset.le_sup (f := fun t => if h : t < 3328 then g ⟨t, h⟩ else ⊥) (Finset.mem_range.mpr t.isLt)
    rwa [dif_pos t.isLt] at this
  · refine Finset.sup_le fun t ht => ?_
    rw [dif_pos (Finset.mem_range.mp ht)]
    exact Finset.le_sup (f := g) (Finset.mem_univ _)

theorem red_fact : S41x3328x768x128.Reduces [1] S41x768x128 := by decide

/-- The reference's greatest over the steps, at an element. -/
theorem v16_apply (x0 : (⟨S1040, .i32⟩ : BufTy).Contents (Elt Ideal)) (x1 : (⟨S768x96, .bf16⟩ : BufTy).Contents (Elt Ideal)) (x3 : (⟨S3328x128, .f32⟩ : BufTy).Contents (Elt Ideal))
    (r0 : (⟨S3328x96x128, .bf16⟩ : BufTy).Contents (Elt Ideal)) (b : Fin 41) (r : Fin 768) (l : Fin 128) :
    (val_main_v16 (F := Ideal) x0 x1 x3 r0 : S41x768x128.Idx → EReal) (ValueIdx.ix3 b r l)
      = (Finset.univ : Finset (Fin 3328)).sup fun t => (val_main_v15 (F := Ideal) x0 x1 x3 r0 : S41x3328x768x128.Idx → EReal) (ValueIdx.ix4 b t r l) := by
  unfold val_main_v16
  refine (Host.reduce_eq_fold_single (max : EReal → EReal → EReal) (val_main_v15 (F := Ideal) x0 x1 x3 r0 : S41x3328x768x128.Idx → EReal) (val_main_cst_0 (F := Ideal) : S_.Idx → EReal)
    reducesTo_S41x3328x768x128_S41x768x128_d1 red_fact h_S_ (ValueIdx.ix3 b r l)).trans ?_
  have ei : (val_main_cst_0 (F := Ideal) : S_.Idx → EReal) (Shape.Idx.first h_S_) = ⊥ :=
    (by simp [Ideal.ofBits, Ideal.ieee] : Ideal.ofBits .f32 0xFF800000#32 = ⊥)
  rw [ei]
  have el : ∀ t : Fin 3328, red_fact.lift (ValueIdx.ix3 b r l) t = ValueIdx.ix4 b t r l := fun t => by
    funext a
    apply Fin.ext
    refine (red_fact.lift_val (ValueIdx.ix3 b r l) t a).trans ?_
    fin_cases a <;> rfl
  show (Finset.univ : Finset (Fin 3328)).sup (fun t => (val_main_v15 (F := Ideal) x0 x1 x3 r0 : S41x3328x768x128.Idx → EReal) (red_fact.lift (ValueIdx.ix3 b r l) t)) = _
  refine congrArg _ (funext fun t => ?_)
  rw [el]

/-- The table's word of a step's group, and a step's score, as the reference reads them. -/
theorem v15_apply (x0 : (⟨S1040, .i32⟩ : BufTy).Contents (Elt Ideal)) (x1 : (⟨S768x96, .bf16⟩ : BufTy).Contents (Elt Ideal)) (x3 : (⟨S3328x128, .f32⟩ : BufTy).Contents (Elt Ideal))
    (r0 : (⟨S3328x96x128, .bf16⟩ : BufTy).Contents (Elt Ideal)) (b : Fin 41) (t : Fin 3328) (r : Fin 768) (l : Fin 128) :
    (val_main_v15 (F := Ideal) x0 x1 x3 r0 : S41x3328x768x128.Idx → EReal) (ValueIdx.ix4 b t r l)
      = if (word x0 ⟨t.val / 4, by omega⟩).toNat = b.val then
          (∑ d : Fin 96, (x1 (ValueIdx.ix2 r d) : EReal) * r0 (ValueIdx.ix3 t d l)) * (x3 (ValueIdx.ix2 t l) : EReal) else ⊥ := by
  rw [val_main_v15_apply, val_main_call0_v1_apply, val_main_v13_apply, val_main_v12_apply, val_main_v11_apply, val_main_v9_apply, val_main_v8_apply, val_main_v7_apply, val_main_v6_apply,
    val_main_v10_apply, val_main_call0_v2_apply, val_main_v14_apply, val_main_v5_apply, val_main_v2_apply, val_main_v1_apply, val_main_v4_apply, val_main_v3_apply, val_main_call0_v3_apply,
    val_main_call0_v0_apply, val_main_cst_apply]
  have ew : x0 (idx_main_v6 (idx_main_v7 (idx_main_v8 (idx_main_v9 (idx_main_v11 (idx_main_v13 (idx_main_call0_v1 (ValueIdx.ix4 b t r l)))))))) = word x0 ⟨t.val / 4, by omega⟩ :=
    Cert.Tables.word_of x0 _ _ rfl
  have es : (∑ k : Fin 96, r0 (lidx_main_v1 (idx_main_v2 (idx_main_v14 (idx_main_call0_v2 (ValueIdx.ix4 b t r l)))) k)
        * x1 (ridx_main_v1 (idx_main_v2 (idx_main_v14 (idx_main_call0_v2 (ValueIdx.ix4 b t r l)))) k) : EReal)
      = ∑ d : Fin 96, (x1 (ValueIdx.ix2 r d) : EReal) * r0 (ValueIdx.ix3 t d l) := by
    refine Finset.sum_congr rfl fun d _ => ?_
    rw [mul_comm]
    refine congrArg₂ (fun p q : EReal => p * q) (congrArg x1 (funext fun a => ?_)) (congrArg r0 (funext fun a => ?_)) <;> fin_cases a <;> rfl
  have ez : x3 (idx_main_v3 (idx_main_v4 (idx_main_v14 (idx_main_call0_v2 (ValueIdx.ix4 b t r l))))) = x3 (ValueIdx.ix2 t l) :=
    congrArg x3 (funext fun a => by fin_cases a <;> rfl)
  rw [ew, es, ez]
  have hb : (FloatOps.ofBits (F := Ideal) .f32 0xFF800000#32 : EReal) = ⊥ := (by simp [Ideal.ofBits, Ideal.ieee] : Ideal.ofBits .f32 0xFF800000#32 = ⊥)
  have hc : IntOp.cmpi .eq (word x0 ⟨t.val / 4, by omega⟩) (BitVec.ofNat 32 b.val) = 1#1 ↔ (word x0 ⟨t.val / 4, by omega⟩).toNat = b.val := by
    have h41 : b.val < 41 := b.isLt
    have h2 : (BitVec.ofNat 32 b.val).toNat = b.val := by rw [BitVec.toNat_ofNat]; omega
    have hw : (word x0 ⟨t.val / 4, by omega⟩).toNat = b.val ↔ word x0 ⟨t.val / 4, by omega⟩ = BitVec.ofNat 32 b.val :=
      ⟨fun e => BitVec.eq_of_toNat_eq (e.trans h2.symm), fun e => by rw [e, h2]⟩
    rw [hw]
    show BitVec.ofBool (word x0 ⟨t.val / 4, by omega⟩ == BitVec.ofNat 32 b.val) = 1#1 ↔ _
    generalize word x0 ⟨t.val / 4, by omega⟩ = w
    generalize BitVec.ofNat 32 b.val = v
    by_cases h : w = v
    · rw [beq_iff_eq.mpr h]
      exact ⟨fun _ => h, fun _ => rfl⟩
    · rw [beq_eq_false_iff_ne.mpr h]
      exact ⟨fun e => absurd e (by decide), fun e => absurd e h⟩
  by_cases h : (word x0 ⟨t.val / 4, by omega⟩).toNat = b.val
  · rw [if_pos h]
    exact if_pos (hc.mpr h)
  · rw [if_neg h]
    exact (if_neg fun e => h (hc.mp e)).trans hb

end Cert.ReferenceIdeal.Hand

end
-- ==== Proof.Equation.lean ====
/- The algebraic claim: the kernel's array and the reference's are the same extended reals wherever the mask is set.
   Both are, at block `b`, document slot `r` and lane `l`, the greatest of the scores of the steps whose group the table
   sends to block `b`. -/
module

public import proofs.«01_k».proof.Defs
public import proofs.«01_k».proof.Proof.KernelIdeal.Value
public import proofs.«01_k».proof.Proof.RefValue
public import proofs.«01_k».proof.Proof.Gen.On_doc_blocks
public import proofs.«01_k».proof.Proof.Gen.Pre_tables_ok

@[expose] public section

noncomputable section

namespace Cert.Equation

open Idealize.ShloMosaic Idealize.ShloMosaic.TcCoe
open Cert.Tables (word Good)
open Cert.Score (elt sc offer best)
open Cert.KernelIdeal.Hand (blk)

/-- The mask is set only at the blocks below 40. -/
theorem mask_lt (a : IVec Cert.On_doc_blocks.S1040 32) (q : FVec Ideal Cert.On_doc_blocks.S768x96 .bf16) (w : IVec Cert.On_doc_blocks.S3328x24x128 32)
    (s : FVec Ideal Cert.On_doc_blocks.S3328x128 .f32) [Cert.On_doc_blocks.Facts] (i : Cert.On_doc_blocks.S41x768x128.Idx)
    (h : Cert.On_doc_blocks.fn (F := Ideal) a q w s i = 1#1) : (i 0).val < 40 := by
  have h41 : (i 0).val < 41 := (i 0).isLt
  have h' : BitVec.ofBool (BitVec.slt (BitVec.ofNat 32 (i 0).val) 40#32) = 1#1 := h
  have hs : BitVec.slt (BitVec.ofNat 32 (i 0).val) 40#32 = true := by
    cases hb : BitVec.slt (BitVec.ofNat 32 (i 0).val) 40#32
    · rw [hb] at h'
      exact absurd h' (by decide)
    · rfl
  rw [BitVec.slt_iff_toInt_lt] at hs
  have e1 : (BitVec.ofNat 32 (i 0).val).toNat = (i 0).val := by rw [BitVec.toNat_ofNat]; omega
  have e2 := BitVec.toInt_eq_toNat_cond (BitVec.ofNat 32 (i 0).val)
  have e3 : (40#32 : BitVec 32).toInt = 40 := by decide
  rw [e1] at e2
  split at e2 <;> omega

/-- The reference's array, from its arguments. -/
theorem ref_apply (m : (ℓ : Loc Cert.ReferenceIdeal.nD Cert.ReferenceIdeal.τ Cert.ReferenceIdeal.sig) → Buf (Elt Ideal) ℓ) (c : Dev Cert.ReferenceIdeal.nD)
    (x0 : IVec Cert.ReferenceIdeal.S1040 32) (x1 : Cert.Score.Queries) (x3 : Cert.Score.Scales) (b : Fin 41) (r : Fin 768) (l : Fin 128) :
    (Cert.ReferenceIdeal.Read.val_main_v16 (F := Ideal) x0 x1 x3 (Cert.ReferenceIdeal.Value.reg_main_v0 m c) : Cert.ReferenceIdeal.S41x768x128.Idx → EReal) (ValueIdx.ix3 b r l)
      = best (offer (blk x0) x1 (Cert.ReferenceIdeal.Hand.rw2 m c) x3 b.val r l) 3328 := by
  refine (Cert.ReferenceIdeal.Hand.v16_apply x0 x1 x3 _ b r l).trans ((Cert.ReferenceIdeal.Hand.sup_eq_best _).trans (congrArg (fun g => best g 3328) (funext fun t => ?_)))
  unfold offer
  by_cases ht : t < 3328
  · rw [dif_pos ht, dif_pos ht]
    refine (Cert.ReferenceIdeal.Hand.v15_apply x0 x1 x3 _ b ⟨t, ht⟩ r l).trans ?_
    have hblk : blk x0 (t / 4) = (word x0 ⟨t / 4, by omega⟩).toNat := by
      unfold blk
      rw [dif_pos (by omega)]
    rw [hblk]
    refine congrArg (fun z : EReal => if (word x0 ⟨t / 4, by omega⟩).toNat = b.val then z else ⊥) ?_
    unfold sc
    refine congrArg (fun z : EReal => z * (x3 (ValueIdx.ix2 ⟨t, ht⟩ l) : EReal)) (Finset.sum_congr rfl fun d _ => ?_)
    rw [Cert.ReferenceIdeal.Hand.reg_apply]
  · rw [dif_neg ht, dif_neg ht]

/-- The two arrays agree at every index the mask selects. -/
theorem arrays_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hO : Cert.KernelIdeal.Hand.Ok m) (hG : Good (Cert.KernelIdeal.Hand.table m)) (c : Dev Cert.KernelIdeal.nD)
    (h2 : Cert.ReferenceIdeal.Hand.rw2 m' 0 = Cert.KernelIdeal.Hand.mw m)
    (i : Cert.ReferenceIdeal.S41x768x128.Idx) (hi : (i 0).val < 40) :
    (Cert.ReferenceIdeal.Read.val_main_v16 (F := Ideal) (Cert.KernelIdeal.Hand.table m) (Cert.KernelIdeal.Hand.mq m) (Cert.KernelIdeal.Hand.ms m)
        (Cert.ReferenceIdeal.Value.reg_main_v0 m' 0) : Cert.ReferenceIdeal.S41x768x128.Idx → EReal) i
      = (Cert.KernelIdeal.Hand.acc m hO c 207 : Cert.KernelIdeal.S41x768x128.Idx → EReal) i := by
  have ei : i = ValueIdx.ix3 (i 0) (i 1) (i 2) := by
    funext a
    fin_cases a <;> rfl
  have e1 := ref_apply m' 0 (Cert.KernelIdeal.Hand.table m) (Cert.KernelIdeal.Hand.mq m) (Cert.KernelIdeal.Hand.ms m) (i 0) (i 1) (i 2)
  have e2 := Cert.KernelIdeal.Hand.out_apply m hO hG c (i 0) hi (i 1) (i 2)
  rw [h2] at e1
  rw [ei]
  exact e1.trans e2.symm

/-- The reference's run, its result named by the read-off term at the arguments. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v16)
        = Cert.ReferenceIdeal.Read.val_main_v16 (F := Ideal) (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg3)) (Cert.ReferenceIdeal.Value.reg_main_v0 m c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  Cert.ReferenceIdeal.Value.run m ρ

/-- The algebraic claim. -/
theorem algebraic : Cert.algebraic_KernelIdeal_ReferenceIdeal_on_doc_blocks (hKernelIdeal := Cert.KernelIdeal.Gen.facts) (hReferenceIdeal := Cert.ReferenceIdeal.Gen.facts)
    (hPre_tables_ok := Cert.Pre_tables_ok.Gen.facts) (hOn_doc_blocks := Cert.On_doc_blocks.Gen.facts) := by
  intro m g m' g' hP hA
  have hG : Good (Cert.KernelIdeal.Hand.table m) := Cert.Tables.good_of_fn _ _ _ _ (hP 0)
  have hO := Cert.KernelIdeal.Hand.ok_of m hG
  refine ⟨fun c => Cert.KernelIdeal.Hand.acc m hO c 207, ?_, ?_⟩
  · refine (θ_run (Cert.KernelIdeal.defs (F := Ideal)) _ _).mono (fun r h c => ?_)
      (Cert.KernelIdeal.Hand.frame_out m g hO (Cert.KernelIdeal.Hand.hyps_of m hG _) (Cert.KernelIdeal.Hand.proc_zero m hG))
    have hc := h.1 c
    exact ⟨fun i _ => congrFun hc.2.2.2.2 i, hc.1, hc.2.1, hc.2.2.1, hc.2.2.2.1⟩
  · refine (θ_run (Cert.ReferenceIdeal.defs (F := Ideal)) _ _).mono (fun r h c => ?_) (ref_run m' g')
    obtain rfl : c = 0 := Subsingleton.elim _ _
    have hc := h 0
    obtain ⟨a0, a1, a2, a3⟩ := hA 0
    refine ⟨fun i hi => ?_, hc.2.1, hc.2.2.1, hc.2.2.2.1, hc.2.2.2.2⟩
    have hv := hc.1
    rw [a0, a1, a3] at hv
    exact (congrFun hv i).trans (arrays_eq m m' hO hG 0 a2 i (mask_lt _ _ _ _ i hi))

end Cert.Equation

end
-- ==== Proof.SumRows.lean ====
/- The sums over a query's rows: the kernel's array, the reference's, and their equality. A query's thirty-two rows lie in
   the array as four tiles of eight, the tiles' number first and the row in a tile after the block of documents; both add
   up the thirty-two. -/
module

public import proofs.«01_k».proof.Defs
public import proofs.«01_k».proof.Proof.Gen.SumsIdeal.Value
public import proofs.«01_k».proof.Proof.Gen.SumsReferenceIdeal.Run
public import proofs.«01_k».proof.Proof.Gen.SumsReferenceIdeal.Read
public import Idealize.ShloMosaic.Lib.Pipeline.ValueKit.Basic
public import Idealize.ShloMosaic.Lib.ValueIdx

@[expose] public section

noncomputable section

namespace Cert.SumRows

open Idealize.ShloMosaic Idealize.ShloMosaic.TcCoe

/-- The array both programs read: tile of rows, block of documents, row in the tile, lane. -/
abbrev Rows := (⟨4, ![96, 40, 8, 128]⟩ : Shape).Idx → EReal

/-- The sum of query `q`'s thirty-two rows at a document. -/
def total (x : Rows) (q : Fin 24) (b : Fin 40) (l : Fin 128) : EReal :=
  ∑ k : Fin 32, x (ValueIdx.ix4 ⟨4 * q.val + k.val / 8, by omega⟩ b ⟨k.val % 8, by omega⟩ l)

/-- A sum over tiles and rows in a tile, written as one over the rows. -/
theorem reduce_apply (h : (⟨4, ![4, 40, 8, 128]⟩ : Shape).Reduces [0, 2] ⟨2, ![40, 128]⟩) (x : (⟨4, ![4, 40, 8, 128]⟩ : Shape).Idx → EReal) (b : Fin 40) (l : Fin 128) :
    Ideal.reduceAdd h x (ValueIdx.ix2 b l) = ∑ k : Fin 32, x (ValueIdx.ix4 ⟨k.val / 8, by omega⟩ b ⟨k.val % 8, by omega⟩ l) := by
  unfold Ideal.reduceAdd
  have hd : ∀ i, h.drop i = ValueIdx.ix2 b l ↔ (i 1).val = b.val ∧ (i 3).val = l.val := fun i => by
    constructor
    · intro e
      exact ⟨congrArg Fin.val (congrFun e 0), congrArg Fin.val (congrFun e 1)⟩
    · rintro ⟨e0, e1⟩
      funext a
      apply Fin.ext
      fin_cases a
      · exact e0
      · exact e1
  refine Finset.sum_bij' (fun i _ => ⟨8 * (i 0).val + (i 2).val, by
      have h0 : (i 0).val < 4 := (i 0).isLt
      have h2 : (i 2).val < 8 := (i 2).isLt
      omega⟩) (fun k _ => ValueIdx.ix4 ⟨k.val / 8, by omega⟩ b ⟨k.val % 8, by omega⟩ l) ?_ ?_ ?_ ?_ ?_
  · exact fun _ _ => Finset.mem_univ _
  · exact fun k _ => Finset.mem_filter.mpr ⟨Finset.mem_univ _, (hd _).mpr ⟨rfl, rfl⟩⟩
  · intro i hi
    obtain ⟨e0, e1⟩ := (hd i).mp (Finset.mem_filter.mp hi).2
    have h0 : (i 0).val < 4 := (i 0).isLt
    have h2 : (i 2).val < 8 := (i 2).isLt
    funext a
    apply Fin.ext
    fin_cases a
    · show (8 * (i 0).val + (i 2).val) / 8 = (i 0).val; omega
    · exact e0.symm
    · show (8 * (i 0).val + (i 2).val) % 8 = (i 2).val; omega
    · exact e1.symm
  · intro k _
    apply Fin.ext
    show 8 * (k.val / 8) + k.val % 8 = k.val
    omega
  · intro i hi
    obtain ⟨e0, e1⟩ := (hd i).mp (Finset.mem_filter.mp hi).2
    have h0 : (i 0).val < 4 := (i 0).isLt
    have h2 : (i 2).val < 8 := (i 2).isLt
    refine congrArg x (funext fun a => Fin.ext ?_)
    fin_cases a
    · show (i 0).val = (8 * (i 0).val + (i 2).val) / 8; omega
    · exact e0
    · show (i 2).val = (8 * (i 0).val + (i 2).val) % 8; omega
    · exact e1

section Kernel

open Cert.SumsIdeal Cert.SumsIdeal.Gen

/-- What a point stores, from the block it reads. -/
theorem out_apply (x : Vec Ideal S4x40x8x128 .f32) (b : Fin 40) (l : Fin 128) :
    (out0_1 x : S1x40x128.Idx → EReal) (ValueIdx.ix3 0 b l) = ∑ k : Fin 32, (x : S4x40x8x128.Idx → EReal) (ValueIdx.ix4 ⟨k.val / 8, by omega⟩ b ⟨k.val % 8, by omega⟩ l) := by
  have hl : View.ld x r0_0 = x := View.ld_unit_lit _ _ (by decide)
  have e : out0_1 x = View.canon [⟨r0_1, k0_pay1 x⟩] := by
    unfold out0_1
    rw [hl]
  have ei : Value.ix1_0 (ValueIdx.ix3 0 b l) = ValueIdx.ix2 b l := funext fun a => by fin_cases a <;> rfl
  rw [e]
  refine (Value.canon1_eq x (ValueIdx.ix3 0 b l)).trans ?_
  refine Eq.trans ?_ (reduce_apply reduces_S4x40x8x128_S40x128 x b l)
  show multiReduction (F := Ideal) (φ := .f32) .add [0, 2] S40x128 x 0x00000000#32 reduces_S4x40x8x128_S40x128 (.inl rfl) rfl (Value.ix1_0 (ValueIdx.ix3 0 b l)) = _
  rw [ei]
  rfl

variable {F : FTy → Type} [FloatOps F] (m : (ℓ : Loc nD τ sig) → Buf (Elt F) ℓ)

/-- The grid has one axis. -/
theorem coords_val (t : Fin grid0.N) (ht : t.val < 24) : (grid0.coords t 0).val = t.val := by
  have e0 : (grid0.coords t 0).val = t.val / 1 % 24 := Pipeline.Grid.coords_val t 0 (by decide) rfl
  omega

/-- Both block maps follow the point on the first axis. -/
theorem block_word (t : Fin grid0.N) (ht : t.val < 24) : (BitVec.ofNat 32 (grid0.coords t 0).val).toNat = t.val := by
  rw [coords_val t ht, BitVec.toNat_ofNat]
  omega

/-- Point `t` reads query `t`'s four tiles. -/
theorem iblk_apply (c : Dev nD) (t : Fin cfg0.N) (ht : t.val < 24) (p : Fin 4) (b : Fin 40) (s : Fin 8) (l : Fin 128) :
    (iblk m c 0 t : Vec F S4x40x8x128 .f32) (ValueIdx.ix4 p b s l) = (m ((c : Thread nD τ).loc main_arg0) : Vec F S96x40x8x128 .f32) (ValueIdx.ix4 ⟨4 * t.val + p.val, by omega⟩ b s l) := by
  unfold iblk
  refine (congrFun (V_main_arg0 m c) _).trans (congrArg (m ((c : Thread nD τ).loc main_arg0)) (funext fun a => Fin.ext ?_))
  refine (Pipeline.Window.rect_emb_val (cfg0.win 0) t (ValueIdx.ix4 p b s l) a).trans ?_
  have hw := block_word t ht
  fin_cases a
  · show (BitVec.ofNat 32 (grid0.coords t 0).val).toNat * 4 + p.val = 4 * t.val + p.val; omega
  · show 0 * 40 + b.val = b.val; omega
  · show 0 * 8 + s.val = s.val; omega
  · show 0 * 128 + l.val = l.val; omega

/-- The result array at a query, block and lane is what the query's point stores there. -/
theorem arr_apply (c : Dev nD) (t : Fin cfg0.N) (ht : t.val < 24) (b : Fin 40) (l : Fin 128) :
    ((dats m 0 c).arrAt 1 cfg0.N : Vec F S24x40x128 .f32) (ValueIdx.ix3 ⟨t.val, ht⟩ b l) = out0_1 (iblk m c 0 t) (ValueIdx.ix3 0 b l) := by
  have key := (dats m 0 c).arrAt_emb_eq_flushed 1 Value.disjoint1 t (flush0_1 t) (ValueIdx.ix3 0 b l)
  have e : ((cfg0.win 1).blk t).view.emb (ValueIdx.ix3 0 b l) = ValueIdx.ix3 ⟨t.val, ht⟩ b l := by
    funext a
    apply Fin.ext
    refine (Pipeline.Window.rect_emb_val (cfg0.win 1) t (ValueIdx.ix3 0 b l) a).trans ?_
    have hw := block_word t ht
    fin_cases a
    · show (BitVec.ofNat 32 (grid0.coords t 0).val).toNat * 1 + 0 = t.val; omega
    · show 0 * 40 + b.val = b.val; omega
    · show 0 * 128 + l.val = l.val; omega
  have hf : (dats m 0 c).flushed 1 t = out0_1 (iblk m c 0 t) := after0_1 m c t
  refine (congrArg _ e.symm).trans (key.trans ?_)
  exact congrFun hf (ValueIdx.ix3 0 b l)

end Kernel

/-- The reference's array at a query, block and lane. -/
theorem ref_apply (x : Rows) (q : Fin 24) (b : Fin 40) (l : Fin 128) :
    (Cert.SumsReferenceIdeal.Read.val_main_v2 (F := Ideal) x : Cert.SumsReferenceIdeal.S24x40x128.Idx → EReal) (ValueIdx.ix3 q b l) = total x q b l := by
  rw [Cert.SumsReferenceIdeal.Read.val_main_v2_apply, Cert.SumsReferenceIdeal.Read.val_main_cst_apply]
  have hz : (FloatOps.ofBits (F := Ideal) .f32 0x00000000#32 : EReal) = 0 := Ideal.ofBits_zero_f32
  rw [hz, zero_add]
  unfold total
  refine Finset.sum_congr rfl fun k _ => ?_
  rw [Cert.SumsReferenceIdeal.Read.val_main_v1_apply, Cert.SumsReferenceIdeal.Read.val_main_v0_apply]
  refine congrArg x (funext fun a => Fin.ext ?_)
  fin_cases a
  · show (((q.val * 32 + k.val) * 40 + b.val) * 128 + l.val) / 40960 = 4 * q.val + k.val / 8; omega
  · show (((q.val * 32 + k.val) * 40 + b.val) * 128 + l.val) / 128 % 40 = b.val; omega
  · show (((q.val * 32 + k.val) * 40 + b.val) * 128 + l.val) / 5120 % 8 = k.val % 8; omega
  · show (((q.val * 32 + k.val) * 40 + b.val) * 128 + l.val) % 128 = l.val; omega

/-- The kernel's array at a query, block and lane. -/
theorem kernel_apply (m : (ℓ : Loc Cert.SumsIdeal.nD Cert.SumsIdeal.τ Cert.SumsIdeal.sig) → Buf (Elt Ideal) ℓ) (c : Dev Cert.SumsIdeal.nD) (q : Fin 24) (b : Fin 40) (l : Fin 128) :
    ((Cert.SumsIdeal.Gen.dats m 0 c).arrAt 1 Cert.SumsIdeal.cfg0.N : Cert.SumsIdeal.S24x40x128.Idx → EReal) (ValueIdx.ix3 q b l)
      = total (m ((c.tc : Thread Cert.SumsIdeal.nD Cert.SumsIdeal.τ).loc Cert.SumsIdeal.main_arg0)) q b l := by
  let t : Fin Cert.SumsIdeal.cfg0.N := ⟨q.val, lt_of_lt_of_eq q.isLt Cert.SumsIdeal.Gen.N_0.symm⟩
  refine (arr_apply m c t q.isLt b l).trans ((out_apply _ b l).trans ?_)
  unfold total
  exact Finset.sum_congr rfl fun k _ => iblk_apply m c t q.isLt ⟨k.val / 8, by omega⟩ b ⟨k.val % 8, by omega⟩ l

/-- The two arrays are one. -/
theorem arrays_eq (m : (ℓ : Loc Cert.SumsIdeal.nD Cert.SumsIdeal.τ Cert.SumsIdeal.sig) → Buf (Elt Ideal) ℓ) (c : Dev Cert.SumsIdeal.nD) (i : Cert.SumsIdeal.S24x40x128.Idx) :
    (Cert.SumsReferenceIdeal.Read.val_main_v2 (F := Ideal) (m ((c.tc : Thread Cert.SumsIdeal.nD Cert.SumsIdeal.τ).loc Cert.SumsIdeal.main_arg0)) : Cert.SumsReferenceIdeal.S24x40x128.Idx → EReal) i
      = ((Cert.SumsIdeal.Gen.dats m 0 c).arrAt 1 Cert.SumsIdeal.cfg0.N : Cert.SumsIdeal.S24x40x128.Idx → EReal) i := by
  have ei : i = ValueIdx.ix3 (i 0) (i 1) (i 2) := by
    funext a
    fin_cases a <;> rfl
  have e1 := ref_apply (m ((c.tc : Thread Cert.SumsIdeal.nD Cert.SumsIdeal.τ).loc Cert.SumsIdeal.main_arg0)) (i 0) (i 1) (i 2)
  have e2 := kernel_apply m c (i 0) (i 1) (i 2)
  rw [ei]
  exact e1.trans e2.symm

/-- The reference's frame. -/
theorem ref_frame : Cert.quiescent_SumsReferenceIdeal (hSumsReferenceIdeal := Cert.SumsReferenceIdeal.Gen.facts) := fun m ρ _ =>
  (θ_run (Cert.SumsReferenceIdeal.defs (F := Ideal)) _ _).mono (fun _ h => ⟨fun c => (h c).2, sem_eq_zero_of_no_sems (by decide) _⟩) (Cert.SumsReferenceIdeal.Value.run (F := Ideal) m ρ)

/-- The algebraic claim of the sums. -/
theorem algebraic : Cert.algebraic_SumsIdeal_SumsReferenceIdeal (hSumsIdeal := Cert.SumsIdeal.Gen.facts) (hSumsReferenceIdeal := Cert.SumsReferenceIdeal.Gen.facts) := by
  intro m g m' g' _ hA
  refine ⟨fun c => (Cert.SumsIdeal.Gen.dats m 0 c).arrAt 1 Cert.SumsIdeal.cfg0.N, Cert.SumsIdeal.Value.run_blocks m g, ?_⟩
  refine (θ_run (Cert.SumsReferenceIdeal.defs (F := Ideal)) _ _).mono (fun r h c => ?_) (Cert.SumsReferenceIdeal.Value.run (F := Ideal) m' g')
  obtain rfl : c = 0 := Subsingleton.elim _ _
  refine ⟨?_, (h 0).2⟩
  have hv := ((h 0).1).trans (Cert.SumsReferenceIdeal.Read.val_main_v2_eq (F := Ideal) _)
  rw [hA 0] at hv
  exact hv.trans (funext fun i => arrays_eq m 0 i)

end Cert.SumRows

end
-- ==== Proof.CodeWords.lean ====
/- The packed code words: the words that `rank_docs` leaves are the reference's, whatever the bits of the codes are. -/
module

public import proofs.«01_k».proof.Defs
public import proofs.«01_k».proof.Proof.Gen.Ranks
public import proofs.«01_k».proof.Proof.Gen.Ranks.Frame
public import proofs.«01_k».proof.Proof.Gen.Ranks.Value
public import proofs.«01_k».proof.Proof.Gen.RanksReference
public import proofs.«01_k».proof.Proof.Gen.RanksReference.Frame
public import proofs.«01_k».proof.Proof.Gen.RanksReference.Run
public import proofs.«01_k».proof.Proof.Gen.RanksReference.Read
public import proofs.«01_k».proof.Proof.Gen.On_words_only
public import Idealize.ShloMosaic.Lib.BitcastPair
public import Idealize.ShloMosaic.Lib.Pipeline.ValueKit.Basic
public import Idealize.ShloMosaic.Lib.ValueIdx

@[expose] public section

set_option maxRecDepth 16384

noncomputable section

namespace Cert.CodeWords

open Idealize.ShloMosaic Idealize.ShloMosaic.TcCoe
open ValueIdx (ix2 ix3)

/-- A byte as a word. -/
def wide (b : BitVec 8) : BitVec 32 := b.signExtend 32 &&& 255#32

/-- Four bytes as a word, the first one lowest. -/
def pack (b : Fin 4 → BitVec 8) : BitVec 32 := wide (b 0) ||| wide (b 1) <<< 8#32 ||| wide (b 2) <<< 16#32 ||| wide (b 3) <<< 24#32

/-- A bit of a byte as a word: the byte's own below the eighth, none above. -/
theorem wide_bit (b : BitVec 8) (q : ℕ) : (wide b).getLsbD q = (decide (q < 8) && b.getLsbD q) := by
  unfold wide
  rw [BitVec.getLsbD_and, BitVec.getLsbD_signExtend]
  have h255 : (255#32).getLsbD q = decide (q < 8) := by
    rw [BitVec.getLsbD_ofNat]
    by_cases h : q < 8
    · have : q = 0 ∨ q = 1 ∨ q = 2 ∨ q = 3 ∨ q = 4 ∨ q = 5 ∨ q = 6 ∨ q = 7 := by omega
      rcases this with rfl | rfl | rfl | rfl | rfl | rfl | rfl | rfl <;> decide
    · rw [decide_eq_false h]
      have e : Nat.testBit 255 q = false := Nat.testBit_lt_two_pow
        (Nat.lt_of_lt_of_le (by decide : 255 < 2 ^ 8) (Nat.pow_le_pow_right (by decide) (by omega)))
      rw [e, Bool.and_false]
  rw [h255]
  by_cases h : q < 8
  · have h32 : q < 32 := by omega
    simp [h, h32]
  · simp [h]

/-- A bit of the packed word: of byte `q / 8`, bit `q % 8`. -/
theorem pack_bit (b : Fin 4 → BitVec 8) (q : ℕ) (hq : q < 32) :
    (pack b).getLsbD q = (b ⟨q / 8, by omega⟩).getLsbD (q % 8) := by
  unfold pack
  simp only [BitVec.getLsbD_or, BitVec.shiftLeft_eq', BitVec.toNat_ofNat, BitVec.getLsbD_shiftLeft, wide_bit]
  have h0 : q / 8 = 0 ∨ q / 8 = 1 ∨ q / 8 = 2 ∨ q / 8 = 3 := by omega
  rcases h0 with h | h | h | h
  · have e : (⟨q / 8, by omega⟩ : Fin 4) = 0 := Fin.ext h
    rw [e, show q % 8 = q by omega]
    have a1 : q < 8 := by omega
    have a2 : q < 16 := by omega
    have a3 : q < 24 := by omega
    simp [a1, a2, a3]
  · have e : (⟨q / 8, by omega⟩ : Fin 4) = 1 := Fin.ext h
    rw [e, show q % 8 = q - 8 by omega]
    have a1 : ¬ q < 8 := by omega
    have a2 : q < 16 := by omega
    have a3 : q < 24 := by omega
    have a4 : q - 8 < 8 := by omega
    simp [a1, a2, a3, a4, hq]
  · have e : (⟨q / 8, by omega⟩ : Fin 4) = 2 := Fin.ext h
    rw [e, show q % 8 = q - 16 by omega]
    have a1 : ¬ q < 8 := by omega
    have a2 : ¬ q < 16 := by omega
    have a3 : q < 24 := by omega
    have a4 : ¬ q - 8 < 8 := by omega
    have a5 : q - 16 < 8 := by omega
    simp [a1, a2, a3, a4, a5, hq]
  · have e : (⟨q / 8, by omega⟩ : Fin 4) = 3 := Fin.ext h
    rw [e, show q % 8 = q - 24 by omega]
    have a1 : ¬ q < 8 := by omega
    have a2 : ¬ q < 16 := by omega
    have a3 : ¬ q < 24 := by omega
    have a4 : ¬ q - 8 < 8 := by omega
    have a5 : ¬ q - 16 < 8 := by omega
    have a6 : q - 24 < 8 := by omega
    simp [a1, a2, a3, a4, a5, a6, hq]

/-- The codes' bytes seen as words: word `w` of a column is the four bytes of the rows from `4 w` on. -/
theorem bitcast_words (x : IVec ⟨2, ![96, 32768]⟩ 8) (h : (⟨2, ![96, 32768]⟩ : Shape).Bitcasts 8 ⟨2, ![24, 32768]⟩ 32)
    (w : Fin 24) (l : Fin 32768) :
    bitcast ⟨2, ![24, 32768]⟩ 32 x h (ix2 w l) = pack fun k => x (ix2 ⟨w.val * 4 + k.val, by omega⟩ l) := by
  apply BitVec.eq_of_getLsbD_eq
  intro q hq
  rw [bitcast_getLsbD x h _ q hq (by decide), pack_bit _ q hq]
  have hr : (⟨2, ![24, 32768]⟩ : Shape).row (ix2 w l) = w.val := rfl
  have e1 : (w.val * 32 + q) % 8 = q % 8 := by omega
  have e2 : (w.val * 32 + q) / 8 = w.val * 4 + q / 8 := by omega
  rw [← e1]
  refine congrArg₂ (fun (a : BitVec 8) n => a.getLsbD n) (congrArg x ?_) (by rw [hr])
  funext c
  match c with
  | ⟨0, _⟩ => exact Fin.ext ((h.srcIdx_row _ _ _ ⟨0, Nat.zero_lt_two⟩ rfl).trans (by rw [hr]; exact e2))
  | ⟨1, _⟩ => exact Fin.ext (h.srcIdx_other _ _ _ ⟨1, Nat.one_lt_two⟩ (by show ¬ 1 + 2 = 2; omega))

end Cert.CodeWords

namespace Cert.RanksReference.Hand

open Idealize.ShloMosaic Idealize.ShloMosaic.TcCoe
open Cert.RanksReference Cert.RanksReference.Gen Cert.RanksReference.Read
open ValueIdx (ix2 ix3)
open Cert.CodeWords (wide pack)

/-- The launch has one point. -/
theorem one_point (t t' : Fin cfg0.N) : t = t' := Fin.ext (by
  have h : cfg0.N = 1 := rfl
  have := t.isLt; have := t'.isLt; omega)

/-- The launch's blocks begin at zero. -/
theorem idx_zero0 : ∀ t : Fin cfg0.N, win0_0.index t (0 : Fin 2) = 0 ∧ win0_0.index t (1 : Fin 2) = 0 :=
  (by decide +kernel : ∀ t : Fin grid0.N, _)

theorem idx_zero1 : ∀ t : Fin cfg0.N, win0_1.index t (0 : Fin 2) = 0 ∧ win0_1.index t (1 : Fin 2) = 0 :=
  (by decide +kernel : ∀ t : Fin grid0.N, _)

/-- An index of the codes' block is the same index of the array. -/
theorem emb0 (t : Fin cfg0.N) (j : S96x32768.Idx) : ((cfg0.win 0).blk t).view.emb j = j := by
  obtain ⟨e0, e1⟩ := idx_zero0 t
  funext a; apply Fin.ext
  match a with
  | ⟨0, _⟩ => show win0_0.index t (0 : Fin 2) * 96 + 1 * (j 0).val = (j 0).val; omega
  | ⟨1, _⟩ => show win0_0.index t (1 : Fin 2) * 32768 + 1 * (j 1).val = (j 1).val; omega

/-- And of the bytes' block. -/
theorem emb1 (t : Fin cfg0.N) (j : S96x32768.Idx) : ((cfg0.win 1).blk t).view.emb j = j := by
  obtain ⟨e0, e1⟩ := idx_zero1 t
  funext a; apply Fin.ext
  match a with
  | ⟨0, _⟩ => show win0_1.index t (0 : Fin 2) * 96 + 1 * (j 0).val = (j 0).val; omega
  | ⟨1, _⟩ => show win0_1.index t (1 : Fin 2) * 32768 + 1 * (j 1).val = (j 1).val; omega

variable {F : FTy → Type} [FloatOps F] [BitOps F] (m : (ℓ : Loc nD τ sig) → Buf (Elt F) ℓ)

/-- The bytes are what their one launch stores. -/
theorem reg_out (c : Dev nD) (p : Fin cfg0.N) (i : S96x32768.Idx) :
    (Value.reg_main_v21 m c : Vec F S96x32768 .i8) i = out0_1 (iblk m c 0 p) i := by
  have key := (dats m 0 c).arrAt_emb_eq_flushed 1 (fun t t' _ _ hne => absurd (one_point t t') hne) p (flush0_1 p) i
  have hf : (dats m 0 c).flushed 1 p = out0_1 (iblk m c 0 p) := after0_1 m c p
  refine (congrArg _ (emb1 p i).symm).trans (key.trans ?_)
  exact congrFun hf i

/-- What is stored is the codes' bits. -/
theorem out_pay (x : Vec F S96x32768 .fp8e4m3) : out0_1 x = bitcastToInt x := by
  unfold out0_1
  rw [View.canon_cons_unit_lit _ _ _ (by decide), View.ld_unit_lit _ _ (by decide)]
  rfl

/-- The launch reads the whole codes array. -/
theorem codes_apply (c : Dev nD) (p : Fin cfg0.N) (i : S96x32768.Idx) :
    (iblk m c 0 p : Vec F S96x32768 .fp8e4m3) i = (m ((c : Thread nD τ).loc main_arg1) : Vec F S96x32768 .fp8e4m3) i := by
  unfold iblk
  exact (congrFun (V_main_arg1 m c) _).trans (congrArg (m ((c : Thread nD τ).loc main_arg1)) (emb0 p i))

/-- The bytes array holds the codes' bits. -/
theorem reg_eq (c : Dev nD) :
    (Value.reg_main_v21 m c : Vec F S96x32768 .i8) = bitcastToInt (m ((c : Thread nD τ).loc main_arg1) : Vec F S96x32768 .fp8e4m3) := by
  have p : Fin cfg0.N := ⟨0, by decide⟩
  funext i
  rw [reg_out m c p i, out_pay]
  exact congrArg BitOps.toBits (codes_apply m c p i)

/-- Row `4 w + k` of the bytes, as a word. -/
theorem row_apply (r0 : (⟨S96x32768, .i8⟩ : BufTy).Contents (Elt F)) (w : Fin 24) (k : Fin 4) (l : Fin 32768) :
    val_main_v25 (F := F) r0 (ix3 w k l) = wide (r0 (ix2 ⟨w.val * 4 + k.val, by omega⟩ l)) := by
  have e : idx_main_v25 (ix3 w k l) = ix2 ⟨w.val * 4 + k.val, by omega⟩ l := by
    funext a
    match a with
    | ⟨0, _⟩ => exact Fin.ext (by show ((w.val * 4 + k.val) * 32768 + l.val) / 32768 = w.val * 4 + k.val; omega)
    | ⟨1, _⟩ => exact Fin.ext (by show ((w.val * 4 + k.val) * 32768 + l.val) % 32768 = l.val; omega)
  rw [val_main_v25_apply, val_main_v24_apply, val_main_v22_apply, val_main_v23_apply, val_main_c_1_apply, e]
  rfl

/-- The row a word's byte comes from, after the slice and the reshape. -/
theorem slice_idx (w : Fin 24) (l : Fin 32768) :
    idx_main_v26 (idx_main_v27 (ix2 w l)) = ix3 w 0 l ∧ idx_main_v28 (idx_main_v29 (ix2 w l)) = ix3 w 1 l
    ∧ idx_main_v33 (idx_main_v34 (ix2 w l)) = ix3 w 2 l ∧ idx_main_v38 (idx_main_v39 (ix2 w l)) = ix3 w 3 l := by
  have h0 : (w.val * 32768 + l.val) / 32768 = w.val := by omega
  have h2 : (w.val * 32768 + l.val) % 32768 = l.val := by omega
  refine ⟨?_, ?_, ?_, ?_⟩ <;>
  · funext a
    match a with
    | ⟨0, _⟩ => exact Fin.ext h0
    | ⟨1, _⟩ => rfl
    | ⟨2, _⟩ => exact Fin.ext h2

/-- The reference's word: its four bytes packed. -/
theorem word_apply (r0 : (⟨S96x32768, .i8⟩ : BufTy).Contents (Elt F)) (w : Fin 24) (l : Fin 32768) :
    val_main_v42 (F := F) r0 (ix2 w l) = pack fun k => r0 (ix2 ⟨w.val * 4 + k.val, by omega⟩ l) := by
  obtain ⟨e0, e1, e2, e3⟩ := slice_idx w l
  rw [val_main_v42_apply, val_main_v37_apply, val_main_v32_apply, val_main_v31_apply, val_main_v36_apply, val_main_v41_apply,
    val_main_v27_apply, val_main_v26_apply, val_main_v29_apply, val_main_v28_apply, val_main_v34_apply, val_main_v33_apply,
    val_main_v39_apply, val_main_v38_apply, e0, e1, e2, e3, row_apply, row_apply, row_apply, row_apply]
  rfl

end Cert.RanksReference.Hand

namespace Cert.CodeWords

open Idealize.ShloMosaic Idealize.ShloMosaic.TcCoe
open ValueIdx (ix2 ix3)

/-- The kernel's words are the reference's. -/
theorem words_eq (x : Vec Bits ⟨2, ![96, 32768]⟩ .fp8e4m3) :
    Cert.Ranks.Gen.k0_pay2 (F := Bits) x = Cert.RanksReference.Read.val_main_v42 (F := Bits) (bitcastToInt (F := Bits) (φ := .fp8e4m3) x : IVec ⟨2, ![96, 32768]⟩ 8) := by
  funext i
  have ei : i = ix2 (i 0) (i 1) := by
    funext a
    match a with
    | ⟨0, _⟩ => rfl
    | ⟨1, _⟩ => rfl
  rw [ei]
  have e1 : Cert.Ranks.Gen.k0_pay2 (F := Bits) x = bitcast ⟨2, ![24, 32768]⟩ 32 (bitcastToInt (F := Bits) (φ := .fp8e4m3) x : IVec ⟨2, ![96, 32768]⟩ 8)
      (.rank2 (by decide)) := by
    unfold Cert.Ranks.Gen.k0_pay2; rfl
  rw [e1]
  exact (bitcast_words (bitcastToInt (F := Bits) (φ := .fp8e4m3) x : IVec ⟨2, ![96, 32768]⟩ 8) (.rank2 (by decide)) (i 0) (i 1)).trans
    (Cert.RanksReference.Hand.word_apply (F := Bits) (bitcastToInt (F := Bits) (φ := .fp8e4m3) x : IVec ⟨2, ![96, 32768]⟩ 8) (i 0) (i 1)).symm

/-- The two programs leave the same words at `planes`; of the ranks nothing is asked. -/
theorem bitexact : Cert.bitexact_Ranks_RanksReference_on_words_only (hRanks := Cert.Ranks.Gen.facts)
    (hRanksReference := Cert.RanksReference.Gen.facts) (hOn_words_only := Cert.On_words_only.Gen.facts) := by
  intro m g m' g' _ hm
  refine ⟨fun c => m ((c.tc : Thread Cert.Ranks.nD Cert.Ranks.τ).loc Cert.Ranks.main_arg0),
    fun c => Cert.Ranks.Gen.k0_pay2 (F := Bits) (m ((c.tc : Thread Cert.Ranks.nD Cert.Ranks.τ).loc Cert.Ranks.main_arg1)), ?_, ?_⟩
  · refine (θ_run _ _ _).mono (fun r h c => ?_) (Cert.Ranks.Value.run m g)
    obtain ⟨_, h1, ha, hb⟩ := h c
    exact ⟨fun i hi => absurd hi (by show ¬ (0#1 = 1#1); decide), fun i _ => congrFun h1 i, ha, hb⟩
  · refine (θ_run _ _ _).mono (fun r h c => ?_) (Cert.RanksReference.Value.run m' g')
    obtain ⟨_, h1, ha, hb⟩ := h c
    refine ⟨fun i hi => absurd hi (by show ¬ (0#1 = 1#1); decide), fun i _ => ?_, ha, hb⟩
    have e1 : Cert.Ranks.Gen.k0_pay2 (F := Bits) (m ((c.tc : Thread Cert.Ranks.nD Cert.Ranks.τ).loc Cert.Ranks.main_arg1))
        = Cert.RanksReference.Read.val_main_v42 (F := Bits) (Cert.RanksReference.Value.reg_main_v21 m' c) :=
      (words_eq _).trans (congrArg (Cert.RanksReference.Read.val_main_v42 (F := Bits))
        ((Cert.RanksReference.Hand.reg_eq m' c).trans (congrArg (fun z => (bitcastToInt (F := Bits) (φ := .fp8e4m3) z : IVec ⟨2, ![96, 32768]⟩ 8)) (hm c).2)).symm)
    exact (congrFun h1 i).trans (congrFun e1 i).symm

end Cert.CodeWords

end
-- ==== Proof.Unsort.Deal.lean ====
/- The unsort call: what its 32 tasks are handed and hand back. Every task reads all of the three operands, each through
   its own share; the result is cut into 32 bands of three row tiles. -/
module

public import proofs.«01_k».proof.Defs
public import proofs.«01_k».proof.Proof.Gen.Unsort
public import proofs.«01_k».proof.Proof.Gen.Unsort.Skeleton
public import proofs.«01_k».proof.Proof.Gen.Pre_rank_ok
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.ShareLeaves
public import Idealize.ShloMosaic.Lib.ValueIdxCore
public import Idealize.ShloMosaic.Lib.Tactic

@[expose] public section

noncomputable section

namespace Cert.Unsort.Hand

open Cert.Unsort Cert.Unsort.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

/-- The resources of the proof. -/
abbrev MM (F : FTy → Type) := MT nD τ sig (HIx 1) (Elt F) ℕ UU ℕ

abbrev EH : Emb UH (MM F) := embL

/-! ## The launch memory and the buffers -/

variable (m : (ℓ : Loc nD τ sig) → Buf (Elt F) ℓ) (ρ : Dev nD → PrngReg)

abbrev aLoc (d : Dev nD) : Loc nD τ sig := (SparseCore.T d).loc main_arg0
abbrev rLoc (d : Dev nD) : Loc nD τ sig := (SparseCore.T d).loc main_arg1
abbrev nLoc (d : Dev nD) : Loc nD τ sig := (SparseCore.T d).loc main_arg2
abbrev oLoc (d : Dev nD) : Loc nD τ sig := (SparseCore.T d).loc main_v0

theorem odiv : 32 ∣ S96x40x8x128.size 0 := ⟨3, rfl⟩
/-- The three row tiles of task `w`. -/
abbrev band (w : Fin 32) : Rect S96x40x8x128 := Rect.part (s := S96x40x8x128) (a₀ := 0) odiv w
abbrev oSet (w : Fin 32) : Finset S96x40x8x128.Idx := (band w).set

/-- The number of the task on tile `i` of SparseCore `c`. -/
def wk (c : Fin 2) (i : Fin 16) : Fin 32 := ⟨16 * c.val + i.val, by omega⟩

/-- A row tile is task `w`'s when it is one of its three. -/
theorem mem_oSet (w : Fin 32) (j : S96x40x8x128.Idx) : j ∈ oSet w ↔ 3 * w.val ≤ (j 0).val ∧ (j 0).val < 3 * w.val + 3 := by
  unfold oSet band Rect.part Rect.block
  rw [Rect.mem_set_unit]
  constructor
  · intro h
    have := h 0
    simp [Shape.partIx, Shape.partSize] at this
    omega
  · intro h a
    match a with
    | 0 => simp [Shape.partIx, Shape.partSize]; omega
    | 1 => simp [Shape.partIx, Shape.partSize]; exact (j 1).isLt
    | 2 => simp [Shape.partIx, Shape.partSize]; exact (j 2).isLt
    | 3 => simp [Shape.partIx, Shape.partSize]; exact (j 3).isLt

/-! ## The value -/

section Value
variable [FloatOps F]

/-- What a token of length `n` and score `x` comes to. -/
def elt (n : BitVec 32) (x : F .f32) : F .f32 :=
  Scalar.select (IntOp.cmpi .sle n 0#32) (Scalar.ofBits .f32 0xFF800000#32)
    (FloatOps.maximumf (FloatOps.subf x (Scalar.ofBits .f32 0x3EE66666#32)) (Scalar.ofBits .f32 0x00000000#32))

/-- The place of a token among the 5120. -/
def tok (b : Fin 40) (l : Fin 128) : Fin 5120 := ⟨128 * b.val + l.val, by omega⟩

/-- The result of one row tile, from that row tile's scores by rank. -/
def tileVal (rank len : S5120.Idx → BitVec 32) (g : S40x8x128.Idx → F .f32) : S40x8x128.Idx → F .f32 := fun j =>
  elt (len (ix1 (tok (j 0) (j 2))))
    (g (ix3 ⟨(rank (ix1 (tok (j 0) (j 2)))).toNat / 128 % 40, Nat.mod_lt _ (by decide)⟩ (j 1)
      ⟨(rank (ix1 (tok (j 0) (j 2)))).toNat % 128, Nat.mod_lt _ (by decide)⟩))

/-- Row tile `t` of the scores. -/
def tileOf (acc : S41x96x8x128.Idx → F .f32) (t : Fin 96) : S40x8x128.Idx → F .f32 := fun j =>
  acc (ix4 ⟨(j 0).val, Nat.lt_of_lt_of_le (j 0).isLt (by decide)⟩ t (j 1) (j 2))

/-- The whole result. -/
def out (acc : S41x96x8x128.Idx → F .f32) (rank len : S5120.Idx → BitVec 32) : S96x40x8x128.Idx → F .f32 := fun j =>
  tileVal rank len (tileOf acc (j 0)) (ix3 (j 1) (j 2) (j 3))

end Value

variable [FloatOps F]

/-- The result over the launch memory. -/
abbrev X (d : Dev nD) : Buf (Elt F) (oLoc d) := out (F := F) (m (aLoc d)) (m (rLoc d)) (m (nLoc d))

/-- What the proof asks of the launch memory: every rank is the number of a document slot. -/
def PreOK : Prop := ∀ (d : Dev nD) (j : S5120.Idx), (m (rLoc d) j : BitVec 32).toNat < 5120

/-! ## What the handshakes carry -/

abbrev xq (w : Fin 32) : PosShare TreeShare := leaf 5 fullShare w

abbrev aPts (d : Dev nD) (w : Fin 32) : sProp (MM F) := aLoc d ↦{xq w} m (aLoc d)
abbrev rPts (d : Dev nD) (w : Fin 32) : sProp (MM F) := rLoc d ↦{xq w} m (rLoc d)
abbrev nPts (d : Dev nD) (w : Fin 32) : sProp (MM F) := nLoc d ↦{xq w} m (nLoc d)
abbrev oPts (d : Dev nD) (w : Fin 32) (f : Buf (Elt F) (oLoc d)) : sProp (MM F) := oLoc d ↦[oSet w]{fullShare} f

/-- What a task is handed … -/
abbrev goP (d : Dev nD) (w : Fin 32) : sProp (MM F) := iprop(aPts m d w ∗ rPts m d w ∗ nPts m d w ∗ oPts d w (m (oLoc d)))
/-- … and what it hands back. -/
abbrev tdP (d : Dev nD) (w : Fin 32) : sProp (MM F) := iprop(aPts m d w ∗ rPts m d w ∗ nPts m d w ∗ oPts d w (X m d))

def P : (K (F := F)).Pay (nD := nD) (Val := Elt F) (Name := ℕ) (U := UU) where
  st := fun q d c => match q with | 0 => bigSep Finset.univ fun i : Fin 16 => goP m d (wk (Fin.cast nCore_zero c) i)
  dn := fun q d c => match q with | 0 => bigSep Finset.univ fun i : Fin 16 => tdP m d (wk (Fin.cast nCore_zero c) i)
  go := fun q d c i => match q with | 0 => goP m d (wk (Fin.cast nCore_zero c) (Fin.cast nSub_zero i))
  td := fun q d c i => match q with | 0 => tdP m d (wk (Fin.cast nCore_zero c) (Fin.cast nSub_zero i))
  x := fun _ _ => iprop(emp)

instance P_storable : (P (F := F) m).IsStorable where
  st q d c := match q with
    | 0 => (inferInstance : BI.Storable (upEmb : UEmb _ (MM F)) (bigSep Finset.univ fun i : Fin 16 => goP m d (wk (Fin.cast nCore_zero c) i)))
  dn q d c := match q with
    | 0 => (inferInstance : BI.Storable (upEmb : UEmb _ (MM F)) (bigSep Finset.univ fun i : Fin 16 => tdP m d (wk (Fin.cast nCore_zero c) i)))
  go q d c i := match q with
    | 0 => (inferInstance : BI.Storable (upEmb : UEmb _ (MM F)) (goP m d (wk (Fin.cast nCore_zero c) (Fin.cast nSub_zero i))))
  td q d c i := match q with
    | 0 => (inferInstance : BI.Storable (upEmb : UEmb _ (MM F)) (tdP m d (wk (Fin.cast nCore_zero c) (Fin.cast nSub_zero i))))

/-! ## The whole arrays, dealt -/

omit [FloatOps F] in
theorem bands_disjoint : ∀ i ∈ (Finset.univ : Finset (Fin 32)), ∀ j ∈ (Finset.univ : Finset (Fin 32)), i ≠ j → Disjoint (oSet i) (oSet j) :=
  fun _ _ _ _ h => Rect.part_disjoint odiv h
omit [FloatOps F] in
theorem bands_cover : (Finset.univ : Finset (Fin 32)).biUnion oSet = Finset.univ := Rect.biUnion_part odiv
omit [FloatOps F] in
theorem oPts_bands (d : Dev nD) (f : Buf (Elt F) (oLoc d)) :
    (oLoc d ↦{fullShare} f : sProp (MM F)) = bigSep Finset.univ fun w : Fin 32 => oPts d w f := by
  rw [← pointsTo_biUnion Finset.univ (ℓ := oLoc d) oSet bands_disjoint, bands_cover]; try rfl

omit [FloatOps F] in
/-- A product over the 32 tasks is one over the two SparseCores and their tiles. -/
theorem bigSep_tasks (Φ : Fin 32 → sProp (MM F)) :
    bigSep Finset.univ Φ = bigSep Finset.univ fun c : Fin 2 => bigSep Finset.univ fun i : Fin 16 => Φ (wk c i) := by
  rw [bigSep_univ_equiv (finProdFinEquiv : Fin 2 × Fin 16 ≃ Fin 32) Φ, bigSep_univ_prod]
  refine bigSep_congr fun c _ => bigSep_congr fun i _ => congrArg Φ (Fin.ext ?_)
  simp [wk, finProdFinEquiv]; omega

/-- The four arrays whole are what the tasks get, at any contents of the result. -/
theorem deal (d : Dev nD) (f : Buf (Elt F) (oLoc d)) :
    (iprop((aLoc d ↦{fullShare} m (aLoc d)) ∗ (rLoc d ↦{fullShare} m (rLoc d)) ∗ (nLoc d ↦{fullShare} m (nLoc d)) ∗ (oLoc d ↦{fullShare} f)) : sProp (MM F))
      = bigSep Finset.univ fun c : Fin 2 => bigSep Finset.univ fun i : Fin 16 =>
          iprop(aPts m d (wk c i) ∗ rPts m d (wk c i) ∗ nPts m d (wk c i) ∗ oPts d (wk c i) f) := by
  rw [← bigSep_tasks (F := F) (fun w => iprop(aPts m d w ∗ rPts m d w ∗ nPts m d w ∗ oPts d w f)), bigSep_sep', bigSep_sep', bigSep_sep',
    pointsTo_leaves (ℓ := aLoc d) Finset.univ (m (aLoc d)) 5 fullShare, pointsTo_leaves (ℓ := rLoc d) Finset.univ (m (rLoc d)) 5 fullShare,
    pointsTo_leaves (ℓ := nLoc d) Finset.univ (m (nLoc d)) 5 fullShare, oPts_bands]
  rfl

theorem st0_eq (d : Dev nD) : (bigSep Finset.univ fun c : Fin ((K (F := F)).nCore 0) => (P m).st 0 d c)
    = iprop((aLoc d ↦{fullShare} m (aLoc d)) ∗ (rLoc d ↦{fullShare} m (rLoc d)) ∗ (nLoc d ↦{fullShare} m (nLoc d)) ∗ (oLoc d ↦{fullShare} m (oLoc d))) :=
  (deal m d _).symm
theorem dn0_eq (d : Dev nD) : (bigSep Finset.univ fun c : Fin ((K (F := F)).nCore 0) => (P m).dn 0 d c)
    = iprop((aLoc d ↦{fullShare} m (aLoc d)) ∗ (rLoc d ↦{fullShare} m (rLoc d)) ∗ (nLoc d ↦{fullShare} m (nLoc d)) ∗ (oLoc d ↦{fullShare} X m d)) :=
  (deal m d _).symm

/-- A call's operands are its tasks' at once. -/
theorem vecSplit : (K (F := F)).VecSplit' (P m) 0 := by
  intro d c
  show bigSep Finset.univ (fun i : Fin 16 => goP m d (wk (Fin.cast nCore_zero c) i)) ⊢ |={Set.univ}=> iprop(
      bigSep Finset.univ (fun i : Fin 16 => goP m d (wk (Fin.cast nCore_zero c) i))
      ∗ (bigSep Finset.univ (fun i : Fin 16 => tdP m d (wk (Fin.cast nCore_zero c) i))
          -∗ bigSep Finset.univ (fun i : Fin 16 => tdP m d (wk (Fin.cast nCore_zero c) i))))
  iintro H; imodintro
  isplitl [H]; · iexact H
  iintro H; iexact H

end Cert.Unsort.Hand

end
-- ==== Proof.Unsort.Vals.lean ====
/- The unsort call: the values one trip of the inner loop reads and stores. A trip takes 16 tokens; for each of the eight
   rows of the tile it gathers the tokens' scores by rank and stores what they come to. -/
module

public import proofs.«01_k».proof.Proof.Unsort.Deal
public import Idealize.ShloMosaic.Lib.ValueLayout

@[expose] public section

noncomputable section

namespace Cert.Unsort.Hand

open Cert.Unsort Cert.Unsort.Gen

open Idealize.ShloMosaic
open Idealize.ShloMosaic.ValueIdx

variable {F : FTy → Type}

/-! ## The memrefs of a task -/

abbrev aW : Memref sig .scVector .hbm S41x96x8x128 .f32 := Memref.whole main_arg0_scv
abbrev rW : Memref sig .scVector .hbm S5120 .i32 := Memref.whole main_arg1_scv
abbrev nW : Memref sig .scVector .hbm S5120 .i32 := Memref.whole main_arg2_scv
abbrev oW : Memref sig .scVector .hbm S96x40x8x128 .f32 := Memref.whole main_v0_scv
abbrev sR : Memref sig .scVector .vmem S5120 .i32 := Memref.whole cc0_scratch0
abbrev sN : Memref sig .scVector .vmem S5120 .i32 := Memref.whole cc0_scratch1
abbrev sI : Memref sig .scVector .vmem S40x8x128 .f32 := Memref.whole cc0_scratch2
abbrev sO : Memref sig .scVector .vmem S40x8x128 .f32 := Memref.whole cc0_scratch3

/-! ## Where a trip stores -/

theorem trips2 (t : Fin k0_t2_loop.trips) : t.val < 320 := Nat.lt_of_lt_of_le t.isLt k0_t2_abs.2.1
theorem trips1 (t : Fin k0_t1_loop.trips) : t.val < 3 := Nat.lt_of_lt_of_le t.isLt k0_t1_abs.2.1

theorem off3_eq : ∀ t : Fin k0_t2_loop.trips, k0_off3 t = ![t.val / 8, 0, 16 * (t.val % 8)] := by decide +kernel
theorem off4_eq : ∀ t : Fin k0_t2_loop.trips, k0_off4 t = ![t.val / 8, 1, 16 * (t.val % 8)] := by decide +kernel
theorem off5_eq : ∀ t : Fin k0_t2_loop.trips, k0_off5 t = ![t.val / 8, 2, 16 * (t.val % 8)] := by decide +kernel
theorem off6_eq : ∀ t : Fin k0_t2_loop.trips, k0_off6 t = ![t.val / 8, 3, 16 * (t.val % 8)] := by decide +kernel
theorem off7_eq : ∀ t : Fin k0_t2_loop.trips, k0_off7 t = ![t.val / 8, 4, 16 * (t.val % 8)] := by decide +kernel
theorem off8_eq : ∀ t : Fin k0_t2_loop.trips, k0_off8 t = ![t.val / 8, 5, 16 * (t.val % 8)] := by decide +kernel
theorem off9_eq : ∀ t : Fin k0_t2_loop.trips, k0_off9 t = ![t.val / 8, 6, 16 * (t.val % 8)] := by decide +kernel
theorem off10_eq : ∀ t : Fin k0_t2_loop.trips, k0_off10 t = ![t.val / 8, 7, 16 * (t.val % 8)] := by decide +kernel

/-! ## Words -/

/-- The block of a rank: its upper bits. -/
theorem shr7 (r : BitVec 32) (h : r.toNat < 5120) : (IntOp.shrsi .vector r 7#32).toNat = r.toNat / 128 := by
  unfold IntOp.shrsi
  rw [if_pos (by decide), BitVec.sshiftRight_eq', BitVec.sshiftRight_eq_of_msb_false (by rw [BitVec.msb_eq_decide]; simp; omega)]
  simp [BitVec.toNat_ushiftRight, Nat.shiftRight_eq_div_pow]

/-- The lane of a rank: its lower seven bits. -/
theorem and127 (r : BitVec 32) : (r &&& 127#32).toNat = r.toNat % 128 := by
  rw [BitVec.toNat_and]
  exact Nat.and_two_pow_sub_one_eq_mod r.toNat 7

/-! ## Sixteen tokens -/

section Sixteen
variable [FloatOps F]

/-- Token `x` of trip `t`. -/
def at16 (t : Fin k0_t2_loop.trips) (x : S16.Idx) : Fin 5120 :=
  ⟨16 * t.val + (x 0).val, by have := trips2 t; have : (x 0).val < 16 := (x 0).isLt; omega⟩

/-- Sixteen words of a task's array of words. -/
def words (w : S5120.Idx → BitVec 32) (t : Fin k0_t2_loop.trips) : IVec S16 32 := fun x => w (ix1 (at16 t x))

theorem read_rank (t : Fin k0_t2_loop.trips) (f : S5120.Idx → BitVec 32) :
    sR.view.readAt (Elt F) (Rect.unit (s := S5120) (k0_off2 t) S16.size (k0_off2_inb t)).toLoadRect f = words f t := by
  funext x
  show f _ = f _
  congr 1
  funext a
  match a with
  | 0 =>
    apply Fin.ext
    show (k0_off2 t) 0 + 1 * (x 0).val = _
    have h : k0_off2 t 0 = 16 * t.val := by rw [k0_off2_eq]; rfl
    show k0_off2 t 0 + 1 * (x 0).val = 16 * t.val + (x 0).val
    omega

theorem read_len (t : Fin k0_t2_loop.trips) (f : S5120.Idx → BitVec 32) :
    sN.view.readAt (Elt F) (Rect.unit (s := S5120) (k0_off2 t) S16.size (k0_off2_inb t)).toLoadRect f = words f t :=
  read_rank (F := F) t f

theorem read_tile (g : S40x8x128.Idx → F .f32) : (sI.access (.whole S40x8x128)).read (Elt F) g = g := by
  funext x
  show g _ = g _
  congr 1
  funext a
  apply Fin.ext
  show 0 + 1 * (x a).val = _
  omega

/-- The three indices of a gather are inside the tile. -/
theorem gather_inb (r : IVec S16 32) (hr : ∀ x, (r x).toNat < 5120) (k : BitVec 32) (hk : k.toNat < 8) :
    ∀ a x, ((![k0_pay2 (F := F) r, broadcast S16 k, k0_pay3 (F := F) r] : Fin 3 → IVec S16 32) a x).toNat < S40x8x128.size a := by
  intro a x
  match a with
  | 0 => show (IntOp.shrsi .vector (r x) 7#32).toNat < 40; rw [shr7 _ (hr x)]; have := hr x; omega
  | 1 => exact hk
  | 2 => show (r x &&& 127#32).toNat < 128; rw [and127]; omega

/-- A gather reads each token's score at its rank's block and lane. -/
theorem gather_val (r : IVec S16 32) (hr : ∀ x, (r x).toNat < 5120) (k : Fin 8) (g : S40x8x128.Idx → F .f32)
    (h : ∀ a x, ((![k0_pay2 (F := F) r, broadcast S16 (BitVec.ofNat 32 k.val), k0_pay3 (F := F) r] : Fin 3 → IVec S16 32) a x).toNat < S40x8x128.size a)
    (x : S16.Idx) :
    loadIdx (F := F) (s := S40x8x128) (e := .f32) g ![k0_pay2 (F := F) r, broadcast S16 (BitVec.ofNat 32 k.val), k0_pay3 (F := F) r] h x
      = g (ix3 ⟨(r x).toNat / 128 % 40, Nat.mod_lt _ (by decide)⟩ k ⟨(r x).toNat % 128, Nat.mod_lt _ (by decide)⟩) := by
  show g _ = g _
  congr 1
  funext a
  apply Fin.ext
  match a with
  | 0 =>
    show (IntOp.shrsi .vector (r x) 7#32).toNat = (r x).toNat / 128 % 40
    rw [shr7 _ (hr x)]; have := hr x; omega
  | 1 =>
    show (BitVec.ofNat 32 k.val).toNat = k.val
    rw [BitVec.toNat_ofNat]; have := k.isLt; omega
  | 2 => show (r x &&& 127#32).toNat = (r x).toNat % 128; exact and127 _

/-- Place `x` of trip `t`'s sixteen in row `k` of the tile. -/
def place (t : Fin k0_t2_loop.trips) (k : Fin 8) (x : S16.Idx) : S40x8x128.Idx :=
  ix3 ⟨t.val / 8, by have := trips2 t; omega⟩ k ⟨16 * (t.val % 8) + (x 0).val, by have : (x 0).val < 16 := (x 0).isLt; omega⟩

/-- What trip `t` is to store in row `k`. -/
def RowIs (Y : S40x8x128.Idx → F .f32) (t : Fin k0_t2_loop.trips) (k : Fin 8) (v : S16.Idx → F .f32) : Prop := ∀ x, v x = Y (place t k x)

/-- The gathered row, scored, is the tile's value there. -/
theorem row_is (rank len : S5120.Idx → BitVec 32) (hr : ∀ j, (rank j).toNat < 5120) (g : S40x8x128.Idx → F .f32) (t : Fin k0_t2_loop.trips) (k : Fin 8)
    (h : ∀ a x, ((![k0_pay2 (F := F) (words rank t), broadcast S16 (BitVec.ofNat 32 k.val), k0_pay3 (F := F) (words rank t)] : Fin 3 → IVec S16 32) a x).toNat < S40x8x128.size a) :
    RowIs (tileVal rank len g) t k
      (k0_pay4 (F := F) (words len t) (loadIdx (F := F) (s := S40x8x128) (e := .f32) g ![k0_pay2 (F := F) (words rank t), broadcast S16 (BitVec.ofNat 32 k.val), k0_pay3 (F := F) (words rank t)] h)) := by
  intro x
  have hp : tok ((place t k x) 0) ((place t k x) 2) = at16 t x := by
    apply Fin.ext
    show 128 * (t.val / 8) + (16 * (t.val % 8) + (x 0).val) = 16 * t.val + (x 0).val
    omega
  show elt (words len t x) (loadIdx (F := F) (s := S40x8x128) (e := .f32) g _ h x) = _
  rw [gather_val (words rank t) (fun x => hr _) k g h x]
  show elt (len (ix1 (at16 t x))) (g (ix3 ⟨(rank (ix1 (at16 t x))).toNat / 128 % 40, _⟩ k ⟨(rank (ix1 (at16 t x))).toNat % 128, _⟩))
    = elt (len (ix1 (tok ((place t k x) 0) ((place t k x) 2)))) (g (ix3 ⟨(rank (ix1 (tok ((place t k x) 0) ((place t k x) 2)))).toNat / 128 % 40, _⟩ k
      ⟨(rank (ix1 (tok ((place t k x) 0) ((place t k x) 2)))).toNat % 128, _⟩))
  simp only [hp]

/-! ## The invariant of the inner loop -/

/-- The first `n` sixteens of tokens are stored, and of the next the first `k` rows. -/
def Done (Y : S40x8x128.Idx → F .f32) (n k : ℕ) (g : S40x8x128.Idx → F .f32) : Prop :=
  ∀ j : S40x8x128.Idx, (128 * (j 0).val + (j 2).val < 16 * n ∨ (128 * (j 0).val + (j 2).val < 16 * (n + 1) ∧ (j 1).val < k)) → g j = Y j

theorem done_zero (Y g : S40x8x128.Idx → F .f32) : Done Y 0 0 g := by
  intro j h; omega

theorem done_next {Y g : S40x8x128.Idx → F .f32} {n : ℕ} (h : Done Y n 8 g) : Done Y (n + 1) 0 g := by
  intro j hj
  have : (j 1).val < 8 := (j 1).isLt
  exact h j (by omega)

theorem done_all {Y g : S40x8x128.Idx → F .f32} (h : Done Y 320 0 g) : g = Y := by
  funext j
  have h0 : (j 0).val < 40 := (j 0).isLt
  have h2 : (j 2).val < 128 := (j 2).isLt
  exact h j (by omega)

/-- A store of sixteen values into the tile, at an index inside. -/
theorem store_in (g : S40x8x128.Idx → F .f32) (off : Fin 3 → ℕ) (inb : ∀ a, off a + S1x1x16.size a ≤ S40x8x128.size a) (w : S1x1x16.Idx → F .f32)
    (j : S40x8x128.Idx) (y : S1x1x16.Idx) (h : ∀ a, off a + (y a).val = (j a).val) :
    (sO.access (Rect.unit (s := S40x8x128) off S1x1x16.size inb)).write (Elt F) g w Finset.univ j = w y := by
  have hj : j = (sO.access (Rect.unit (s := S40x8x128) off S1x1x16.size inb)).emb y := by
    funext a; apply Fin.ext
    show (j a).val = off a + 1 * (y a).val
    rw [Nat.one_mul, h a]
  rw [hj]
  exact View.write_emb_of_mem (Val := Elt F) (v := sO.access (Rect.unit (s := S40x8x128) off S1x1x16.size inb)) g w (Finset.mem_univ y)

/-- … and at an index outside. -/
theorem store_out (g : S40x8x128.Idx → F .f32) (off : Fin 3 → ℕ) (inb : ∀ a, off a + S1x1x16.size a ≤ S40x8x128.size a) (w : S1x1x16.Idx → F .f32)
    (j : S40x8x128.Idx) (h : ¬ ∀ a, off a ≤ (j a).val ∧ (j a).val < off a + S1x1x16.size a) :
    (sO.access (Rect.unit (s := S40x8x128) off S1x1x16.size inb)).write (Elt F) g w Finset.univ j = g j := by
  apply View.write_of_not_mem
  intro hm
  apply h
  obtain ⟨y, -, hy⟩ := Finset.mem_map.mp hm
  intro a
  have : (j a).val = off a + 1 * (y a).val := by rw [← hy]; rfl
  have : (y a).val < S1x1x16.size a := (y a).isLt
  omega

/-- Sixteen values, as a row of one plane. -/
theorem cast16 (v : S16.Idx → F .f32) (hs : S16.ShapeCasts S1x1x16) (y : S1x1x16.Idx) :
    shapeCast S1x1x16 v hs y = v (ix1 (y 2)) :=
  congrArg v (Shape.reshapeEquiv_eq_of_rowMajor hs (by
    have h0 : (y 0).val < 1 := (y 0).isLt
    have h1 : (y 1).val < 1 := (y 1).isLt
    rw [Shape.rowMajor_val_three, Shape.rowMajor_val_one]
    show (y 2).val = ((y 0).val * 1 + (y 1).val) * 16 + (y 2).val
    omega))

/-- Storing row `k` of trip `t`. -/
theorem store_step (Y g : S40x8x128.Idx → F .f32) (t : Fin k0_t2_loop.trips) (k : Fin 8) (off : Fin 3 → ℕ) (hoff : off = ![t.val / 8, k.val, 16 * (t.val % 8)])
    (inb : ∀ a, off a + S1x1x16.size a ≤ S40x8x128.size a) (v : S16.Idx → F .f32) (hs : S16.ShapeCasts S1x1x16) (hv : RowIs Y t k v) (hg : Done Y t.val k.val g) :
    Done Y t.val (k.val + 1)
      ((sO.access (Rect.unit (s := S40x8x128) off S1x1x16.size inb)).write (Elt F) g (shapeCast S1x1x16 v hs) Finset.univ) := by
  subst hoff
  intro j hj
  have hj2 : (j 2).val < 128 := (j 2).isLt
  by_cases hin : t.val / 8 = (j 0).val ∧ k.val = (j 1).val ∧ 16 * (t.val % 8) ≤ (j 2).val ∧ (j 2).val < 16 * (t.val % 8) + 16
  · obtain ⟨h0, h1, h2, h3⟩ := hin
    rw [store_in g _ inb _ j (ix3 (0 : Fin 1) (0 : Fin 1) (⟨(j 2).val - 16 * (t.val % 8), by omega⟩ : Fin 16)) (by
        intro a
        match a with
        | 0 => exact h0
        | 1 => exact h1
        | 2 => show 16 * (t.val % 8) + ((j 2).val - 16 * (t.val % 8)) = (j 2).val; omega),
      cast16, hv]
    congr 1
    funext a
    apply Fin.ext
    match a with
    | 0 => exact h0
    | 1 => exact h1
    | 2 => show 16 * (t.val % 8) + ((j 2).val - 16 * (t.val % 8)) = (j 2).val; omega
  · rw [store_out g _ inb _ j (by
        intro hall
        have h0 : t.val / 8 ≤ (j 0).val ∧ (j 0).val < t.val / 8 + 1 := hall 0
        have h1 : k.val ≤ (j 1).val ∧ (j 1).val < k.val + 1 := hall 1
        have h2 : 16 * (t.val % 8) ≤ (j 2).val ∧ (j 2).val < 16 * (t.val % 8) + 16 := hall 2
        omega)]
    apply hg
    omega

end Sixteen

end Cert.Unsort.Hand

end
-- ==== Proof.Unsort.Inner.lean ====
/- The unsort call: one trip of the inner loop, part by part as it is printed. The first part loads sixteen ranks and
   lengths and gathers the first row; each later part stores the row before it and gathers its own; the trip's last
   operation stores the last row. -/
module

public import proofs.«01_k».proof.Proof.Unsort.Vals

@[expose] public section

noncomputable section

namespace Cert.Unsort.Hand

open Cert.Unsort Cert.Unsort.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

abbrev cV (L : grid0.Coords) : Fin τ.nSC := (L 0).castLE hcore0
abbrev jV (L : grid0.Coords) : Fin τ.nSub := (L 1).castLE hsub0
/-- The thread of a task. -/
abbrev vt (d : Dev nD) (L : grid0.Coords) : Thread nD τ := V d (cV L) (jV L)

variable (d : Dev nD) (L : grid0.Coords) (t : Fin k0_t2_loop.trips) (rank len : S5120.Idx → BitVec 32) (G : S40x8x128.Idx → F .f32)

/-- The four scratches of a task, the result tile at `g`. -/
abbrev scr (g : S40x8x128.Idx → F .f32) : sProp (MM F) :=
  iprop((sR.view.loc (vt d L) ↦{fullShare} (rank : Buf (Elt F) (sR.view.loc (vt d L))))
    ∗ (sN.view.loc (vt d L) ↦{fullShare} (len : Buf (Elt F) (sN.view.loc (vt d L))))
    ∗ (sI.view.loc (vt d L) ↦{fullShare} (G : Buf (Elt F) (sI.view.loc (vt d L))))
    ∗ (sO.view.loc (vt d L) ↦{fullShare} (g : Buf (Elt F) (sO.view.loc (vt d L)))))

theorem part1_wp (hr : ∀ j, (rank j).toNat < 5120) (a b : BitVec 32) (g : S40x8x128.Idx → F .f32) :
    scr d L rank len G g
      ⊢ wp frame (wpE (defs₀ (F := F)) 𝒱₀ (vt d L) none) Set.univ
          (k0_part1 L aW (Memref.isWhole_whole _) rW (Memref.isWhole_whole _) nW (Memref.isWhole_whole _) oW (Memref.isWhole_whole _) sR (Memref.isWhole_whole _) sN (Memref.isWhole_whole _) sI (Memref.isWhole_whole _) sO (Memref.isWhole_whole _) cc0_scratch4 cc0_scoped0 cc0_scoped1 cc0_scoped2 a b t)
          fun r => iprop(⌜r.2.1 = k0_pay1 (F := F) (words len t) ∧ r.2.2.1 = k0_pay2 (F := F) (words rank t) ∧ r.2.2.2.1 = k0_pay3 (F := F) (words rank t)
              ∧ RowIs (tileVal rank len G) t 0 r.2.2.2.2.1⌝ ∗ scr d L rank len G g) := by
  rw [k0_part1_eq_skeleton]; unfold k0_part1_skel
  simp only [Prog.lift, Prog.bind_op, Prog.bind_ret, Prog.pure_eq_ret]
  iintro ⟨HR, HN, HI, HO⟩
  iapply (wp_load 𝒱₀ (vt d L) none Set.univ (m := sR) (S := Finset.univ) (Finset.subset_univ _)) $$ HR; iintro HR
  iapply (wp_load 𝒱₀ (vt d L) none Set.univ (m := sN) (S := Finset.univ) (Finset.subset_univ _)) $$ HN; iintro HN
  rw [read_rank (F := F), read_len (F := F)]
  rw [wp_assume_of (P := k0_chk1 (k0_pay2 (F := F) (words rank t)) (k0_pay3 (F := F) (words rank t)) (broadcast S16 0#32)) _ _ _ _ (gather_inb (F := F) (words rank t) (fun x => hr _) 0#32 (by decide))]
  iapply (SparseCore.wp_vectorLoadIdx 𝒱₀ (vt d L) none Set.univ (base := sI) (S := Finset.univ) (q := fullShare) (Finset.subset_univ _)) $$ HI; iintro HI
  rw [read_tile]
  sl_step
  isplitr
  · ipureintro; exact ⟨rfl, rfl, rfl, row_is rank len hr G t 0 _⟩
  isplitl [HR]; · iexact HR
  isplitl [HN]; · iexact HN
  isplitl [HI]; · iexact HI
  iexact HO

theorem part2_wp (hr : ∀ j, (rank j).toNat < 5120) (g : S40x8x128.Idx → F .f32) (hg : Done (tileVal rank len G) t.val 0 g)
    (v : FVec F S16 .f32) (hv : RowIs (tileVal rank len G) t 0 v) (v17 : BitVec 32) (v54 : BitVec 32) (c8_i32_33 : BitVec 32) :
    scr d L rank len G g
      ⊢ wp frame (wpE (defs₀ (F := F)) 𝒱₀ (vt d L) none) Set.univ
          (k0_part2 L aW (Memref.isWhole_whole _) rW (Memref.isWhole_whole _) nW (Memref.isWhole_whole _) oW (Memref.isWhole_whole _) sR (Memref.isWhole_whole _) sN (Memref.isWhole_whole _) sI (Memref.isWhole_whole _) sO (Memref.isWhole_whole _) cc0_scratch4 cc0_scoped0 cc0_scoped1 cc0_scoped2 t v17 (k0_pay1 (F := F) (words len t)) (k0_pay2 (F := F) (words rank t)) (k0_pay3 (F := F) (words rank t)) v v54 c8_i32_33)
          fun r => iprop(∃ g' : S40x8x128.Idx → F .f32, ⌜Done (tileVal rank len G) t.val 1 g' ∧ RowIs (tileVal rank len G) t 1 r.1⌝ ∗ scr d L rank len G g') := by
  rw [k0_part2_eq_skeleton]; unfold k0_part2_skel
  simp only [Prog.lift, Prog.bind_op, Prog.bind_ret, Prog.pure_eq_ret]
  iintro ⟨HR, HN, HI, HO⟩
  iapply (wp_load 𝒱₀ (vt d L) none Set.univ (m := sO) (S := Finset.univ) (Finset.subset_univ _)) $$ HO; iintro HO
  iapply (wp_store 𝒱₀ (vt d L) none Set.univ (m := sO) (r := Rect.unit (s := S40x8x128) (k0_off3 t) S1x1x16.size (k0_off3_inb t)) (Mk := Finset.univ) (S := Finset.univ) (Finset.subset_univ _)) $$ HO; iintro HO
  rw [wp_assume_of (P := k0_chk2 (k0_pay2 (F := F) (words rank t)) (k0_pay3 (F := F) (words rank t)) (broadcast S16 1#32)) _ _ _ _ (gather_inb (F := F) (words rank t) (fun x => hr _) 1#32 (by decide))]
  iapply (SparseCore.wp_vectorLoadIdx 𝒱₀ (vt d L) none Set.univ (base := sI) (S := Finset.univ) (q := fullShare) (Finset.subset_univ _)) $$ HI; iintro HI
  rw [read_tile]
  sl_step
  iexists ((sO.access (Rect.unit (s := S40x8x128) (k0_off3 t) S1x1x16.size (k0_off3_inb t))).write (Elt F) g (shapeCast S1x1x16 v shapeCasts_S16_S1x1x16) Finset.univ)
  isplitr
  · ipureintro
    exact ⟨store_step _ g t 0 _ (off3_eq t) _ v _ hv hg, row_is rank len hr G t 1 _⟩
  isplitl [HR]; · iexact HR
  isplitl [HN]; · iexact HN
  isplitl [HI]; · iexact HI
  iexact HO

theorem part3_wp (hr : ∀ j, (rank j).toNat < 5120) (g : S40x8x128.Idx → F .f32) (hg : Done (tileVal rank len G) t.val 1 g)
    (v : FVec F S16 .f32) (hv : RowIs (tileVal rank len G) t 1 v) (v17 : BitVec 32) (v78 : BitVec 32) (v92 : BitVec 1) (v93 : BitVec 32) :
    scr d L rank len G g
      ⊢ wp frame (wpE (defs₀ (F := F)) 𝒱₀ (vt d L) none) Set.univ
          (k0_part3 L aW (Memref.isWhole_whole _) rW (Memref.isWhole_whole _) nW (Memref.isWhole_whole _) oW (Memref.isWhole_whole _) sR (Memref.isWhole_whole _) sN (Memref.isWhole_whole _) sI (Memref.isWhole_whole _) sO (Memref.isWhole_whole _) cc0_scratch4 cc0_scoped0 cc0_scoped1 cc0_scoped2 t v17 (k0_pay1 (F := F) (words len t)) (k0_pay2 (F := F) (words rank t)) (k0_pay3 (F := F) (words rank t)) v v78 v92 v93)
          fun r => iprop(∃ g' : S40x8x128.Idx → F .f32, ⌜Done (tileVal rank len G) t.val 2 g' ∧ RowIs (tileVal rank len G) t 2 r.1⌝ ∗ scr d L rank len G g') := by
  rw [k0_part3_eq_skeleton]; unfold k0_part3_skel
  simp only [Prog.lift, Prog.bind_op, Prog.bind_ret, Prog.pure_eq_ret]
  iintro ⟨HR, HN, HI, HO⟩
  iapply (wp_load 𝒱₀ (vt d L) none Set.univ (m := sO) (S := Finset.univ) (Finset.subset_univ _)) $$ HO; iintro HO
  iapply (wp_store 𝒱₀ (vt d L) none Set.univ (m := sO) (r := Rect.unit (s := S40x8x128) (k0_off4 t) S1x1x16.size (k0_off4_inb t)) (Mk := Finset.univ) (S := Finset.univ) (Finset.subset_univ _)) $$ HO; iintro HO
  rw [wp_assume_of (P := k0_chk3 (k0_pay2 (F := F) (words rank t)) (k0_pay3 (F := F) (words rank t)) (broadcast S16 2#32)) _ _ _ _ (gather_inb (F := F) (words rank t) (fun x => hr _) 2#32 (by decide))]
  iapply (SparseCore.wp_vectorLoadIdx 𝒱₀ (vt d L) none Set.univ (base := sI) (S := Finset.univ) (q := fullShare) (Finset.subset_univ _)) $$ HI; iintro HI
  rw [read_tile]
  sl_step
  iexists ((sO.access (Rect.unit (s := S40x8x128) (k0_off4 t) S1x1x16.size (k0_off4_inb t))).write (Elt F) g (shapeCast S1x1x16 v shapeCasts_S16_S1x1x16) Finset.univ)
  isplitr
  · ipureintro
    exact ⟨store_step _ g t 1 _ (off4_eq t) _ v _ hv hg, row_is rank len hr G t 2 _⟩
  isplitl [HR]; · iexact HR
  isplitl [HN]; · iexact HN
  isplitl [HI]; · iexact HI
  iexact HO

theorem part4_wp (hr : ∀ j, (rank j).toNat < 5120) (g : S40x8x128.Idx → F .f32) (hg : Done (tileVal rank len G) t.val 2 g)
    (v : FVec F S16 .f32) (hv : RowIs (tileVal rank len G) t 2 v) (v17 : BitVec 32) (v118 : BitVec 32) (v132 : BitVec 1) :
    scr d L rank len G g
      ⊢ wp frame (wpE (defs₀ (F := F)) 𝒱₀ (vt d L) none) Set.univ
          (k0_part4 L aW (Memref.isWhole_whole _) rW (Memref.isWhole_whole _) nW (Memref.isWhole_whole _) oW (Memref.isWhole_whole _) sR (Memref.isWhole_whole _) sN (Memref.isWhole_whole _) sI (Memref.isWhole_whole _) sO (Memref.isWhole_whole _) cc0_scratch4 cc0_scoped0 cc0_scoped1 cc0_scoped2 t v17 (k0_pay1 (F := F) (words len t)) (k0_pay2 (F := F) (words rank t)) (k0_pay3 (F := F) (words rank t)) v v118 v132)
          fun r => iprop(∃ g' : S40x8x128.Idx → F .f32, ⌜Done (tileVal rank len G) t.val 3 g' ∧ RowIs (tileVal rank len G) t 3 r.1⌝ ∗ scr d L rank len G g') := by
  rw [k0_part4_eq_skeleton]; unfold k0_part4_skel
  simp only [Prog.lift, Prog.bind_op, Prog.bind_ret, Prog.pure_eq_ret]
  iintro ⟨HR, HN, HI, HO⟩
  iapply (wp_load 𝒱₀ (vt d L) none Set.univ (m := sO) (S := Finset.univ) (Finset.subset_univ _)) $$ HO; iintro HO
  iapply (wp_store 𝒱₀ (vt d L) none Set.univ (m := sO) (r := Rect.unit (s := S40x8x128) (k0_off5 t) S1x1x16.size (k0_off5_inb t)) (Mk := Finset.univ) (S := Finset.univ) (Finset.subset_univ _)) $$ HO; iintro HO
  rw [wp_assume_of (P := k0_chk4 (k0_pay2 (F := F) (words rank t)) (k0_pay3 (F := F) (words rank t)) (broadcast S16 3#32)) _ _ _ _ (gather_inb (F := F) (words rank t) (fun x => hr _) 3#32 (by decide))]
  iapply (SparseCore.wp_vectorLoadIdx 𝒱₀ (vt d L) none Set.univ (base := sI) (S := Finset.univ) (q := fullShare) (Finset.subset_univ _)) $$ HI; iintro HI
  rw [read_tile]
  sl_step
  iexists ((sO.access (Rect.unit (s := S40x8x128) (k0_off5 t) S1x1x16.size (k0_off5_inb t))).write (Elt F) g (shapeCast S1x1x16 v shapeCasts_S16_S1x1x16) Finset.univ)
  isplitr
  · ipureintro
    exact ⟨store_step _ g t 2 _ (off5_eq t) _ v _ hv hg, row_is rank len hr G t 3 _⟩
  isplitl [HR]; · iexact HR
  isplitl [HN]; · iexact HN
  isplitl [HI]; · iexact HI
  iexact HO

theorem part5_wp (hr : ∀ j, (rank j).toNat < 5120) (g : S40x8x128.Idx → F .f32) (hg : Done (tileVal rank len G) t.val 3 g)
    (v : FVec F S16 .f32) (hv : RowIs (tileVal rank len G) t 3 v) (v17 : BitVec 32) (v158 : BitVec 32) (v169 : BitVec 1) (v170 : BitVec 32) (c0_i32_87 : BitVec 32) :
    scr d L rank len G g
      ⊢ wp frame (wpE (defs₀ (F := F)) 𝒱₀ (vt d L) none) Set.univ
          (k0_part5 L aW (Memref.isWhole_whole _) rW (Memref.isWhole_whole _) nW (Memref.isWhole_whole _) oW (Memref.isWhole_whole _) sR (Memref.isWhole_whole _) sN (Memref.isWhole_whole _) sI (Memref.isWhole_whole _) sO (Memref.isWhole_whole _) cc0_scratch4 cc0_scoped0 cc0_scoped1 cc0_scoped2 t v17 (k0_pay1 (F := F) (words len t)) (k0_pay2 (F := F) (words rank t)) (k0_pay3 (F := F) (words rank t)) v v158 v169 v170 c0_i32_87)
          fun r => iprop(∃ g' : S40x8x128.Idx → F .f32, ⌜Done (tileVal rank len G) t.val 4 g' ∧ RowIs (tileVal rank len G) t 4 r.1⌝ ∗ scr d L rank len G g') := by
  rw [k0_part5_eq_skeleton]; unfold k0_part5_skel
  simp only [Prog.lift, Prog.bind_op, Prog.bind_ret, Prog.pure_eq_ret]
  iintro ⟨HR, HN, HI, HO⟩
  iapply (wp_load 𝒱₀ (vt d L) none Set.univ (m := sO) (S := Finset.univ) (Finset.subset_univ _)) $$ HO; iintro HO
  iapply (wp_store 𝒱₀ (vt d L) none Set.univ (m := sO) (r := Rect.unit (s := S40x8x128) (k0_off6 t) S1x1x16.size (k0_off6_inb t)) (Mk := Finset.univ) (S := Finset.univ) (Finset.subset_univ _)) $$ HO; iintro HO
  rw [wp_assume_of (P := k0_chk5 (k0_pay2 (F := F) (words rank t)) (k0_pay3 (F := F) (words rank t)) (broadcast S16 4#32)) _ _ _ _ (gather_inb (F := F) (words rank t) (fun x => hr _) 4#32 (by decide))]
  iapply (SparseCore.wp_vectorLoadIdx 𝒱₀ (vt d L) none Set.univ (base := sI) (S := Finset.univ) (q := fullShare) (Finset.subset_univ _)) $$ HI; iintro HI
  rw [read_tile]
  sl_step
  iexists ((sO.access (Rect.unit (s := S40x8x128) (k0_off6 t) S1x1x16.size (k0_off6_inb t))).write (Elt F) g (shapeCast S1x1x16 v shapeCasts_S16_S1x1x16) Finset.univ)
  isplitr
  · ipureintro
    exact ⟨store_step _ g t 3 _ (off6_eq t) _ v _ hv hg, row_is rank len hr G t 4 _⟩
  isplitl [HR]; · iexact HR
  isplitl [HN]; · iexact HN
  isplitl [HI]; · iexact HI
  iexact HO

theorem part6_wp (hr : ∀ j, (rank j).toNat < 5120) (g : S40x8x128.Idx → F .f32) (hg : Done (tileVal rank len G) t.val 4 g)
    (v : FVec F S16 .f32) (hv : RowIs (tileVal rank len G) t 4 v) (v17 : BitVec 32) (c8_i32_100 : BitVec 32) (v198 : BitVec 32) (v209 : BitVec 1) :
    scr d L rank len G g
      ⊢ wp frame (wpE (defs₀ (F := F)) 𝒱₀ (vt d L) none) Set.univ
          (k0_part6 L aW (Memref.isWhole_whole _) rW (Memref.isWhole_whole _) nW (Memref.isWhole_whole _) oW (Memref.isWhole_whole _) sR (Memref.isWhole_whole _) sN (Memref.isWhole_whole _) sI (Memref.isWhole_whole _) sO (Memref.isWhole_whole _) cc0_scratch4 cc0_scoped0 cc0_scoped1 cc0_scoped2 t v17 (k0_pay1 (F := F) (words len t)) (k0_pay2 (F := F) (words rank t)) (k0_pay3 (F := F) (words rank t)) v c8_i32_100 v198 v209)
          fun r => iprop(∃ g' : S40x8x128.Idx → F .f32, ⌜Done (tileVal rank len G) t.val 5 g' ∧ RowIs (tileVal rank len G) t 5 r.1⌝ ∗ scr d L rank len G g') := by
  rw [k0_part6_eq_skeleton]; unfold k0_part6_skel
  simp only [Prog.lift, Prog.bind_op, Prog.bind_ret, Prog.pure_eq_ret]
  iintro ⟨HR, HN, HI, HO⟩
  iapply (wp_load 𝒱₀ (vt d L) none Set.univ (m := sO) (S := Finset.univ) (Finset.subset_univ _)) $$ HO; iintro HO
  iapply (wp_store 𝒱₀ (vt d L) none Set.univ (m := sO) (r := Rect.unit (s := S40x8x128) (k0_off7 t) S1x1x16.size (k0_off7_inb t)) (Mk := Finset.univ) (S := Finset.univ) (Finset.subset_univ _)) $$ HO; iintro HO
  rw [wp_assume_of (P := k0_chk6 (k0_pay2 (F := F) (words rank t)) (k0_pay3 (F := F) (words rank t)) (broadcast S16 5#32)) _ _ _ _ (gather_inb (F := F) (words rank t) (fun x => hr _) 5#32 (by decide))]
  iapply (SparseCore.wp_vectorLoadIdx 𝒱₀ (vt d L) none Set.univ (base := sI) (S := Finset.univ) (q := fullShare) (Finset.subset_univ _)) $$ HI; iintro HI
  rw [read_tile]
  sl_step
  iexists ((sO.access (Rect.unit (s := S40x8x128) (k0_off7 t) S1x1x16.size (k0_off7_inb t))).write (Elt F) g (shapeCast S1x1x16 v shapeCasts_S16_S1x1x16) Finset.univ)
  isplitr
  · ipureintro
    exact ⟨store_step _ g t 4 _ (off7_eq t) _ v _ hv hg, row_is rank len hr G t 5 _⟩
  isplitl [HR]; · iexact HR
  isplitl [HN]; · iexact HN
  isplitl [HI]; · iexact HI
  iexact HO

theorem part7_wp (hr : ∀ j, (rank j).toNat < 5120) (g : S40x8x128.Idx → F .f32) (hg : Done (tileVal rank len G) t.val 5 g)
    (v : FVec F S16 .f32) (hv : RowIs (tileVal rank len G) t 5 v) (v17 : BitVec 32) (c8_i32_118 : BitVec 32) (v238 : BitVec 32) (v243 : BitVec 32) (v245 : BitVec 32) (v247 : BitVec 32) :
    scr d L rank len G g
      ⊢ wp frame (wpE (defs₀ (F := F)) 𝒱₀ (vt d L) none) Set.univ
          (k0_part7 L aW (Memref.isWhole_whole _) rW (Memref.isWhole_whole _) nW (Memref.isWhole_whole _) oW (Memref.isWhole_whole _) sR (Memref.isWhole_whole _) sN (Memref.isWhole_whole _) sI (Memref.isWhole_whole _) sO (Memref.isWhole_whole _) cc0_scratch4 cc0_scoped0 cc0_scoped1 cc0_scoped2 t v17 (k0_pay1 (F := F) (words len t)) (k0_pay2 (F := F) (words rank t)) (k0_pay3 (F := F) (words rank t)) v c8_i32_118 v238 v243 v245 v247)
          fun r => iprop(∃ g' : S40x8x128.Idx → F .f32, ⌜Done (tileVal rank len G) t.val 6 g' ∧ RowIs (tileVal rank len G) t 6 r.1⌝ ∗ scr d L rank len G g') := by
  rw [k0_part7_eq_skeleton]; unfold k0_part7_skel
  simp only [Prog.lift, Prog.bind_op, Prog.bind_ret, Prog.pure_eq_ret]
  iintro ⟨HR, HN, HI, HO⟩
  iapply (wp_load 𝒱₀ (vt d L) none Set.univ (m := sO) (S := Finset.univ) (Finset.subset_univ _)) $$ HO; iintro HO
  iapply (wp_store 𝒱₀ (vt d L) none Set.univ (m := sO) (r := Rect.unit (s := S40x8x128) (k0_off8 t) S1x1x16.size (k0_off8_inb t)) (Mk := Finset.univ) (S := Finset.univ) (Finset.subset_univ _)) $$ HO; iintro HO
  rw [wp_assume_of (P := k0_chk7 (k0_pay2 (F := F) (words rank t)) (k0_pay3 (F := F) (words rank t)) (broadcast S16 6#32)) _ _ _ _ (gather_inb (F := F) (words rank t) (fun x => hr _) 6#32 (by decide))]
  iapply (SparseCore.wp_vectorLoadIdx 𝒱₀ (vt d L) none Set.univ (base := sI) (S := Finset.univ) (q := fullShare) (Finset.subset_univ _)) $$ HI; iintro HI
  rw [read_tile]
  sl_step
  iexists ((sO.access (Rect.unit (s := S40x8x128) (k0_off8 t) S1x1x16.size (k0_off8_inb t))).write (Elt F) g (shapeCast S1x1x16 v shapeCasts_S16_S1x1x16) Finset.univ)
  isplitr
  · ipureintro
    exact ⟨store_step _ g t 5 _ (off8_eq t) _ v _ hv hg, row_is rank len hr G t 6 _⟩
  isplitl [HR]; · iexact HR
  isplitl [HN]; · iexact HN
  isplitl [HI]; · iexact HI
  iexact HO

theorem part8_wp (hr : ∀ j, (rank j).toNat < 5120) (g : S40x8x128.Idx → F .f32) (hg : Done (tileVal rank len G) t.val 6 g)
    (v : FVec F S16 .f32) (hv : RowIs (tileVal rank len G) t 6 v) (v17 : BitVec 32) (c8_i32_136 : BitVec 32) (v278 : BitVec 32) (v283 : BitVec 32) (v285 : BitVec 32) (c0_i32_140 : BitVec 32) :
    scr d L rank len G g
      ⊢ wp frame (wpE (defs₀ (F := F)) 𝒱₀ (vt d L) none) Set.univ
          (k0_part8 L aW (Memref.isWhole_whole _) rW (Memref.isWhole_whole _) nW (Memref.isWhole_whole _) oW (Memref.isWhole_whole _) sR (Memref.isWhole_whole _) sN (Memref.isWhole_whole _) sI (Memref.isWhole_whole _) sO (Memref.isWhole_whole _) cc0_scratch4 cc0_scoped0 cc0_scoped1 cc0_scoped2 t v17 (k0_pay1 (F := F) (words len t)) (k0_pay2 (F := F) (words rank t)) (k0_pay3 (F := F) (words rank t)) v c8_i32_136 v278 v283 v285 c0_i32_140)
          fun r => iprop(∃ g' : S40x8x128.Idx → F .f32, ⌜Done (tileVal rank len G) t.val 7 g' ∧ RowIs (tileVal rank len G) t 7 r.1⌝ ∗ scr d L rank len G g') := by
  rw [k0_part8_eq_skeleton]; unfold k0_part8_skel
  simp only [Prog.lift, Prog.bind_op, Prog.bind_ret, Prog.pure_eq_ret]
  iintro ⟨HR, HN, HI, HO⟩
  iapply (wp_load 𝒱₀ (vt d L) none Set.univ (m := sO) (S := Finset.univ) (Finset.subset_univ _)) $$ HO; iintro HO
  iapply (wp_store 𝒱₀ (vt d L) none Set.univ (m := sO) (r := Rect.unit (s := S40x8x128) (k0_off9 t) S1x1x16.size (k0_off9_inb t)) (Mk := Finset.univ) (S := Finset.univ) (Finset.subset_univ _)) $$ HO; iintro HO
  rw [wp_assume_of (P := k0_chk8 (k0_pay2 (F := F) (words rank t)) (k0_pay3 (F := F) (words rank t)) (broadcast S16 7#32)) _ _ _ _ (gather_inb (F := F) (words rank t) (fun x => hr _) 7#32 (by decide))]
  iapply (SparseCore.wp_vectorLoadIdx 𝒱₀ (vt d L) none Set.univ (base := sI) (S := Finset.univ) (q := fullShare) (Finset.subset_univ _)) $$ HI; iintro HI
  rw [read_tile]
  sl_step
  iexists ((sO.access (Rect.unit (s := S40x8x128) (k0_off9 t) S1x1x16.size (k0_off9_inb t))).write (Elt F) g (shapeCast S1x1x16 v shapeCasts_S16_S1x1x16) Finset.univ)
  isplitr
  · ipureintro
    exact ⟨store_step _ g t 6 _ (off9_eq t) _ v _ hv hg, row_is rank len hr G t 7 _⟩
  isplitl [HR]; · iexact HR
  isplitl [HN]; · iexact HN
  isplitl [HI]; · iexact HI
  iexact HO

omit [FloatOps F] in
theorem elim_pure {φ : Prop} {A B : sProp (MM F)} (h : φ → A ⊢ B) : iprop(⌜φ⌝ ∗ A) ⊢ B := by
  iintro ⟨%hφ, H⟩; iapply (h hφ); iexact H

omit [FloatOps F] in
theorem elim_ex {I : Type} {φ : I → Prop} {A : I → sProp (MM F)} {B : sProp (MM F)} (h : ∀ i, φ i → A i ⊢ B) : iprop(∃ i, ⌜φ i⌝ ∗ A i) ⊢ B := by
  iintro ⟨%i, %hφ, H⟩; iapply (h i hφ); iexact H

set_option maxHeartbeats 1000000 in
/-- A trip of the inner loop stores its sixteen tokens. -/
theorem trip_wp (hr : ∀ j, (rank j).toNat < 5120) (g : S40x8x128.Idx → F .f32) (hg : Done (tileVal rank len G) t.val 0 g) :
    scr d L rank len G g
      ⊢ wp frame (wpE (defs₀ (F := F)) 𝒱₀ (vt d L) none) Set.univ
          (k0_t2_body L aW (Memref.isWhole_whole _) rW (Memref.isWhole_whole _) nW (Memref.isWhole_whole _) oW (Memref.isWhole_whole _) sR (Memref.isWhole_whole _) sN (Memref.isWhole_whole _) sI (Memref.isWhole_whole _) sO (Memref.isWhole_whole _) cc0_scratch4 cc0_scoped0 cc0_scoped1 cc0_scoped2 t ())
          fun _ => iprop(∃ g' : S40x8x128.Idx → F .f32, ⌜Done (tileVal rank len G) (t.val + 1) 0 g'⌝ ∗ scr d L rank len G g') := by
  unfold k0_t2_body
  dsimp only
  rw [wp_bind]
  refine (part1_wp d L t rank len G hr _ _ g).trans (wp_mono frame _ _ fun r => elim_pure ?_)
  obtain ⟨v17, v25, v27, v29, x1, v54, c8⟩ := r
  rintro ⟨h1, h2, h3, hx1⟩
  dsimp only at h1 h2 h3 hx1
  subst h1 h2 h3
  dsimp only
  rw [wp_bind]
  refine (part2_wp d L t rank len G hr g hg x1 hx1 _ _ _).trans (wp_mono frame _ _ fun r => elim_ex fun g2 h2 => ?_)
  obtain ⟨x2, _, _, _⟩ := r
  obtain ⟨hg2, hx2⟩ := h2
  dsimp only at hx2
  dsimp only
  rw [wp_bind]
  refine (part3_wp d L t rank len G hr g2 hg2 x2 hx2 _ _ _ _).trans (wp_mono frame _ _ fun r => elim_ex fun g3 h3 => ?_)
  obtain ⟨x3, _, _⟩ := r
  obtain ⟨hg3, hx3⟩ := h3
  dsimp only at hx3
  dsimp only
  rw [wp_bind]
  refine (part4_wp d L t rank len G hr g3 hg3 x3 hx3 _ _ _).trans (wp_mono frame _ _ fun r => elim_ex fun g4 h4 => ?_)
  obtain ⟨x4, _, _, _, _⟩ := r
  obtain ⟨hg4, hx4⟩ := h4
  dsimp only at hx4
  dsimp only
  rw [wp_bind]
  refine (part5_wp d L t rank len G hr g4 hg4 x4 hx4 _ _ _ _ _).trans (wp_mono frame _ _ fun r => elim_ex fun g5 h5 => ?_)
  obtain ⟨x5, _, _, _⟩ := r
  obtain ⟨hg5, hx5⟩ := h5
  dsimp only at hx5
  dsimp only
  rw [wp_bind]
  refine (part6_wp d L t rank len G hr g5 hg5 x5 hx5 _ _ _ _).trans (wp_mono frame _ _ fun r => elim_ex fun g6 h6 => ?_)
  obtain ⟨x6, _, _, _, _, _⟩ := r
  obtain ⟨hg6, hx6⟩ := h6
  dsimp only at hx6
  dsimp only
  rw [wp_bind]
  refine (part7_wp d L t rank len G hr g6 hg6 x6 hx6 _ _ _ _ _ _).trans (wp_mono frame _ _ fun r => elim_ex fun g7 h7 => ?_)
  obtain ⟨x7, _, _, _, _, _⟩ := r
  obtain ⟨hg7, hx7⟩ := h7
  dsimp only at hx7
  dsimp only
  rw [wp_bind]
  refine (part8_wp d L t rank len G hr g7 hg7 x7 hx7 _ _ _ _ _ _).trans (wp_mono frame _ _ fun r => elim_ex fun g8 h8 => ?_)
  obtain ⟨x8, _, _, _, _⟩ := r
  obtain ⟨hg8, hx8⟩ := h8
  dsimp only at hx8
  dsimp only
  simp only [Prog.lift, Prog.bind_op, Prog.bind_ret, Prog.pure_eq_ret]
  iintro ⟨HR, HN, HI, HO⟩
  iapply (wp_load 𝒱₀ (vt d L) none Set.univ (m := sO) (S := Finset.univ) (Finset.subset_univ _)) $$ HO; iintro HO
  iapply (wp_store 𝒱₀ (vt d L) none Set.univ (m := sO) (r := Rect.unit (s := S40x8x128) (k0_off10 t) S1x1x16.size (k0_off10_inb t)) (Mk := Finset.univ) (S := Finset.univ) (Finset.subset_univ _)) $$ HO; iintro HO
  sl_step
  iexists ((sO.access (Rect.unit (s := S40x8x128) (k0_off10 t) S1x1x16.size (k0_off10_inb t))).write (Elt F) g8 (shapeCast S1x1x16 x8 shapeCasts_S16_S1x1x16) Finset.univ)
  isplitr
  · ipureintro
    exact done_next (store_step _ g8 t 7 _ (off10_eq t) _ x8 _ hx8 hg8)
  isplitl [HR]; · iexact HR
  isplitl [HN]; · iexact HN
  isplitl [HI]; · iexact HI
  iexact HO

end Cert.Unsort.Hand

end
-- ==== Proof.Unsort.Outer.lean ====
/- The unsort call: one trip of the outer loop. It fetches a row tile of the scores, runs the inner loop over it and
   copies the finished tile out. -/
module

public import proofs.«01_k».proof.Proof.Unsort.Inner

@[expose] public section

noncomputable section

namespace Cert.Unsort.Hand

open Cert.Unsort Cert.Unsort.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]
variable (m : (ℓ : Loc nD τ sig) → Buf (Elt F) ℓ)
variable (d : Dev nD) (L : grid0.Coords)

theorem bound_zero : grid0.bound 0 = 2 := rfl
theorem bound_one : grid0.bound 1 = 16 := rfl
/-- The number of a task. -/
abbrev wL (L : grid0.Coords) : Fin 32 := wk (Fin.cast bound_zero (L 0)) (Fin.cast bound_one (L 1))

/-- The row tile a trip of the outer loop does. -/
def rowOf (L : grid0.Coords) (t : Fin k0_t1_loop.trips) : Fin 96 :=
  ⟨3 * (wL L).val + t.val, by have := trips1 t; have := (wL L).isLt; omega⟩

theorem rowOf_off (t : Fin k0_t1_loop.trips) : 48 * (L 0).val + 3 * (L 1).val + t.val = (rowOf L t).val := by
  show _ = 3 * (16 * (L 0).val + (L 1).val) + t.val
  omega

abbrev aRow (t : Fin k0_t1_loop.trips) : Memref sig .scVector .hbm S40x8x128 .f32 :=
  (aW.slice (Rect.unit (s := S41x96x8x128) (k0_off1 L t) S40x1x8x128.size (k0_off1_inb L t)) (fun _ => rfl)).squeeze S40x8x128 squeezes_S40x1x8x128_S40x8x128
abbrev oRow (t : Fin k0_t1_loop.trips) : Memref sig .scVector .hbm S40x8x128 .f32 :=
  (oW.slice (Rect.unit (s := S96x40x8x128) (k0_off11 L t) S1x40x8x128.size (k0_off11_inb L t)) (fun _ => rfl)).squeeze S40x8x128 squeezes_S1x40x8x128_S40x8x128

/-- An index of the tile, in the shape the scores' slice has. -/
theorem squeeze_a (h : S40x8x128.numel = S40x1x8x128.numel) (j : S40x8x128.Idx) :
    Shape.reshapeEquiv h j = (ix4 (j 0) (0 : Fin 1) (j 1) (j 2) : S40x1x8x128.Idx) :=
  Shape.reshapeEquiv_eq_of_rowMajor h (by
    rw [Shape.rowMajor_val_four, Shape.rowMajor_val_three]
    show (((j 0).val * 1 + 0) * 8 + (j 1).val) * 128 + (j 2).val = ((j 0).val * 8 + (j 1).val) * 128 + (j 2).val
    omega)

/-- An index of the tile, in the shape the result's slice has. -/
theorem squeeze_o (h : S40x8x128.numel = S1x40x8x128.numel) (j : S40x8x128.Idx) :
    Shape.reshapeEquiv h j = (ix4 (0 : Fin 1) (j 0) (j 1) (j 2) : S1x40x8x128.Idx) :=
  Shape.reshapeEquiv_eq_of_rowMajor h (by
    rw [Shape.rowMajor_val_four, Shape.rowMajor_val_three]
    show ((0 * 40 + (j 0).val) * 8 + (j 1).val) * 128 + (j 2).val = ((j 0).val * 8 + (j 1).val) * 128 + (j 2).val
    omega)

theorem aRow_emb (t : Fin k0_t1_loop.trips) (j : S40x8x128.Idx) :
    ((aRow L t).view.emb j : S41x96x8x128.Idx) = ix4 ⟨(j 0).val, Nat.lt_of_lt_of_le (j 0).isLt (by decide)⟩ (rowOf L t) (j 1) (j 2) := by
  show (aW.view.slice (Rect.unit (s := S41x96x8x128) (k0_off1 L t) S40x1x8x128.size (k0_off1_inb L t))).emb (Shape.reshapeEquiv squeezes_S40x1x8x128_S40x8x128.numel_eq j) = _
  rw [squeeze_a]
  funext a
  apply Fin.ext
  match a with
  | 0 =>
    have h : k0_off1 L t 0 = 0 := by rw [k0_off1_eq]; rfl
    show k0_off1 L t 0 + 1 * (j 0).val = (j 0).val
    omega
  | 1 =>
    have h : k0_off1 L t 1 = 48 * (L 0).val + 3 * (L 1).val + t.val := by rw [k0_off1_eq]; rfl
    show k0_off1 L t 1 + 1 * 0 = (rowOf L t).val
    rw [← rowOf_off]; omega
  | 2 =>
    have h : k0_off1 L t 2 = 0 := by rw [k0_off1_eq]; rfl
    show k0_off1 L t 2 + 1 * (j 1).val = (j 1).val
    omega
  | 3 =>
    have h : k0_off1 L t 3 = 0 := by rw [k0_off1_eq]; rfl
    show k0_off1 L t 3 + 1 * (j 2).val = (j 2).val
    omega

theorem oRow_emb (t : Fin k0_t1_loop.trips) (j : S40x8x128.Idx) :
    ((oRow L t).view.emb j : S96x40x8x128.Idx) = ix4 (rowOf L t) (j 0) (j 1) (j 2) := by
  show (oW.view.slice (Rect.unit (s := S96x40x8x128) (k0_off11 L t) S1x40x8x128.size (k0_off11_inb L t))).emb (Shape.reshapeEquiv squeezes_S1x40x8x128_S40x8x128.numel_eq j) = _
  rw [squeeze_o]
  funext a
  apply Fin.ext
  match a with
  | 0 =>
    have h : k0_off11 L t 0 = 48 * (L 0).val + 3 * (L 1).val + t.val := by rw [k0_off11_eq]; rfl
    show k0_off11 L t 0 + 1 * 0 = (rowOf L t).val
    rw [← rowOf_off]; omega
  | 1 =>
    have h : k0_off11 L t 1 = 0 := by rw [k0_off11_eq]; rfl
    show k0_off11 L t 1 + 1 * (j 0).val = (j 0).val
    omega
  | 2 =>
    have h : k0_off11 L t 2 = 0 := by rw [k0_off11_eq]; rfl
    show k0_off11 L t 2 + 1 * (j 1).val = (j 1).val
    omega
  | 3 =>
    have h : k0_off11 L t 3 = 0 := by rw [k0_off11_eq]; rfl
    show k0_off11 L t 3 + 1 * (j 2).val = (j 2).val
    omega

/-- What the fetch of a row tile reads. -/
theorem aRow_read (t : Fin k0_t1_loop.trips) (acc : S41x96x8x128.Idx → F .f32) :
    (aRow L t).view.read (Elt F) acc = tileOf acc (rowOf L t) := by
  funext j
  show acc ((aRow L t).view.emb j) = _
  rw [aRow_emb]
  rfl

theorem mem_oRow (t : Fin k0_t1_loop.trips) (j : S96x40x8x128.Idx) : j ∈ (oRow L t).view.set ↔ j 0 = rowOf L t := by
  constructor
  · intro h
    obtain ⟨y, -, hy⟩ := Finset.mem_map.mp h
    have hy : (oRow L t).view.emb y = j := hy
    rw [← hy, oRow_emb]
  · intro h
    refine Finset.mem_map.mpr ⟨ix3 (j 1) (j 2) (j 3), Finset.mem_univ _, ?_⟩
    show (oRow L t).view.emb _ = j
    rw [oRow_emb]
    funext a
    match a with
    | 0 => exact h.symm
    | 1 => rfl
    | 2 => rfl
    | 3 => rfl

theorem oRow_subset (t : Fin k0_t1_loop.trips) : ((oRow L t).view.set : Finset S96x40x8x128.Idx) ⊆ oSet (wL L) := by
  intro j hj
  rw [mem_oRow] at hj
  rw [mem_oSet, hj]
  have := trips1 t
  show 3 * (wL L).val ≤ 3 * (wL L).val + t.val ∧ 3 * (wL L).val + t.val < 3 * (wL L).val + 3
  omega

/-- The first `n` of the task's row tiles are done. -/
def Tiles (n : ℕ) (f : S96x40x8x128.Idx → F .f32) : Prop := ∀ j ∈ oSet (wL L), (j 0).val < 3 * (wL L).val + n → f j = X m d j

/-- Copying a finished tile out. -/
theorem tiles_step (t : Fin k0_t1_loop.trips) (f : S96x40x8x128.Idx → F .f32) (h : Tiles m d L t.val f) :
    Tiles m d L (t.val + 1)
      ((oRow L t).view.write (Elt F) f (tileVal (F := F) (m (rLoc d)) (m (nLoc d)) (tileOf (m (aLoc d)) (rowOf L t))) Finset.univ) := by
  intro j hj hlt
  by_cases hr : j 0 = rowOf L t
  · have he : j = (oRow L t).view.emb (ix3 (j 1) (j 2) (j 3)) := by
      rw [oRow_emb]
      funext a
      match a with
      | 0 => exact hr
      | 1 => rfl
      | 2 => rfl
      | 3 => rfl
    refine (congrArg _ he).trans ((View.write_emb_of_mem (Val := Elt F) (v := (oRow L t).view) f _ (Finset.mem_univ (ix3 (j 1) (j 2) (j 3)))).trans ?_)
    show tileVal _ _ _ _ = tileVal _ _ (tileOf _ (j 0)) _
    rw [hr]
    rfl
  · refine (View.write_of_not_mem (Val := Elt F) (v := (oRow L t).view) f _ (M := Finset.univ) (i := j) fun hm => hr ((mem_oRow L t j).mp hm)).trans ?_
    refine h j hj ?_
    have : (j 0).val ≠ (rowOf L t).val := fun e => hr (Fin.ext e)
    have : (rowOf L t).val = 3 * (wL L).val + t.val := rfl
    omega

theorem write_off (t : Fin k0_t1_loop.trips) (f : S96x40x8x128.Idx → F .f32) (w : S40x8x128.Idx → F .f32) (j : S96x40x8x128.Idx)
    (hj : j ∈ oSet (wL L) \ ((oRow L t).view.set : Finset S96x40x8x128.Idx)) : f j = (oRow L t).view.write (Elt F) f w Finset.univ j :=
  (View.write_of_not_mem (Val := Elt F) (v := (oRow L t).view) f w (M := Finset.univ) (i := j) fun hm => (Finset.mem_sdiff.mp hj).2 hm).symm

/-! ## The trip -/

abbrev cell4 : GSem nD τ sig := (vt d L, .dma cc0_scratch4.sem)
abbrev cellC : GSem nD τ sig := (vt d L, .dma cc0_scoped2.sem)

/-- What a task holds before trip `n` of the outer loop. -/
def outer (O : CellTallies nD τ sig (HIx 1)) (W : Waits sig (HIx 1)) (n : ℕ) (_ : PUnit) : sProp (MM F) :=
  iprop(Transfers.MayWaits (vt d L) (none : HIx 1) O
    ∗ (aW.view.loc (vt d L) ↦{xq (wL L)} m (aLoc d))
    ∗ (sR.view.loc (vt d L) ↦{fullShare} (m (rLoc d) : Buf (Elt F) (sR.view.loc (vt d L))))
    ∗ (sN.view.loc (vt d L) ↦{fullShare} (m (nLoc d) : Buf (Elt F) (sN.view.loc (vt d L))))
    ∗ (∃ g, sI.view.loc (vt d L) ↦{fullShare} g)
    ∗ (∃ g, sO.view.loc (vt d L) ↦{fullShare} g)
    ∗ (∃ f : Buf (Elt F) (oLoc d), ⌜Tiles m d L n f⌝ ∗ oPts d (wL L) f)
    ∗ semVal (cell4 d L) 0 ∗ semVal (cellC d L) 0
    ∗ ∃ W', ⌜∀ p ∈ W', p ∈ W ∨ p.2 = none⌝ ∗ owes (vt d L) O W')

/-- What the inner loop holds before its trip `n`. -/
def inner (rank len : S5120.Idx → BitVec 32) (G : S40x8x128.Idx → F .f32) (n : ℕ) (_ : PUnit) : sProp (MM F) :=
  iprop(∃ g : S40x8x128.Idx → F .f32, ⌜Done (tileVal rank len G) n 0 g⌝ ∗ scr d L rank len G g)

set_option maxHeartbeats 4000000 in
theorem outer_trip (hpre : PreOK m) (O : CellTallies nD τ sig (HIx 1)) (W : Waits sig (HIx 1)) (t : Fin k0_t1_loop.trips) :
    outer m d L O W t.val ()
      ⊢ wp frame (wpE (defs₀ (F := F)) 𝒱₀ (vt d L) none) Set.univ
          (k0_t1_body L aW (Memref.isWhole_whole _) rW (Memref.isWhole_whole _) nW (Memref.isWhole_whole _) oW (Memref.isWhole_whole _) sR (Memref.isWhole_whole _) sN (Memref.isWhole_whole _) sI (Memref.isWhole_whole _) sO (Memref.isWhole_whole _) cc0_scratch4 cc0_scoped0 cc0_scoped1 cc0_scoped2 t ())
          fun _ => outer m d L O W (t.val + 1) () := by
  unfold k0_t1_body
  dsimp only
  unfold outer
  iintro ⟨Hmw, Ha, HR, HN, ⟨%gi, HI⟩, ⟨%go, HO⟩, ⟨%f, %hf, Ho⟩, Hs4, HsC, %W', %hW', Hw⟩
  sl_exec
  have hI : View.write (Elt F) sI.view gi (outer_trip.sl.dma0 m d L t) Finset.univ = tileOf (m (aLoc d)) (rowOf L t) :=
    (View.write_whole_univ _ _ _).trans (aRow_read L t (m (aLoc d)))
  ihave HI := (Entails.of_eq (congrArg (fun g => (sI.view.loc (vt d L) ↦{fullShare} g : sProp (MM F))) hI)) $$ HI
  sl_for (inner d L (m (rLoc d)) (m (nLoc d)) (tileOf (m (aLoc d)) (rowOf L t))) $$ [HR HN HI HO]
  case region =>
    intro k _
    exact elim_ex fun g hg => trip_wp d L k _ _ _ (hpre d) g hg
  · unfold inner
    iexists go
    isplitr
    · ipureintro; exact done_zero _ _
    isplitl [HR]; · iexact HR
    isplitl [HN]; · iexact HN
    isplitl [HI]; · iexact HI
    iexact HO
  iintro %_ Hinv
  ihave Hinv := (show inner d L (m (rLoc d)) (m (nLoc d)) (tileOf (m (aLoc d)) (rowOf L t)) k0_t2_loop.trips ()
      ⊢ scr d L (m (rLoc d)) (m (nLoc d)) (tileOf (m (aLoc d)) (rowOf L t)) (tileVal (m (rLoc d)) (m (nLoc d)) (tileOf (m (aLoc d)) (rowOf L t))) from
    elim_ex fun g hg => Entails.of_eq (by rw [done_all hg])) $$ Hinv
  icases Hinv with ⟨HR, HN, HI, HO⟩
  ihave Hsp := (pointsTo_split_subset (q := fullShare) (f := f) (oRow_subset L t)).1 $$ Ho
  icases Hsp with ⟨Hout, Hrest⟩
  ihave Hout := (show (oLoc d ↦[((oRow L t).view.set : Finset S96x40x8x128.Idx)]{fullShare} f : sProp (MM F))
      ⊢ ((oRow L t).view.loc (vt d L) ↦[(oRow L t).view.set]{fullShare} f) from .rfl) $$ Hout
  sl_exec
  have hW : outer_trip.sl.dma0_1 m d L t = tileVal (F := F) (m (rLoc d)) (m (nLoc d)) (tileOf (m (aLoc d)) (rowOf L t)) := rfl
  ihave Hout := (show ((oRow L t).view.loc (vt d L) ↦[(oRow L t).view.set]{fullShare} (oRow L t).view.writes (Elt F) f [⟨Rect.whole S40x8x128, outer_trip.sl.dma0_1 m d L t⟩] : sProp (MM F))
      ⊢ (oLoc d ↦[((oRow L t).view.set : Finset S96x40x8x128.Idx)]{fullShare} ((oRow L t).view.write (Elt F) f
        (tileVal (F := F) (m (rLoc d)) (m (nLoc d)) (tileOf (m (aLoc d)) (rowOf L t))) Finset.univ) : sProp (MM F)) from
    Entails.of_eq (congrArg (fun g => (oLoc d ↦[((oRow L t).view.set : Finset S96x40x8x128.Idx)]{fullShare} g : sProp (MM F)))
      (View.write_univ_eq_writes_whole (oRow L t).view f [] (tileVal (F := F) (m (rLoc d)) (m (nLoc d)) (tileOf (m (aLoc d)) (rowOf L t)))).symm)) $$ Hout
  ihave Hrest := (Entails.of_eq (pointsTo_congr (q := fullShare) (ℓ := oLoc d) (write_off (F := F) L t f
      (tileVal (F := F) (m (rLoc d)) (m (nLoc d)) (tileOf (m (aLoc d)) (rowOf L t)))))) $$ Hrest
  ihave Ho := (pointsTo_split_subset (q := fullShare) (ℓ := oLoc d) (f := (oRow L t).view.write (Elt F) f
      (tileVal (F := F) (m (rLoc d)) (m (nLoc d)) (tileOf (m (aLoc d)) (rowOf L t))) Finset.univ) (oRow_subset L t)).2 $$ [Hout Hrest]
  · isplitl [Hout] <;> iassumption
  sl_step
  isplitl [Hmw]; · iexact Hmw
  isplitl [Ha]; · iexact Ha
  isplitl [HR]; · iexact HR
  isplitl [HN]; · iexact HN
  isplitl [HI]; · iexists _; iexact HI
  isplitl [HO]; · iexists _; iexact HO
  isplitl [Ho]
  · iexists _
    isplitr
    swap; · iexact Ho
    ipureintro; exact tiles_step m d L t f hf
  isplitl [Hs4]; · iexact Hs4
  isplitl [HsC]; · iexact HsC
  iexists _; isplitr
  swap; · iexact Hw
  ipureintro; intro p hp
  rcases Finset.mem_insert.mp hp with hp | hp; · exact .inr (hp ▸ rfl)
  rcases Finset.mem_insert.mp hp with hp | hp; · exact .inr (hp ▸ rfl)
  exact hW' p hp

end Cert.Unsort.Hand

end
-- ==== Proof.Unsort.Run.lean ====
/- The unsort call: a task from its operands to its band of the result, the launch, and the program's run. -/
module

public import proofs.«01_k».proof.Proof.Unsort.Outer

@[expose] public section

noncomputable section

namespace Cert.Unsort.Hand

open Cert.Unsort Cert.Unsort.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]
variable (m : (ℓ : Loc nD τ sig) → Buf (Elt F) ℓ) (ρ : Dev nD → PrngReg)

/-! ## The task -/

section Tile

variable (d : Dev nD) (L : grid0.Coords)

abbrev cellA : GSem nD τ sig := (vt d L, .dma cc0_scoped0.sem)
abbrev cellB : GSem nD τ sig := (vt d L, .dma cc0_scoped1.sem)

omit [FloatOps F] in
/-- The four semaphores a task uses are among the subcore's own. -/
theorem ownSems0_V : (ownSems0 (vt d L) : sProp (MM F)) = iprop(semVal (cellA d L) 0 ∗ semVal (cellB d L) 0 ∗ semVal (cell4 d L) 0 ∗ semVal (cellC d L) 0 ∗ bigSep (((((ownCells (vt d L)).erase (cellA d L)).erase (cellB d L)).erase (cell4 d L)).erase (cellC d L)) fun g => semVal g 0) := by
  unfold SparseCore.Cfg.ownSems0
  rw [SparseCore.bigSep_erase' ((mem_ownCells (g := cellA d L)).mpr ⟨rfl, by show (SemLoc.dma cc0_scoped0.sem : SemLoc sig).isScoped .scVector = true; decide⟩),
    SparseCore.bigSep_erase' (Finset.mem_erase.mpr ⟨fun e => absurd (congrArg Prod.snd e) (show (SemLoc.dma cc0_scoped1.sem : SemLoc sig) ≠ SemLoc.dma cc0_scoped0.sem by decide), (mem_ownCells (g := cellB d L)).mpr ⟨rfl, by show (SemLoc.dma cc0_scoped1.sem : SemLoc sig).isScoped .scVector = true; decide⟩⟩),
    SparseCore.bigSep_erase' (Finset.mem_erase.mpr ⟨fun e => absurd (congrArg Prod.snd e) (show (SemLoc.dma cc0_scratch4.sem : SemLoc sig) ≠ SemLoc.dma cc0_scoped1.sem by decide), Finset.mem_erase.mpr ⟨fun e => absurd (congrArg Prod.snd e) (show (SemLoc.dma cc0_scratch4.sem : SemLoc sig) ≠ SemLoc.dma cc0_scoped0.sem by decide), (mem_ownCells (g := cell4 d L)).mpr ⟨rfl, by show (SemLoc.dma cc0_scratch4.sem : SemLoc sig).isScoped .scVector = true; decide⟩⟩⟩),
    SparseCore.bigSep_erase' (Finset.mem_erase.mpr ⟨fun e => absurd (congrArg Prod.snd e) (show (SemLoc.dma cc0_scoped2.sem : SemLoc sig) ≠ SemLoc.dma cc0_scratch4.sem by decide), Finset.mem_erase.mpr ⟨fun e => absurd (congrArg Prod.snd e) (show (SemLoc.dma cc0_scoped2.sem : SemLoc sig) ≠ SemLoc.dma cc0_scoped1.sem by decide), Finset.mem_erase.mpr ⟨fun e => absurd (congrArg Prod.snd e) (show (SemLoc.dma cc0_scoped2.sem : SemLoc sig) ≠ SemLoc.dma cc0_scoped0.sem by decide), (mem_ownCells (g := cellC d L)).mpr ⟨rfl, by show (SemLoc.dma cc0_scoped2.sem : SemLoc sig).isScoped .scVector = true; decide⟩⟩⟩⟩)]

omit [FloatOps F] in
/-- The four scratches are among the subcore's own. -/
theorem ownBufs_V : (ownBufs (vt d L) : sProp (MM F)) = iprop((∃ f, (vt d L).loc cc0_scratch0 ↦{fullShare} f) ∗ (∃ f, (vt d L).loc cc0_scratch1 ↦{fullShare} f) ∗ (∃ f, (vt d L).loc cc0_scratch2 ↦{fullShare} f) ∗ (∃ f, (vt d L).loc cc0_scratch3 ↦{fullShare} f) ∗ bigSep (((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩)]

set_option maxHeartbeats 4000000 in
/-- The task: the ranks and the lengths fetched, three trips of the outer loop, and its band of the result is done. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goP m d (wL L)
        ∗ scopedBufs (vt d L) ∗ scopedSems0 (vt d L) ∗ owes (vt d L) O W)
      ⊢ wp frame (wpE (defs₀ (F := F)) 𝒱₀ (vt d L) none) Set.univ
          (cc0_unsort L aW (Memref.isWhole_whole _) rW (Memref.isWhole_whole _) nW (Memref.isWhole_whole _) oW (Memref.isWhole_whole _) sR (Memref.isWhole_whole _) sN (Memref.isWhole_whole _) sI (Memref.isWhole_whole _) sO (Memref.isWhole_whole _) cc0_scratch4 cc0_scoped0 cc0_scoped1 cc0_scoped2)
          fun _ => iprop(tdP m d (wL L) ∗ scopedBufs (vt d L) ∗ scopedSems0 (vt d L)
            ∗ ∃ W', ⌜∀ p ∈ W', p ∈ W ∨ p.2 = none⌝ ∗ owes (vt d L) O W') := by
  simp only [cc0_unsort_eq_skeleton]; unfold cc0_unsort_skel
  rw [(K (F := F)).scopedBufs_V hF d (cV L) (jV L), SparseCore.Cfg.scopedSems0_V (Val := Elt F) d (cV L) (jV L), ownSems0_V, ownBufs_V]
  iintro ⟨#Hlv, -, ⟨Ha, Hr, Hn, Ho⟩, ⟨⟨%f0, HR⟩, ⟨%f1, HN⟩, ⟨%f2, HI⟩, ⟨%f3, HO⟩, Hbufs⟩, ⟨HsA, HsB, Hs4, HsC, Hsems⟩, Hw⟩
  ihave Hmw := (show levAts (K (F := F)).L (K (F := F)).lev ⊢ Transfers.MayWaits (vt d L) (none : HIx 1) O from
    (K (F := F)).mayWaits_none (thr := vt d L) hO) $$ Hlv
  ihave Ha := (show (aPts m d (wL L) : sProp (MM F)) ⊢ (aW.view.loc (vt d L) ↦{xq (wL L)} m (aLoc d)) from .rfl) $$ Ha
  ihave Hr := (show (rPts m d (wL L) : sProp (MM F)) ⊢ (rW.view.loc (vt d L) ↦{xq (wL L)} m (rLoc d)) from .rfl) $$ Hr
  ihave Hn := (show (nPts m d (wL L) : sProp (MM F)) ⊢ (nW.view.loc (vt d L) ↦{xq (wL L)} m (nLoc d)) from .rfl) $$ Hn
  ihave HR := (show ((vt d L).loc cc0_scratch0 ↦{fullShare} f0 : sProp (MM F)) ⊢ (sR.view.loc (vt d L) ↦{fullShare} f0) from .rfl) $$ HR
  ihave HN := (show ((vt d L).loc cc0_scratch1 ↦{fullShare} f1 : sProp (MM F)) ⊢ (sN.view.loc (vt d L) ↦{fullShare} f1) from .rfl) $$ HN
  sl_exec
  have hR : View.write (Elt F) sR.view f0 (tile_body.sl.dma0 m d) Finset.univ = m (rLoc d) := View.write_whole_univ _ _ _
  have hN : View.write (Elt F) sN.view f1 (tile_body.sl.dma0_1 m d) Finset.univ = m (nLoc d) := View.write_whole_univ _ _ _
  ihave HR := (Entails.of_eq (congrArg (fun g => (sR.view.loc (vt d L) ↦{fullShare} g : sProp (MM F))) hR)) $$ HR
  ihave HN := (Entails.of_eq (congrArg (fun g => (sN.view.loc (vt d L) ↦{fullShare} g : sProp (MM F))) hN)) $$ HN
  sl_for (outer m d L O W) $$ [Hmw Ha HR HN HI HO Ho Hs4 HsC Hw]
  case region =>
    intro k _
    exact outer_trip m d L hpre O W k
  · unfold outer
    isplitl [Hmw]; · iexact Hmw
    isplitl [Ha]; · iexact Ha
    isplitl [HR]; · iexact HR
    isplitl [HN]; · iexact HN
    isplitl [HI]; · iexists f2; iexact HI
    isplitl [HO]; · iexists f3; iexact HO
    isplitl [Ho]
    · iexists _
      isplitr
      swap; · iexact Ho
      ipureintro; intro j hj hlt
      have := (mem_oSet _ _).mp hj
      omega
    isplitl [Hs4]; · iexact Hs4
    isplitl [HsC]; · iexact HsC
    iexists _; isplitr
    swap; · iexact Hw
    ipureintro; intro p hp
    rcases Finset.mem_insert.mp hp with hp | hp; · exact .inr (hp ▸ rfl)
    rcases Finset.mem_insert.mp hp with hp | hp; · exact .inr (hp ▸ rfl)
    exact .inl hp
  iintro %_ Hinv
  unfold outer
  icases Hinv with ⟨-, Ha, HR, HN, ⟨%gi, HI⟩, ⟨%go, HO⟩, ⟨%f, %hf, Ho⟩, Hs4, HsC, %W', %hW', Hw⟩
  have hdone : ∀ j ∈ oSet (wL L), f j = X m d j := fun j hj =>
    hf j hj (by have := (mem_oSet _ _).mp hj; have h3 : Scf.trips k0_t1_loop.lb k0_t1_loop.ub k0_t1_loop.st = 3 := by decide +kernel
                omega)
  ihave Ho := (Entails.of_eq (pointsTo_congr (q := fullShare) (ℓ := oLoc d) hdone)) $$ Ho
  sl_exec
  sl_step
  isplitl [Ha Hr Hn Ho]
  · isplitl [Ha]; · iexact Ha
    isplitl [Hr]; · iexact Hr
    isplitl [Hn]; · iexact Hn
    iexact Ho
  isplitl [HR HN HI HO Hbufs]
  · isplitl [HR]; · iexists _; iexact HR
    isplitl [HN]; · iexists _; iexact HN
    isplitl [HI]; · iexists _; iexact HI
    isplitl [HO]; · iexists _; iexact HO
    iexact Hbufs
  isplitl [HsA HsB Hs4 HsC Hsems]
  · isplitl [HsA]; · iexact HsA
    isplitl [HsB]; · iexact HsB
    isplitl [Hs4]; · iexact Hs4
    isplitl [HsC]; · iexact HsC
    iexact Hsems
  iexists W'; isplitr
  · ipureintro; exact hW'
  · iexact Hw

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_unsort (coordsV c s) aW (Memref.isWhole_whole _) rW (Memref.isWhole_whole _) nW (Memref.isWhole_whole _) oW (Memref.isWhole_whole _) sR (Memref.isWhole_whole _) sN (Memref.isWhole_whole _) sI (Memref.isWhole_whole _) sO (Memref.isWhole_whole _) cc0_scratch4 cc0_scoped0 cc0_scoped1 cc0_scoped2) ⟨⟩ c s := rfl

omit [FloatOps F] in
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

/-! ## The launch -/

def u₀ : UU := (initOf (K (F := F)).hsCells (K (F := F)).hsToks, 1)

omit [FloatOps F] in
theorem bigSep_emp' {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The main thread -/

omit [FloatOps F] in
theorem unscopedBufs_eq (d : Dev nD) (W : (b : Ref sig .tc) → Buf (Elt F) ((d.tc : Thread nD τ).loc b)) :
    (unscopedBufs d W : sProp (MM F))
      = iprop((aLoc d ↦{fullShare} W main_arg0) ∗ (rLoc d ↦{fullShare} W main_arg1) ∗ (nLoc d ↦{fullShare} W main_arg2) ∗ oLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

abbrev FIN (d : Dev nD) : sProp (MM F) :=
  iprop((aLoc d ↦{fullShare} m (aLoc d)) ∗ (rLoc d ↦{fullShare} m (rLoc d)) ∗ (nLoc d ↦{fullShare} m (nLoc d)) ∗ (oLoc d ↦{fullShare} X m d))

/-- The main thread: the one call, from the three operands and the result's buffer; back come the operands and the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hr, Hn, Ho⟩, Hts, -⟩, -⟩
  iapply ((K (F := F)).wp_run (D (F := F)) 𝒱 (EH := EH) (P := P m) κ d 0) $$ [Hst Ha Hr Hn Ho Hb Hts]
  isplitr; · iexact Hctx
  isplitl [Hst]; · iexact Hst
  isplitl [Ha Hr Hn Ho]
  · rw [st0_eq]
    isplitl [Ha]; · iexact Ha
    isplitl [Hr]; · iexact Hr
    isplitl [Hn]; · iexact Hn
    iexact Ho
  iintro ⟨Hst, Hdn⟩
  ihave Hdn' := (Entails.of_eq (dn0_eq m d)) $$ Hdn
  imodintro
  isplitl [Hst]; · iexact Hst
  isplitr [Hb Hts]; · iexact Hdn'
  isplitl [Hb] <;> iassumption

def fq (d : Dev nD) (s' : Phys nD τ sig (Elt F)) : Prop :=
  s'.mem.mem (aLoc d) = m (aLoc d) ∧ s'.mem.mem (rLoc d) = m (rLoc d) ∧ s'.mem.mem (nLoc d) = m (nLoc d) ∧ s'.mem.mem (oLoc d) = X m d

set_option maxRecDepth 16384 in
theorem hfin (d : Dev nD) (s' : Phys nD τ sig (Elt F)) : iprop(FIN m d ∗ SI s') ⊢ (⌜fq m d s'⌝ : sProp (MM F)) := by
  iintro ⟨⟨Ha, Hr, Hn, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := rLoc d) (I := Finset.univ) (q := fullShare) (f := m (rLoc d)))) $$ [HSI Hr]
  · isplitl [HSI] <;> iassumption
  icases H with ⟨%h2, HSI, -⟩
  ihave H := (persistent_entails_right (SI_pointsTo_agree (st := s') (ℓ := nLoc d) (I := Finset.univ) (q := fullShare) (f := m (nLoc d)))) $$ [HSI Hn]
  · isplitl [HSI] <;> iassumption
  icases H with ⟨%h3, HSI, -⟩
  ihave H := (SI_pointsTo_agree (st := s') (ℓ := oLoc d) (I := Finset.univ) (q := fullShare) (f := X m d)) $$ [HSI Ho]
  · isplitl [HSI] <;> iassumption
  icases H with %h4
  ipureintro
  exact ⟨funext fun i => h1 i (Finset.mem_univ i), funext fun i => h2 i (Finset.mem_univ i), funext fun i => h3 i (Finset.mem_univ i),
    funext fun i => h4 i (Finset.mem_univ i)⟩

/-! ## The program's run -/

def QC : PUnit × MemSt nD τ sig (Elt F) → Prop := fun r =>
  (∀ c : Dev nD, r.2.mem (aLoc c) = m (aLoc c) ∧ r.2.mem (rLoc c) = m (rLoc c) ∧ r.2.mem (nLoc c) = m (nLoc c) ∧ r.2.mem (oLoc c) = X m c)
    ∧ r.2.sem = fun _ => 0

theorem run_main [∀ e, Nonempty (Elt F e)] (hpre : PreOK m) :
    θ_run (Cert.Unsort.defs (F := F)) (Cert.Unsort.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Unsort.Hand

end
-- ==== Proof.UnsortIdeal.Deal.lean ====
/- The unsort call: what its 32 tasks are handed and hand back. Every task reads all of the three operands, each through
   its own share; the result is cut into 32 bands of three row tiles. -/
module

public import proofs.«01_k».proof.Defs
public import proofs.«01_k».proof.Proof.Gen.UnsortIdeal
public import proofs.«01_k».proof.Proof.Gen.UnsortIdeal.Skeleton
public import proofs.«01_k».proof.Proof.Gen.Pre_rank_ok
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.ShareLeaves
public import Idealize.ShloMosaic.Lib.ValueIdxCore
public import Idealize.ShloMosaic.Lib.Tactic

@[expose] public section

noncomputable section

namespace Cert.UnsortIdeal.Hand

open Cert.UnsortIdeal Cert.UnsortIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

/-- The resources of the proof. -/
abbrev MM (F : FTy → Type) := MT nD τ sig (HIx 1) (Elt F) ℕ UU ℕ

abbrev EH : Emb UH (MM F) := embL

/-! ## The launch memory and the buffers -/

variable (m : (ℓ : Loc nD τ sig) → Buf (Elt F) ℓ) (ρ : Dev nD → PrngReg)

abbrev aLoc (d : Dev nD) : Loc nD τ sig := (SparseCore.T d).loc main_arg0
abbrev rLoc (d : Dev nD) : Loc nD τ sig := (SparseCore.T d).loc main_arg1
abbrev nLoc (d : Dev nD) : Loc nD τ sig := (SparseCore.T d).loc main_arg2
abbrev oLoc (d : Dev nD) : Loc nD τ sig := (SparseCore.T d).loc main_v0

theorem odiv : 32 ∣ S96x40x8x128.size 0 := ⟨3, rfl⟩
/-- The three row tiles of task `w`. -/
abbrev band (w : Fin 32) : Rect S96x40x8x128 := Rect.part (s := S96x40x8x128) (a₀ := 0) odiv w
abbrev oSet (w : Fin 32) : Finset S96x40x8x128.Idx := (band w).set

/-- The number of the task on tile `i` of SparseCore `c`. -/
def wk (c : Fin 2) (i : Fin 16) : Fin 32 := ⟨16 * c.val + i.val, by omega⟩

/-- A row tile is task `w`'s when it is one of its three. -/
theorem mem_oSet (w : Fin 32) (j : S96x40x8x128.Idx) : j ∈ oSet w ↔ 3 * w.val ≤ (j 0).val ∧ (j 0).val < 3 * w.val + 3 := by
  unfold oSet band Rect.part Rect.block
  rw [Rect.mem_set_unit]
  constructor
  · intro h
    have := h 0
    simp [Shape.partIx, Shape.partSize] at this
    omega
  · intro h a
    match a with
    | 0 => simp [Shape.partIx, Shape.partSize]; omega
    | 1 => simp [Shape.partIx, Shape.partSize]; exact (j 1).isLt
    | 2 => simp [Shape.partIx, Shape.partSize]; exact (j 2).isLt
    | 3 => simp [Shape.partIx, Shape.partSize]; exact (j 3).isLt

/-! ## The value -/

section Value
variable [FloatOps F]

/-- What a token of length `n` and score `x` comes to. -/
def elt (n : BitVec 32) (x : F .f32) : F .f32 :=
  Scalar.select (IntOp.cmpi .sle n 0#32) (Scalar.ofBits .f32 0xFF800000#32)
    (FloatOps.maximumf (FloatOps.subf x (Scalar.ofBits .f32 0x3EE66666#32)) (Scalar.ofBits .f32 0x00000000#32))

/-- The place of a token among the 5120. -/
def tok (b : Fin 40) (l : Fin 128) : Fin 5120 := ⟨128 * b.val + l.val, by omega⟩

/-- The result of one row tile, from that row tile's scores by rank. -/
def tileVal (rank len : S5120.Idx → BitVec 32) (g : S40x8x128.Idx → F .f32) : S40x8x128.Idx → F .f32 := fun j =>
  elt (len (ix1 (tok (j 0) (j 2))))
    (g (ix3 ⟨(rank (ix1 (tok (j 0) (j 2)))).toNat / 128 % 40, Nat.mod_lt _ (by decide)⟩ (j 1)
      ⟨(rank (ix1 (tok (j 0) (j 2)))).toNat % 128, Nat.mod_lt _ (by decide)⟩))

/-- Row tile `t` of the scores. -/
def tileOf (acc : S41x96x8x128.Idx → F .f32) (t : Fin 96) : S40x8x128.Idx → F .f32 := fun j =>
  acc (ix4 ⟨(j 0).val, Nat.lt_of_lt_of_le (j 0).isLt (by decide)⟩ t (j 1) (j 2))

/-- The whole result. -/
def out (acc : S41x96x8x128.Idx → F .f32) (rank len : S5120.Idx → BitVec 32) : S96x40x8x128.Idx → F .f32 := fun j =>
  tileVal rank len (tileOf acc (j 0)) (ix3 (j 1) (j 2) (j 3))

end Value

variable [FloatOps F]

/-- The result over the launch memory. -/
abbrev X (d : Dev nD) : Buf (Elt F) (oLoc d) := out (F := F) (m (aLoc d)) (m (rLoc d)) (m (nLoc d))

/-- What the proof asks of the launch memory: every rank is the number of a document slot. -/
def PreOK : Prop := ∀ (d : Dev nD) (j : S5120.Idx), (m (rLoc d) j : BitVec 32).toNat < 5120

/-! ## What the handshakes carry -/

abbrev xq (w : Fin 32) : PosShare TreeShare := leaf 5 fullShare w

abbrev aPts (d : Dev nD) (w : Fin 32) : sProp (MM F) := aLoc d ↦{xq w} m (aLoc d)
abbrev rPts (d : Dev nD) (w : Fin 32) : sProp (MM F) := rLoc d ↦{xq w} m (rLoc d)
abbrev nPts (d : Dev nD) (w : Fin 32) : sProp (MM F) := nLoc d ↦{xq w} m (nLoc d)
abbrev oPts (d : Dev nD) (w : Fin 32) (f : Buf (Elt F) (oLoc d)) : sProp (MM F) := oLoc d ↦[oSet w]{fullShare} f

/-- What a task is handed … -/
abbrev goP (d : Dev nD) (w : Fin 32) : sProp (MM F) := iprop(aPts m d w ∗ rPts m d w ∗ nPts m d w ∗ oPts d w (m (oLoc d)))
/-- … and what it hands back. -/
abbrev tdP (d : Dev nD) (w : Fin 32) : sProp (MM F) := iprop(aPts m d w ∗ rPts m d w ∗ nPts m d w ∗ oPts d w (X m d))

def P : (K (F := F)).Pay (nD := nD) (Val := Elt F) (Name := ℕ) (U := UU) where
  st := fun q d c => match q with | 0 => bigSep Finset.univ fun i : Fin 16 => goP m d (wk (Fin.cast nCore_zero c) i)
  dn := fun q d c => match q with | 0 => bigSep Finset.univ fun i : Fin 16 => tdP m d (wk (Fin.cast nCore_zero c) i)
  go := fun q d c i => match q with | 0 => goP m d (wk (Fin.cast nCore_zero c) (Fin.cast nSub_zero i))
  td := fun q d c i => match q with | 0 => tdP m d (wk (Fin.cast nCore_zero c) (Fin.cast nSub_zero i))
  x := fun _ _ => iprop(emp)

instance P_storable : (P (F := F) m).IsStorable where
  st q d c := match q with
    | 0 => (inferInstance : BI.Storable (upEmb : UEmb _ (MM F)) (bigSep Finset.univ fun i : Fin 16 => goP m d (wk (Fin.cast nCore_zero c) i)))
  dn q d c := match q with
    | 0 => (inferInstance : BI.Storable (upEmb : UEmb _ (MM F)) (bigSep Finset.univ fun i : Fin 16 => tdP m d (wk (Fin.cast nCore_zero c) i)))
  go q d c i := match q with
    | 0 => (inferInstance : BI.Storable (upEmb : UEmb _ (MM F)) (goP m d (wk (Fin.cast nCore_zero c) (Fin.cast nSub_zero i))))
  td q d c i := match q with
    | 0 => (inferInstance : BI.Storable (upEmb : UEmb _ (MM F)) (tdP m d (wk (Fin.cast nCore_zero c) (Fin.cast nSub_zero i))))

/-! ## The whole arrays, dealt -/

omit [FloatOps F] in
theorem bands_disjoint : ∀ i ∈ (Finset.univ : Finset (Fin 32)), ∀ j ∈ (Finset.univ : Finset (Fin 32)), i ≠ j → Disjoint (oSet i) (oSet j) :=
  fun _ _ _ _ h => Rect.part_disjoint odiv h
omit [FloatOps F] in
theorem bands_cover : (Finset.univ : Finset (Fin 32)).biUnion oSet = Finset.univ := Rect.biUnion_part odiv
omit [FloatOps F] in
theorem oPts_bands (d : Dev nD) (f : Buf (Elt F) (oLoc d)) :
    (oLoc d ↦{fullShare} f : sProp (MM F)) = bigSep Finset.univ fun w : Fin 32 => oPts d w f := by
  rw [← pointsTo_biUnion Finset.univ (ℓ := oLoc d) oSet bands_disjoint, bands_cover]; try rfl

omit [FloatOps F] in
/-- A product over the 32 tasks is one over the two SparseCores and their tiles. -/
theorem bigSep_tasks (Φ : Fin 32 → sProp (MM F)) :
    bigSep Finset.univ Φ = bigSep Finset.univ fun c : Fin 2 => bigSep Finset.univ fun i : Fin 16 => Φ (wk c i) := by
  rw [bigSep_univ_equiv (finProdFinEquiv : Fin 2 × Fin 16 ≃ Fin 32) Φ, bigSep_univ_prod]
  refine bigSep_congr fun c _ => bigSep_congr fun i _ => congrArg Φ (Fin.ext ?_)
  simp [wk, finProdFinEquiv]; omega

/-- The four arrays whole are what the tasks get, at any contents of the result. -/
theorem deal (d : Dev nD) (f : Buf (Elt F) (oLoc d)) :
    (iprop((aLoc d ↦{fullShare} m (aLoc d)) ∗ (rLoc d ↦{fullShare} m (rLoc d)) ∗ (nLoc d ↦{fullShare} m (nLoc d)) ∗ (oLoc d ↦{fullShare} f)) : sProp (MM F))
      = bigSep Finset.univ fun c : Fin 2 => bigSep Finset.univ fun i : Fin 16 =>
          iprop(aPts m d (wk c i) ∗ rPts m d (wk c i) ∗ nPts m d (wk c i) ∗ oPts d (wk c i) f) := by
  rw [← bigSep_tasks (F := F) (fun w => iprop(aPts m d w ∗ rPts m d w ∗ nPts m d w ∗ oPts d w f)), bigSep_sep', bigSep_sep', bigSep_sep',
    pointsTo_leaves (ℓ := aLoc d) Finset.univ (m (aLoc d)) 5 fullShare, pointsTo_leaves (ℓ := rLoc d) Finset.univ (m (rLoc d)) 5 fullShare,
    pointsTo_leaves (ℓ := nLoc d) Finset.univ (m (nLoc d)) 5 fullShare, oPts_bands]
  rfl

theorem st0_eq (d : Dev nD) : (bigSep Finset.univ fun c : Fin ((K (F := F)).nCore 0) => (P m).st 0 d c)
    = iprop((aLoc d ↦{fullShare} m (aLoc d)) ∗ (rLoc d ↦{fullShare} m (rLoc d)) ∗ (nLoc d ↦{fullShare} m (nLoc d)) ∗ (oLoc d ↦{fullShare} m (oLoc d))) :=
  (deal m d _).symm
theorem dn0_eq (d : Dev nD) : (bigSep Finset.univ fun c : Fin ((K (F := F)).nCore 0) => (P m).dn 0 d c)
    = iprop((aLoc d ↦{fullShare} m (aLoc d)) ∗ (rLoc d ↦{fullShare} m (rLoc d)) ∗ (nLoc d ↦{fullShare} m (nLoc d)) ∗ (oLoc d ↦{fullShare} X m d)) :=
  (deal m d _).symm

/-- A call's operands are its tasks' at once. -/
theorem vecSplit : (K (F := F)).VecSplit' (P m) 0 := by
  intro d c
  show bigSep Finset.univ (fun i : Fin 16 => goP m d (wk (Fin.cast nCore_zero c) i)) ⊢ |={Set.univ}=> iprop(
      bigSep Finset.univ (fun i : Fin 16 => goP m d (wk (Fin.cast nCore_zero c) i))
      ∗ (bigSep Finset.univ (fun i : Fin 16 => tdP m d (wk (Fin.cast nCore_zero c) i))
          -∗ bigSep Finset.univ (fun i : Fin 16 => tdP m d (wk (Fin.cast nCore_zero c) i))))
  iintro H; imodintro
  isplitl [H]; · iexact H
  iintro H; iexact H

end Cert.UnsortIdeal.Hand

end
-- ==== Proof.UnsortIdeal.Vals.lean ====
/- The unsort call: the values one trip of the inner loop reads and stores. A trip takes 16 tokens; for each of the eight
   rows of the tile it gathers the tokens' scores by rank and stores what they come to. -/
module

public import proofs.«01_k».proof.Proof.UnsortIdeal.Deal
public import Idealize.ShloMosaic.Lib.ValueLayout

@[expose] public section

noncomputable section

namespace Cert.UnsortIdeal.Hand

open Cert.UnsortIdeal Cert.UnsortIdeal.Gen

open Idealize.ShloMosaic
open Idealize.ShloMosaic.ValueIdx

variable {F : FTy → Type}

/-! ## The memrefs of a task -/

abbrev aW : Memref sig .scVector .hbm S41x96x8x128 .f32 := Memref.whole main_arg0_scv
abbrev rW : Memref sig .scVector .hbm S5120 .i32 := Memref.whole main_arg1_scv
abbrev nW : Memref sig .scVector .hbm S5120 .i32 := Memref.whole main_arg2_scv
abbrev oW : Memref sig .scVector .hbm S96x40x8x128 .f32 := Memref.whole main_v0_scv
abbrev sR : Memref sig .scVector .vmem S5120 .i32 := Memref.whole cc0_scratch0
abbrev sN : Memref sig .scVector .vmem S5120 .i32 := Memref.whole cc0_scratch1
abbrev sI : Memref sig .scVector .vmem S40x8x128 .f32 := Memref.whole cc0_scratch2
abbrev sO : Memref sig .scVector .vmem S40x8x128 .f32 := Memref.whole cc0_scratch3

/-! ## Where a trip stores -/

theorem trips2 (t : Fin k0_t2_loop.trips) : t.val < 320 := Nat.lt_of_lt_of_le t.isLt k0_t2_abs.2.1
theorem trips1 (t : Fin k0_t1_loop.trips) : t.val < 3 := Nat.lt_of_lt_of_le t.isLt k0_t1_abs.2.1

theorem off3_eq : ∀ t : Fin k0_t2_loop.trips, k0_off3 t = ![t.val / 8, 0, 16 * (t.val % 8)] := by decide +kernel
theorem off4_eq : ∀ t : Fin k0_t2_loop.trips, k0_off4 t = ![t.val / 8, 1, 16 * (t.val % 8)] := by decide +kernel
theorem off5_eq : ∀ t : Fin k0_t2_loop.trips, k0_off5 t = ![t.val / 8, 2, 16 * (t.val % 8)] := by decide +kernel
theorem off6_eq : ∀ t : Fin k0_t2_loop.trips, k0_off6 t = ![t.val / 8, 3, 16 * (t.val % 8)] := by decide +kernel
theorem off7_eq : ∀ t : Fin k0_t2_loop.trips, k0_off7 t = ![t.val / 8, 4, 16 * (t.val % 8)] := by decide +kernel
theorem off8_eq : ∀ t : Fin k0_t2_loop.trips, k0_off8 t = ![t.val / 8, 5, 16 * (t.val % 8)] := by decide +kernel
theorem off9_eq : ∀ t : Fin k0_t2_loop.trips, k0_off9 t = ![t.val / 8, 6, 16 * (t.val % 8)] := by decide +kernel
theorem off10_eq : ∀ t : Fin k0_t2_loop.trips, k0_off10 t = ![t.val / 8, 7, 16 * (t.val % 8)] := by decide +kernel

/-! ## Words -/

/-- The block of a rank: its upper bits. -/
theorem shr7 (r : BitVec 32) (h : r.toNat < 5120) : (IntOp.shrsi .vector r 7#32).toNat = r.toNat / 128 := by
  unfold IntOp.shrsi
  rw [if_pos (by decide), BitVec.sshiftRight_eq', BitVec.sshiftRight_eq_of_msb_false (by rw [BitVec.msb_eq_decide]; simp; omega)]
  simp [BitVec.toNat_ushiftRight, Nat.shiftRight_eq_div_pow]

/-- The lane of a rank: its lower seven bits. -/
theorem and127 (r : BitVec 32) : (r &&& 127#32).toNat = r.toNat % 128 := by
  rw [BitVec.toNat_and]
  exact Nat.and_two_pow_sub_one_eq_mod r.toNat 7

/-! ## Sixteen tokens -/

section Sixteen
variable [FloatOps F]

/-- Token `x` of trip `t`. -/
def at16 (t : Fin k0_t2_loop.trips) (x : S16.Idx) : Fin 5120 :=
  ⟨16 * t.val + (x 0).val, by have := trips2 t; have : (x 0).val < 16 := (x 0).isLt; omega⟩

/-- Sixteen words of a task's array of words. -/
def words (w : S5120.Idx → BitVec 32) (t : Fin k0_t2_loop.trips) : IVec S16 32 := fun x => w (ix1 (at16 t x))

theorem read_rank (t : Fin k0_t2_loop.trips) (f : S5120.Idx → BitVec 32) :
    sR.view.readAt (Elt F) (Rect.unit (s := S5120) (k0_off2 t) S16.size (k0_off2_inb t)).toLoadRect f = words f t := by
  funext x
  show f _ = f _
  congr 1
  funext a
  match a with
  | 0 =>
    apply Fin.ext
    show (k0_off2 t) 0 + 1 * (x 0).val = _
    have h : k0_off2 t 0 = 16 * t.val := by rw [k0_off2_eq]; rfl
    show k0_off2 t 0 + 1 * (x 0).val = 16 * t.val + (x 0).val
    omega

theorem read_len (t : Fin k0_t2_loop.trips) (f : S5120.Idx → BitVec 32) :
    sN.view.readAt (Elt F) (Rect.unit (s := S5120) (k0_off2 t) S16.size (k0_off2_inb t)).toLoadRect f = words f t :=
  read_rank (F := F) t f

theorem read_tile (g : S40x8x128.Idx → F .f32) : (sI.access (.whole S40x8x128)).read (Elt F) g = g := by
  funext x
  show g _ = g _
  congr 1
  funext a
  apply Fin.ext
  show 0 + 1 * (x a).val = _
  omega

/-- The three indices of a gather are inside the tile. -/
theorem gather_inb (r : IVec S16 32) (hr : ∀ x, (r x).toNat < 5120) (k : BitVec 32) (hk : k.toNat < 8) :
    ∀ a x, ((![k0_pay2 (F := F) r, broadcast S16 k, k0_pay3 (F := F) r] : Fin 3 → IVec S16 32) a x).toNat < S40x8x128.size a := by
  intro a x
  match a with
  | 0 => show (IntOp.shrsi .vector (r x) 7#32).toNat < 40; rw [shr7 _ (hr x)]; have := hr x; omega
  | 1 => exact hk
  | 2 => show (r x &&& 127#32).toNat < 128; rw [and127]; omega

/-- A gather reads each token's score at its rank's block and lane. -/
theorem gather_val (r : IVec S16 32) (hr : ∀ x, (r x).toNat < 5120) (k : Fin 8) (g : S40x8x128.Idx → F .f32)
    (h : ∀ a x, ((![k0_pay2 (F := F) r, broadcast S16 (BitVec.ofNat 32 k.val), k0_pay3 (F := F) r] : Fin 3 → IVec S16 32) a x).toNat < S40x8x128.size a)
    (x : S16.Idx) :
    loadIdx (F := F) (s := S40x8x128) (e := .f32) g ![k0_pay2 (F := F) r, broadcast S16 (BitVec.ofNat 32 k.val), k0_pay3 (F := F) r] h x
      = g (ix3 ⟨(r x).toNat / 128 % 40, Nat.mod_lt _ (by decide)⟩ k ⟨(r x).toNat % 128, Nat.mod_lt _ (by decide)⟩) := by
  show g _ = g _
  congr 1
  funext a
  apply Fin.ext
  match a with
  | 0 =>
    show (IntOp.shrsi .vector (r x) 7#32).toNat = (r x).toNat / 128 % 40
    rw [shr7 _ (hr x)]; have := hr x; omega
  | 1 =>
    show (BitVec.ofNat 32 k.val).toNat = k.val
    rw [BitVec.toNat_ofNat]; have := k.isLt; omega
  | 2 => show (r x &&& 127#32).toNat = (r x).toNat % 128; exact and127 _

/-- Place `x` of trip `t`'s sixteen in row `k` of the tile. -/
def place (t : Fin k0_t2_loop.trips) (k : Fin 8) (x : S16.Idx) : S40x8x128.Idx :=
  ix3 ⟨t.val / 8, by have := trips2 t; omega⟩ k ⟨16 * (t.val % 8) + (x 0).val, by have : (x 0).val < 16 := (x 0).isLt; omega⟩

/-- What trip `t` is to store in row `k`. -/
def RowIs (Y : S40x8x128.Idx → F .f32) (t : Fin k0_t2_loop.trips) (k : Fin 8) (v : S16.Idx → F .f32) : Prop := ∀ x, v x = Y (place t k x)

/-- The gathered row, scored, is the tile's value there. -/
theorem row_is (rank len : S5120.Idx → BitVec 32) (hr : ∀ j, (rank j).toNat < 5120) (g : S40x8x128.Idx → F .f32) (t : Fin k0_t2_loop.trips) (k : Fin 8)
    (h : ∀ a x, ((![k0_pay2 (F := F) (words rank t), broadcast S16 (BitVec.ofNat 32 k.val), k0_pay3 (F := F) (words rank t)] : Fin 3 → IVec S16 32) a x).toNat < S40x8x128.size a) :
    RowIs (tileVal rank len g) t k
      (k0_pay4 (F := F) (words len t) (loadIdx (F := F) (s := S40x8x128) (e := .f32) g ![k0_pay2 (F := F) (words rank t), broadcast S16 (BitVec.ofNat 32 k.val), k0_pay3 (F := F) (words rank t)] h)) := by
  intro x
  have hp : tok ((place t k x) 0) ((place t k x) 2) = at16 t x := by
    apply Fin.ext
    show 128 * (t.val / 8) + (16 * (t.val % 8) + (x 0).val) = 16 * t.val + (x 0).val
    omega
  show elt (words len t x) (loadIdx (F := F) (s := S40x8x128) (e := .f32) g _ h x) = _
  rw [gather_val (words rank t) (fun x => hr _) k g h x]
  show elt (len (ix1 (at16 t x))) (g (ix3 ⟨(rank (ix1 (at16 t x))).toNat / 128 % 40, _⟩ k ⟨(rank (ix1 (at16 t x))).toNat % 128, _⟩))
    = elt (len (ix1 (tok ((place t k x) 0) ((place t k x) 2)))) (g (ix3 ⟨(rank (ix1 (tok ((place t k x) 0) ((place t k x) 2)))).toNat / 128 % 40, _⟩ k
      ⟨(rank (ix1 (tok ((place t k x) 0) ((place t k x) 2)))).toNat % 128, _⟩))
  simp only [hp]

/-! ## The invariant of the inner loop -/

/-- The first `n` sixteens of tokens are stored, and of the next the first `k` rows. -/
def Done (Y : S40x8x128.Idx → F .f32) (n k : ℕ) (g : S40x8x128.Idx → F .f32) : Prop :=
  ∀ j : S40x8x128.Idx, (128 * (j 0).val + (j 2).val < 16 * n ∨ (128 * (j 0).val + (j 2).val < 16 * (n + 1) ∧ (j 1).val < k)) → g j = Y j

theorem done_zero (Y g : S40x8x128.Idx → F .f32) : Done Y 0 0 g := by
  intro j h; omega

theorem done_next {Y g : S40x8x128.Idx → F .f32} {n : ℕ} (h : Done Y n 8 g) : Done Y (n + 1) 0 g := by
  intro j hj
  have : (j 1).val < 8 := (j 1).isLt
  exact h j (by omega)

theorem done_all {Y g : S40x8x128.Idx → F .f32} (h : Done Y 320 0 g) : g = Y := by
  funext j
  have h0 : (j 0).val < 40 := (j 0).isLt
  have h2 : (j 2).val < 128 := (j 2).isLt
  exact h j (by omega)

/-- A store of sixteen values into the tile, at an index inside. -/
theorem store_in (g : S40x8x128.Idx → F .f32) (off : Fin 3 → ℕ) (inb : ∀ a, off a + S1x1x16.size a ≤ S40x8x128.size a) (w : S1x1x16.Idx → F .f32)
    (j : S40x8x128.Idx) (y : S1x1x16.Idx) (h : ∀ a, off a + (y a).val = (j a).val) :
    (sO.access (Rect.unit (s := S40x8x128) off S1x1x16.size inb)).write (Elt F) g w Finset.univ j = w y := by
  have hj : j = (sO.access (Rect.unit (s := S40x8x128) off S1x1x16.size inb)).emb y := by
    funext a; apply Fin.ext
    show (j a).val = off a + 1 * (y a).val
    rw [Nat.one_mul, h a]
  rw [hj]
  exact View.write_emb_of_mem (Val := Elt F) (v := sO.access (Rect.unit (s := S40x8x128) off S1x1x16.size inb)) g w (Finset.mem_univ y)

/-- … and at an index outside. -/
theorem store_out (g : S40x8x128.Idx → F .f32) (off : Fin 3 → ℕ) (inb : ∀ a, off a + S1x1x16.size a ≤ S40x8x128.size a) (w : S1x1x16.Idx → F .f32)
    (j : S40x8x128.Idx) (h : ¬ ∀ a, off a ≤ (j a).val ∧ (j a).val < off a + S1x1x16.size a) :
    (sO.access (Rect.unit (s := S40x8x128) off S1x1x16.size inb)).write (Elt F) g w Finset.univ j = g j := by
  apply View.write_of_not_mem
  intro hm
  apply h
  obtain ⟨y, -, hy⟩ := Finset.mem_map.mp hm
  intro a
  have : (j a).val = off a + 1 * (y a).val := by rw [← hy]; rfl
  have : (y a).val < S1x1x16.size a := (y a).isLt
  omega

/-- Sixteen values, as a row of one plane. -/
theorem cast16 (v : S16.Idx → F .f32) (hs : S16.ShapeCasts S1x1x16) (y : S1x1x16.Idx) :
    shapeCast S1x1x16 v hs y = v (ix1 (y 2)) :=
  congrArg v (Shape.reshapeEquiv_eq_of_rowMajor hs (by
    have h0 : (y 0).val < 1 := (y 0).isLt
    have h1 : (y 1).val < 1 := (y 1).isLt
    rw [Shape.rowMajor_val_three, Shape.rowMajor_val_one]
    show (y 2).val = ((y 0).val * 1 + (y 1).val) * 16 + (y 2).val
    omega))

/-- Storing row `k` of trip `t`. -/
theorem store_step (Y g : S40x8x128.Idx → F .f32) (t : Fin k0_t2_loop.trips) (k : Fin 8) (off : Fin 3 → ℕ) (hoff : off = ![t.val / 8, k.val, 16 * (t.val % 8)])
    (inb : ∀ a, off a + S1x1x16.size a ≤ S40x8x128.size a) (v : S16.Idx → F .f32) (hs : S16.ShapeCasts S1x1x16) (hv : RowIs Y t k v) (hg : Done Y t.val k.val g) :
    Done Y t.val (k.val + 1)
      ((sO.access (Rect.unit (s := S40x8x128) off S1x1x16.size inb)).write (Elt F) g (shapeCast S1x1x16 v hs) Finset.univ) := by
  subst hoff
  intro j hj
  have hj2 : (j 2).val < 128 := (j 2).isLt
  by_cases hin : t.val / 8 = (j 0).val ∧ k.val = (j 1).val ∧ 16 * (t.val % 8) ≤ (j 2).val ∧ (j 2).val < 16 * (t.val % 8) + 16
  · obtain ⟨h0, h1, h2, h3⟩ := hin
    rw [store_in g _ inb _ j (ix3 (0 : Fin 1) (0 : Fin 1) (⟨(j 2).val - 16 * (t.val % 8), by omega⟩ : Fin 16)) (by
        intro a
        match a with
        | 0 => exact h0
        | 1 => exact h1
        | 2 => show 16 * (t.val % 8) + ((j 2).val - 16 * (t.val % 8)) = (j 2).val; omega),
      cast16, hv]
    congr 1
    funext a
    apply Fin.ext
    match a with
    | 0 => exact h0
    | 1 => exact h1
    | 2 => show 16 * (t.val % 8) + ((j 2).val - 16 * (t.val % 8)) = (j 2).val; omega
  · rw [store_out g _ inb _ j (by
        intro hall
        have h0 : t.val / 8 ≤ (j 0).val ∧ (j 0).val < t.val / 8 + 1 := hall 0
        have h1 : k.val ≤ (j 1).val ∧ (j 1).val < k.val + 1 := hall 1
        have h2 : 16 * (t.val % 8) ≤ (j 2).val ∧ (j 2).val < 16 * (t.val % 8) + 16 := hall 2
        omega)]
    apply hg
    omega

end Sixteen

end Cert.UnsortIdeal.Hand

end
-- ==== Proof.UnsortIdeal.Inner.lean ====
/- The unsort call: one trip of the inner loop, part by part as it is printed. The first part loads sixteen ranks and
   lengths and gathers the first row; each later part stores the row before it and gathers its own; the trip's last
   operation stores the last row. -/
module

public import proofs.«01_k».proof.Proof.UnsortIdeal.Vals

@[expose] public section

noncomputable section

namespace Cert.UnsortIdeal.Hand

open Cert.UnsortIdeal Cert.UnsortIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

abbrev cV (L : grid0.Coords) : Fin τ.nSC := (L 0).castLE hcore0
abbrev jV (L : grid0.Coords) : Fin τ.nSub := (L 1).castLE hsub0
/-- The thread of a task. -/
abbrev vt (d : Dev nD) (L : grid0.Coords) : Thread nD τ := V d (cV L) (jV L)

variable (d : Dev nD) (L : grid0.Coords) (t : Fin k0_t2_loop.trips) (rank len : S5120.Idx → BitVec 32) (G : S40x8x128.Idx → F .f32)

/-- The four scratches of a task, the result tile at `g`. -/
abbrev scr (g : S40x8x128.Idx → F .f32) : sProp (MM F) :=
  iprop((sR.view.loc (vt d L) ↦{fullShare} (rank : Buf (Elt F) (sR.view.loc (vt d L))))
    ∗ (sN.view.loc (vt d L) ↦{fullShare} (len : Buf (Elt F) (sN.view.loc (vt d L))))
    ∗ (sI.view.loc (vt d L) ↦{fullShare} (G : Buf (Elt F) (sI.view.loc (vt d L))))
    ∗ (sO.view.loc (vt d L) ↦{fullShare} (g : Buf (Elt F) (sO.view.loc (vt d L)))))

theorem part1_wp (hr : ∀ j, (rank j).toNat < 5120) (a b : BitVec 32) (g : S40x8x128.Idx → F .f32) :
    scr d L rank len G g
      ⊢ wp frame (wpE (defs₀ (F := F)) 𝒱₀ (vt d L) none) Set.univ
          (k0_part1 L aW (Memref.isWhole_whole _) rW (Memref.isWhole_whole _) nW (Memref.isWhole_whole _) oW (Memref.isWhole_whole _) sR (Memref.isWhole_whole _) sN (Memref.isWhole_whole _) sI (Memref.isWhole_whole _) sO (Memref.isWhole_whole _) cc0_scratch4 cc0_scoped0 cc0_scoped1 cc0_scoped2 a b t)
          fun r => iprop(⌜r.2.1 = k0_pay1 (F := F) (words len t) ∧ r.2.2.1 = k0_pay2 (F := F) (words rank t) ∧ r.2.2.2.1 = k0_pay3 (F := F) (words rank t)
              ∧ RowIs (tileVal rank len G) t 0 r.2.2.2.2.1⌝ ∗ scr d L rank len G g) := by
  rw [k0_part1_eq_skeleton]; unfold k0_part1_skel
  simp only [Prog.lift, Prog.bind_op, Prog.bind_ret, Prog.pure_eq_ret]
  iintro ⟨HR, HN, HI, HO⟩
  iapply (wp_load 𝒱₀ (vt d L) none Set.univ (m := sR) (S := Finset.univ) (Finset.subset_univ _)) $$ HR; iintro HR
  iapply (wp_load 𝒱₀ (vt d L) none Set.univ (m := sN) (S := Finset.univ) (Finset.subset_univ _)) $$ HN; iintro HN
  rw [read_rank (F := F), read_len (F := F)]
  rw [wp_assume_of (P := k0_chk1 (k0_pay2 (F := F) (words rank t)) (k0_pay3 (F := F) (words rank t)) (broadcast S16 0#32)) _ _ _ _ (gather_inb (F := F) (words rank t) (fun x => hr _) 0#32 (by decide))]
  iapply (SparseCore.wp_vectorLoadIdx 𝒱₀ (vt d L) none Set.univ (base := sI) (S := Finset.univ) (q := fullShare) (Finset.subset_univ _)) $$ HI; iintro HI
  rw [read_tile]
  sl_step
  isplitr
  · ipureintro; exact ⟨rfl, rfl, rfl, row_is rank len hr G t 0 _⟩
  isplitl [HR]; · iexact HR
  isplitl [HN]; · iexact HN
  isplitl [HI]; · iexact HI
  iexact HO

theorem part2_wp (hr : ∀ j, (rank j).toNat < 5120) (g : S40x8x128.Idx → F .f32) (hg : Done (tileVal rank len G) t.val 0 g)
    (v : FVec F S16 .f32) (hv : RowIs (tileVal rank len G) t 0 v) (v17 : BitVec 32) (v54 : BitVec 32) (c8_i32_33 : BitVec 32) :
    scr d L rank len G g
      ⊢ wp frame (wpE (defs₀ (F := F)) 𝒱₀ (vt d L) none) Set.univ
          (k0_part2 L aW (Memref.isWhole_whole _) rW (Memref.isWhole_whole _) nW (Memref.isWhole_whole _) oW (Memref.isWhole_whole _) sR (Memref.isWhole_whole _) sN (Memref.isWhole_whole _) sI (Memref.isWhole_whole _) sO (Memref.isWhole_whole _) cc0_scratch4 cc0_scoped0 cc0_scoped1 cc0_scoped2 t v17 (k0_pay1 (F := F) (words len t)) (k0_pay2 (F := F) (words rank t)) (k0_pay3 (F := F) (words rank t)) v v54 c8_i32_33)
          fun r => iprop(∃ g' : S40x8x128.Idx → F .f32, ⌜Done (tileVal rank len G) t.val 1 g' ∧ RowIs (tileVal rank len G) t 1 r.1⌝ ∗ scr d L rank len G g') := by
  rw [k0_part2_eq_skeleton]; unfold k0_part2_skel
  simp only [Prog.lift, Prog.bind_op, Prog.bind_ret, Prog.pure_eq_ret]
  iintro ⟨HR, HN, HI, HO⟩
  iapply (wp_load 𝒱₀ (vt d L) none Set.univ (m := sO) (S := Finset.univ) (Finset.subset_univ _)) $$ HO; iintro HO
  iapply (wp_store 𝒱₀ (vt d L) none Set.univ (m := sO) (r := Rect.unit (s := S40x8x128) (k0_off3 t) S1x1x16.size (k0_off3_inb t)) (Mk := Finset.univ) (S := Finset.univ) (Finset.subset_univ _)) $$ HO; iintro HO
  rw [wp_assume_of (P := k0_chk2 (k0_pay2 (F := F) (words rank t)) (k0_pay3 (F := F) (words rank t)) (broadcast S16 1#32)) _ _ _ _ (gather_inb (F := F) (words rank t) (fun x => hr _) 1#32 (by decide))]
  iapply (SparseCore.wp_vectorLoadIdx 𝒱₀ (vt d L) none Set.univ (base := sI) (S := Finset.univ) (q := fullShare) (Finset.subset_univ _)) $$ HI; iintro HI
  rw [read_tile]
  sl_step
  iexists ((sO.access (Rect.unit (s := S40x8x128) (k0_off3 t) S1x1x16.size (k0_off3_inb t))).write (Elt F) g (shapeCast S1x1x16 v shapeCasts_S16_S1x1x16) Finset.univ)
  isplitr
  · ipureintro
    exact ⟨store_step _ g t 0 _ (off3_eq t) _ v _ hv hg, row_is rank len hr G t 1 _⟩
  isplitl [HR]; · iexact HR
  isplitl [HN]; · iexact HN
  isplitl [HI]; · iexact HI
  iexact HO

theorem part3_wp (hr : ∀ j, (rank j).toNat < 5120) (g : S40x8x128.Idx → F .f32) (hg : Done (tileVal rank len G) t.val 1 g)
    (v : FVec F S16 .f32) (hv : RowIs (tileVal rank len G) t 1 v) (v17 : BitVec 32) (v78 : BitVec 32) (v92 : BitVec 1) (v93 : BitVec 32) :
    scr d L rank len G g
      ⊢ wp frame (wpE (defs₀ (F := F)) 𝒱₀ (vt d L) none) Set.univ
          (k0_part3 L aW (Memref.isWhole_whole _) rW (Memref.isWhole_whole _) nW (Memref.isWhole_whole _) oW (Memref.isWhole_whole _) sR (Memref.isWhole_whole _) sN (Memref.isWhole_whole _) sI (Memref.isWhole_whole _) sO (Memref.isWhole_whole _) cc0_scratch4 cc0_scoped0 cc0_scoped1 cc0_scoped2 t v17 (k0_pay1 (F := F) (words len t)) (k0_pay2 (F := F) (words rank t)) (k0_pay3 (F := F) (words rank t)) v v78 v92 v93)
          fun r => iprop(∃ g' : S40x8x128.Idx → F .f32, ⌜Done (tileVal rank len G) t.val 2 g' ∧ RowIs (tileVal rank len G) t 2 r.1⌝ ∗ scr d L rank len G g') := by
  rw [k0_part3_eq_skeleton]; unfold k0_part3_skel
  simp only [Prog.lift, Prog.bind_op, Prog.bind_ret, Prog.pure_eq_ret]
  iintro ⟨HR, HN, HI, HO⟩
  iapply (wp_load 𝒱₀ (vt d L) none Set.univ (m := sO) (S := Finset.univ) (Finset.subset_univ _)) $$ HO; iintro HO
  iapply (wp_store 𝒱₀ (vt d L) none Set.univ (m := sO) (r := Rect.unit (s := S40x8x128) (k0_off4 t) S1x1x16.size (k0_off4_inb t)) (Mk := Finset.univ) (S := Finset.univ) (Finset.subset_univ _)) $$ HO; iintro HO
  rw [wp_assume_of (P := k0_chk3 (k0_pay2 (F := F) (words rank t)) (k0_pay3 (F := F) (words rank t)) (broadcast S16 2#32)) _ _ _ _ (gather_inb (F := F) (words rank t) (fun x => hr _) 2#32 (by decide))]
  iapply (SparseCore.wp_vectorLoadIdx 𝒱₀ (vt d L) none Set.univ (base := sI) (S := Finset.univ) (q := fullShare) (Finset.subset_univ _)) $$ HI; iintro HI
  rw [read_tile]
  sl_step
  iexists ((sO.access (Rect.unit (s := S40x8x128) (k0_off4 t) S1x1x16.size (k0_off4_inb t))).write (Elt F) g (shapeCast S1x1x16 v shapeCasts_S16_S1x1x16) Finset.univ)
  isplitr
  · ipureintro
    exact ⟨store_step _ g t 1 _ (off4_eq t) _ v _ hv hg, row_is rank len hr G t 2 _⟩
  isplitl [HR]; · iexact HR
  isplitl [HN]; · iexact HN
  isplitl [HI]; · iexact HI
  iexact HO

theorem part4_wp (hr : ∀ j, (rank j).toNat < 5120) (g : S40x8x128.Idx → F .f32) (hg : Done (tileVal rank len G) t.val 2 g)
    (v : FVec F S16 .f32) (hv : RowIs (tileVal rank len G) t 2 v) (v17 : BitVec 32) (v118 : BitVec 32) (v132 : BitVec 1) :
    scr d L rank len G g
      ⊢ wp frame (wpE (defs₀ (F := F)) 𝒱₀ (vt d L) none) Set.univ
          (k0_part4 L aW (Memref.isWhole_whole _) rW (Memref.isWhole_whole _) nW (Memref.isWhole_whole _) oW (Memref.isWhole_whole _) sR (Memref.isWhole_whole _) sN (Memref.isWhole_whole _) sI (Memref.isWhole_whole _) sO (Memref.isWhole_whole _) cc0_scratch4 cc0_scoped0 cc0_scoped1 cc0_scoped2 t v17 (k0_pay1 (F := F) (words len t)) (k0_pay2 (F := F) (words rank t)) (k0_pay3 (F := F) (words rank t)) v v118 v132)
          fun r => iprop(∃ g' : S40x8x128.Idx → F .f32, ⌜Done (tileVal rank len G) t.val 3 g' ∧ RowIs (tileVal rank len G) t 3 r.1⌝ ∗ scr d L rank len G g') := by
  rw [k0_part4_eq_skeleton]; unfold k0_part4_skel
  simp only [Prog.lift, Prog.bind_op, Prog.bind_ret, Prog.pure_eq_ret]
  iintro ⟨HR, HN, HI, HO⟩
  iapply (wp_load 𝒱₀ (vt d L) none Set.univ (m := sO) (S := Finset.univ) (Finset.subset_univ _)) $$ HO; iintro HO
  iapply (wp_store 𝒱₀ (vt d L) none Set.univ (m := sO) (r := Rect.unit (s := S40x8x128) (k0_off5 t) S1x1x16.size (k0_off5_inb t)) (Mk := Finset.univ) (S := Finset.univ) (Finset.subset_univ _)) $$ HO; iintro HO
  rw [wp_assume_of (P := k0_chk4 (k0_pay2 (F := F) (words rank t)) (k0_pay3 (F := F) (words rank t)) (broadcast S16 3#32)) _ _ _ _ (gather_inb (F := F) (words rank t) (fun x => hr _) 3#32 (by decide))]
  iapply (SparseCore.wp_vectorLoadIdx 𝒱₀ (vt d L) none Set.univ (base := sI) (S := Finset.univ) (q := fullShare) (Finset.subset_univ _)) $$ HI; iintro HI
  rw [read_tile]
  sl_step
  iexists ((sO.access (Rect.unit (s := S40x8x128) (k0_off5 t) S1x1x16.size (k0_off5_inb t))).write (Elt F) g (shapeCast S1x1x16 v shapeCasts_S16_S1x1x16) Finset.univ)
  isplitr
  · ipureintro
    exact ⟨store_step _ g t 2 _ (off5_eq t) _ v _ hv hg, row_is rank len hr G t 3 _⟩
  isplitl [HR]; · iexact HR
  isplitl [HN]; · iexact HN
  isplitl [HI]; · iexact HI
  iexact HO

theorem part5_wp (hr : ∀ j, (rank j).toNat < 5120) (g : S40x8x128.Idx → F .f32) (hg : Done (tileVal rank len G) t.val 3 g)
    (v : FVec F S16 .f32) (hv : RowIs (tileVal rank len G) t 3 v) (v17 : BitVec 32) (v158 : BitVec 32) (v169 : BitVec 1) (v170 : BitVec 32) (c0_i32_87 : BitVec 32) :
    scr d L rank len G g
      ⊢ wp frame (wpE (defs₀ (F := F)) 𝒱₀ (vt d L) none) Set.univ
          (k0_part5 L aW (Memref.isWhole_whole _) rW (Memref.isWhole_whole _) nW (Memref.isWhole_whole _) oW (Memref.isWhole_whole _) sR (Memref.isWhole_whole _) sN (Memref.isWhole_whole _) sI (Memref.isWhole_whole _) sO (Memref.isWhole_whole _) cc0_scratch4 cc0_scoped0 cc0_scoped1 cc0_scoped2 t v17 (k0_pay1 (F := F) (words len t)) (k0_pay2 (F := F) (words rank t)) (k0_pay3 (F := F) (words rank t)) v v158 v169 v170 c0_i32_87)
          fun r => iprop(∃ g' : S40x8x128.Idx → F .f32, ⌜Done (tileVal rank len G) t.val 4 g' ∧ RowIs (tileVal rank len G) t 4 r.1⌝ ∗ scr d L rank len G g') := by
  rw [k0_part5_eq_skeleton]; unfold k0_part5_skel
  simp only [Prog.lift, Prog.bind_op, Prog.bind_ret, Prog.pure_eq_ret]
  iintro ⟨HR, HN, HI, HO⟩
  iapply (wp_load 𝒱₀ (vt d L) none Set.univ (m := sO) (S := Finset.univ) (Finset.subset_univ _)) $$ HO; iintro HO
  iapply (wp_store 𝒱₀ (vt d L) none Set.univ (m := sO) (r := Rect.unit (s := S40x8x128) (k0_off6 t) S1x1x16.size (k0_off6_inb t)) (Mk := Finset.univ) (S := Finset.univ) (Finset.subset_univ _)) $$ HO; iintro HO
  rw [wp_assume_of (P := k0_chk5 (k0_pay2 (F := F) (words rank t)) (k0_pay3 (F := F) (words rank t)) (broadcast S16 4#32)) _ _ _ _ (gather_inb (F := F) (words rank t) (fun x => hr _) 4#32 (by decide))]
  iapply (SparseCore.wp_vectorLoadIdx 𝒱₀ (vt d L) none Set.univ (base := sI) (S := Finset.univ) (q := fullShare) (Finset.subset_univ _)) $$ HI; iintro HI
  rw [read_tile]
  sl_step
  iexists ((sO.access (Rect.unit (s := S40x8x128) (k0_off6 t) S1x1x16.size (k0_off6_inb t))).write (Elt F) g (shapeCast S1x1x16 v shapeCasts_S16_S1x1x16) Finset.univ)
  isplitr
  · ipureintro
    exact ⟨store_step _ g t 3 _ (off6_eq t) _ v _ hv hg, row_is rank len hr G t 4 _⟩
  isplitl [HR]; · iexact HR
  isplitl [HN]; · iexact HN
  isplitl [HI]; · iexact HI
  iexact HO

theorem part6_wp (hr : ∀ j, (rank j).toNat < 5120) (g : S40x8x128.Idx → F .f32) (hg : Done (tileVal rank len G) t.val 4 g)
    (v : FVec F S16 .f32) (hv : RowIs (tileVal rank len G) t 4 v) (v17 : BitVec 32) (c8_i32_100 : BitVec 32) (v198 : BitVec 32) (v209 : BitVec 1) :
    scr d L rank len G g
      ⊢ wp frame (wpE (defs₀ (F := F)) 𝒱₀ (vt d L) none) Set.univ
          (k0_part6 L aW (Memref.isWhole_whole _) rW (Memref.isWhole_whole _) nW (Memref.isWhole_whole _) oW (Memref.isWhole_whole _) sR (Memref.isWhole_whole _) sN (Memref.isWhole_whole _) sI (Memref.isWhole_whole _) sO (Memref.isWhole_whole _) cc0_scratch4 cc0_scoped0 cc0_scoped1 cc0_scoped2 t v17 (k0_pay1 (F := F) (words len t)) (k0_pay2 (F := F) (words rank t)) (k0_pay3 (F := F) (words rank t)) v c8_i32_100 v198 v209)
          fun r => iprop(∃ g' : S40x8x128.Idx → F .f32, ⌜Done (tileVal rank len G) t.val 5 g' ∧ RowIs (tileVal rank len G) t 5 r.1⌝ ∗ scr d L rank len G g') := by
  rw [k0_part6_eq_skeleton]; unfold k0_part6_skel
  simp only [Prog.lift, Prog.bind_op, Prog.bind_ret, Prog.pure_eq_ret]
  iintro ⟨HR, HN, HI, HO⟩
  iapply (wp_load 𝒱₀ (vt d L) none Set.univ (m := sO) (S := Finset.univ) (Finset.subset_univ _)) $$ HO; iintro HO
  iapply (wp_store 𝒱₀ (vt d L) none Set.univ (m := sO) (r := Rect.unit (s := S40x8x128) (k0_off7 t) S1x1x16.size (k0_off7_inb t)) (Mk := Finset.univ) (S := Finset.univ) (Finset.subset_univ _)) $$ HO; iintro HO
  rw [wp_assume_of (P := k0_chk6 (k0_pay2 (F := F) (words rank t)) (k0_pay3 (F := F) (words rank t)) (broadcast S16 5#32)) _ _ _ _ (gather_inb (F := F) (words rank t) (fun x => hr _) 5#32 (by decide))]
  iapply (SparseCore.wp_vectorLoadIdx 𝒱₀ (vt d L) none Set.univ (base := sI) (S := Finset.univ) (q := fullShare) (Finset.subset_univ _)) $$ HI; iintro HI
  rw [read_tile]
  sl_step
  iexists ((sO.access (Rect.unit (s := S40x8x128) (k0_off7 t) S1x1x16.size (k0_off7_inb t))).write (Elt F) g (shapeCast S1x1x16 v shapeCasts_S16_S1x1x16) Finset.univ)
  isplitr
  · ipureintro
    exact ⟨store_step _ g t 4 _ (off7_eq t) _ v _ hv hg, row_is rank len hr G t 5 _⟩
  isplitl [HR]; · iexact HR
  isplitl [HN]; · iexact HN
  isplitl [HI]; · iexact HI
  iexact HO

theorem part7_wp (hr : ∀ j, (rank j).toNat < 5120) (g : S40x8x128.Idx → F .f32) (hg : Done (tileVal rank len G) t.val 5 g)
    (v : FVec F S16 .f32) (hv : RowIs (tileVal rank len G) t 5 v) (v17 : BitVec 32) (c8_i32_118 : BitVec 32) (v238 : BitVec 32) (v243 : BitVec 32) (v245 : BitVec 32) (v247 : BitVec 32) :
    scr d L rank len G g
      ⊢ wp frame (wpE (defs₀ (F := F)) 𝒱₀ (vt d L) none) Set.univ
          (k0_part7 L aW (Memref.isWhole_whole _) rW (Memref.isWhole_whole _) nW (Memref.isWhole_whole _) oW (Memref.isWhole_whole _) sR (Memref.isWhole_whole _) sN (Memref.isWhole_whole _) sI (Memref.isWhole_whole _) sO (Memref.isWhole_whole _) cc0_scratch4 cc0_scoped0 cc0_scoped1 cc0_scoped2 t v17 (k0_pay1 (F := F) (words len t)) (k0_pay2 (F := F) (words rank t)) (k0_pay3 (F := F) (words rank t)) v c8_i32_118 v238 v243 v245 v247)
          fun r => iprop(∃ g' : S40x8x128.Idx → F .f32, ⌜Done (tileVal rank len G) t.val 6 g' ∧ RowIs (tileVal rank len G) t 6 r.1⌝ ∗ scr d L rank len G g') := by
  rw [k0_part7_eq_skeleton]; unfold k0_part7_skel
  simp only [Prog.lift, Prog.bind_op, Prog.bind_ret, Prog.pure_eq_ret]
  iintro ⟨HR, HN, HI, HO⟩
  iapply (wp_load 𝒱₀ (vt d L) none Set.univ (m := sO) (S := Finset.univ) (Finset.subset_univ _)) $$ HO; iintro HO
  iapply (wp_store 𝒱₀ (vt d L) none Set.univ (m := sO) (r := Rect.unit (s := S40x8x128) (k0_off8 t) S1x1x16.size (k0_off8_inb t)) (Mk := Finset.univ) (S := Finset.univ) (Finset.subset_univ _)) $$ HO; iintro HO
  rw [wp_assume_of (P := k0_chk7 (k0_pay2 (F := F) (words rank t)) (k0_pay3 (F := F) (words rank t)) (broadcast S16 6#32)) _ _ _ _ (gather_inb (F := F) (words rank t) (fun x => hr _) 6#32 (by decide))]
  iapply (SparseCore.wp_vectorLoadIdx 𝒱₀ (vt d L) none Set.univ (base := sI) (S := Finset.univ) (q := fullShare) (Finset.subset_univ _)) $$ HI; iintro HI
  rw [read_tile]
  sl_step
  iexists ((sO.access (Rect.unit (s := S40x8x128) (k0_off8 t) S1x1x16.size (k0_off8_inb t))).write (Elt F) g (shapeCast S1x1x16 v shapeCasts_S16_S1x1x16) Finset.univ)
  isplitr
  · ipureintro
    exact ⟨store_step _ g t 5 _ (off8_eq t) _ v _ hv hg, row_is rank len hr G t 6 _⟩
  isplitl [HR]; · iexact HR
  isplitl [HN]; · iexact HN
  isplitl [HI]; · iexact HI
  iexact HO

theorem part8_wp (hr : ∀ j, (rank j).toNat < 5120) (g : S40x8x128.Idx → F .f32) (hg : Done (tileVal rank len G) t.val 6 g)
    (v : FVec F S16 .f32) (hv : RowIs (tileVal rank len G) t 6 v) (v17 : BitVec 32) (c8_i32_136 : BitVec 32) (v278 : BitVec 32) (v283 : BitVec 32) (v285 : BitVec 32) (c0_i32_140 : BitVec 32) :
    scr d L rank len G g
      ⊢ wp frame (wpE (defs₀ (F := F)) 𝒱₀ (vt d L) none) Set.univ
          (k0_part8 L aW (Memref.isWhole_whole _) rW (Memref.isWhole_whole _) nW (Memref.isWhole_whole _) oW (Memref.isWhole_whole _) sR (Memref.isWhole_whole _) sN (Memref.isWhole_whole _) sI (Memref.isWhole_whole _) sO (Memref.isWhole_whole _) cc0_scratch4 cc0_scoped0 cc0_scoped1 cc0_scoped2 t v17 (k0_pay1 (F := F) (words len t)) (k0_pay2 (F := F) (words rank t)) (k0_pay3 (F := F) (words rank t)) v c8_i32_136 v278 v283 v285 c0_i32_140)
          fun r => iprop(∃ g' : S40x8x128.Idx → F .f32, ⌜Done (tileVal rank len G) t.val 7 g' ∧ RowIs (tileVal rank len G) t 7 r.1⌝ ∗ scr d L rank len G g') := by
  rw [k0_part8_eq_skeleton]; unfold k0_part8_skel
  simp only [Prog.lift, Prog.bind_op, Prog.bind_ret, Prog.pure_eq_ret]
  iintro ⟨HR, HN, HI, HO⟩
  iapply (wp_load 𝒱₀ (vt d L) none Set.univ (m := sO) (S := Finset.univ) (Finset.subset_univ _)) $$ HO; iintro HO
  iapply (wp_store 𝒱₀ (vt d L) none Set.univ (m := sO) (r := Rect.unit (s := S40x8x128) (k0_off9 t) S1x1x16.size (k0_off9_inb t)) (Mk := Finset.univ) (S := Finset.univ) (Finset.subset_univ _)) $$ HO; iintro HO
  rw [wp_assume_of (P := k0_chk8 (k0_pay2 (F := F) (words rank t)) (k0_pay3 (F := F) (words rank t)) (broadcast S16 7#32)) _ _ _ _ (gather_inb (F := F) (words rank t) (fun x => hr _) 7#32 (by decide))]
  iapply (SparseCore.wp_vectorLoadIdx 𝒱₀ (vt d L) none Set.univ (base := sI) (S := Finset.univ) (q := fullShare) (Finset.subset_univ _)) $$ HI; iintro HI
  rw [read_tile]
  sl_step
  iexists ((sO.access (Rect.unit (s := S40x8x128) (k0_off9 t) S1x1x16.size (k0_off9_inb t))).write (Elt F) g (shapeCast S1x1x16 v shapeCasts_S16_S1x1x16) Finset.univ)
  isplitr
  · ipureintro
    exact ⟨store_step _ g t 6 _ (off9_eq t) _ v _ hv hg, row_is rank len hr G t 7 _⟩
  isplitl [HR]; · iexact HR
  isplitl [HN]; · iexact HN
  isplitl [HI]; · iexact HI
  iexact HO

omit [FloatOps F] in
theorem elim_pure {φ : Prop} {A B : sProp (MM F)} (h : φ → A ⊢ B) : iprop(⌜φ⌝ ∗ A) ⊢ B := by
  iintro ⟨%hφ, H⟩; iapply (h hφ); iexact H

omit [FloatOps F] in
theorem elim_ex {I : Type} {φ : I → Prop} {A : I → sProp (MM F)} {B : sProp (MM F)} (h : ∀ i, φ i → A i ⊢ B) : iprop(∃ i, ⌜φ i⌝ ∗ A i) ⊢ B := by
  iintro ⟨%i, %hφ, H⟩; iapply (h i hφ); iexact H

set_option maxHeartbeats 1000000 in
/-- A trip of the inner loop stores its sixteen tokens. -/
theorem trip_wp (hr : ∀ j, (rank j).toNat < 5120) (g : S40x8x128.Idx → F .f32) (hg : Done (tileVal rank len G) t.val 0 g) :
    scr d L rank len G g
      ⊢ wp frame (wpE (defs₀ (F := F)) 𝒱₀ (vt d L) none) Set.univ
          (k0_t2_body L aW (Memref.isWhole_whole _) rW (Memref.isWhole_whole _) nW (Memref.isWhole_whole _) oW (Memref.isWhole_whole _) sR (Memref.isWhole_whole _) sN (Memref.isWhole_whole _) sI (Memref.isWhole_whole _) sO (Memref.isWhole_whole _) cc0_scratch4 cc0_scoped0 cc0_scoped1 cc0_scoped2 t ())
          fun _ => iprop(∃ g' : S40x8x128.Idx → F .f32, ⌜Done (tileVal rank len G) (t.val + 1) 0 g'⌝ ∗ scr d L rank len G g') := by
  unfold k0_t2_body
  dsimp only
  rw [wp_bind]
  refine (part1_wp d L t rank len G hr _ _ g).trans (wp_mono frame _ _ fun r => elim_pure ?_)
  obtain ⟨v17, v25, v27, v29, x1, v54, c8⟩ := r
  rintro ⟨h1, h2, h3, hx1⟩
  dsimp only at h1 h2 h3 hx1
  subst h1 h2 h3
  dsimp only
  rw [wp_bind]
  refine (part2_wp d L t rank len G hr g hg x1 hx1 _ _ _).trans (wp_mono frame _ _ fun r => elim_ex fun g2 h2 => ?_)
  obtain ⟨x2, _, _, _⟩ := r
  obtain ⟨hg2, hx2⟩ := h2
  dsimp only at hx2
  dsimp only
  rw [wp_bind]
  refine (part3_wp d L t rank len G hr g2 hg2 x2 hx2 _ _ _ _).trans (wp_mono frame _ _ fun r => elim_ex fun g3 h3 => ?_)
  obtain ⟨x3, _, _⟩ := r
  obtain ⟨hg3, hx3⟩ := h3
  dsimp only at hx3
  dsimp only
  rw [wp_bind]
  refine (part4_wp d L t rank len G hr g3 hg3 x3 hx3 _ _ _).trans (wp_mono frame _ _ fun r => elim_ex fun g4 h4 => ?_)
  obtain ⟨x4, _, _, _, _⟩ := r
  obtain ⟨hg4, hx4⟩ := h4
  dsimp only at hx4
  dsimp only
  rw [wp_bind]
  refine (part5_wp d L t rank len G hr g4 hg4 x4 hx4 _ _ _ _ _).trans (wp_mono frame _ _ fun r => elim_ex fun g5 h5 => ?_)
  obtain ⟨x5, _, _, _⟩ := r
  obtain ⟨hg5, hx5⟩ := h5
  dsimp only at hx5
  dsimp only
  rw [wp_bind]
  refine (part6_wp d L t rank len G hr g5 hg5 x5 hx5 _ _ _ _).trans (wp_mono frame _ _ fun r => elim_ex fun g6 h6 => ?_)
  obtain ⟨x6, _, _, _, _, _⟩ := r
  obtain ⟨hg6, hx6⟩ := h6
  dsimp only at hx6
  dsimp only
  rw [wp_bind]
  refine (part7_wp d L t rank len G hr g6 hg6 x6 hx6 _ _ _ _ _ _).trans (wp_mono frame _ _ fun r => elim_ex fun g7 h7 => ?_)
  obtain ⟨x7, _, _, _, _, _⟩ := r
  obtain ⟨hg7, hx7⟩ := h7
  dsimp only at hx7
  dsimp only
  rw [wp_bind]
  refine (part8_wp d L t rank len G hr g7 hg7 x7 hx7 _ _ _ _ _ _).trans (wp_mono frame _ _ fun r => elim_ex fun g8 h8 => ?_)
  obtain ⟨x8, _, _, _, _⟩ := r
  obtain ⟨hg8, hx8⟩ := h8
  dsimp only at hx8
  dsimp only
  simp only [Prog.lift, Prog.bind_op, Prog.bind_ret, Prog.pure_eq_ret]
  iintro ⟨HR, HN, HI, HO⟩
  iapply (wp_load 𝒱₀ (vt d L) none Set.univ (m := sO) (S := Finset.univ) (Finset.subset_univ _)) $$ HO; iintro HO
  iapply (wp_store 𝒱₀ (vt d L) none Set.univ (m := sO) (r := Rect.unit (s := S40x8x128) (k0_off10 t) S1x1x16.size (k0_off10_inb t)) (Mk := Finset.univ) (S := Finset.univ) (Finset.subset_univ _)) $$ HO; iintro HO
  sl_step
  iexists ((sO.access (Rect.unit (s := S40x8x128) (k0_off10 t) S1x1x16.size (k0_off10_inb t))).write (Elt F) g8 (shapeCast S1x1x16 x8 shapeCasts_S16_S1x1x16) Finset.univ)
  isplitr
  · ipureintro
    exact done_next (store_step _ g8 t 7 _ (off10_eq t) _ x8 _ hx8 hg8)
  isplitl [HR]; · iexact HR
  isplitl [HN]; · iexact HN
  isplitl [HI]; · iexact HI
  iexact HO

end Cert.UnsortIdeal.Hand

end
-- ==== Proof.UnsortIdeal.Outer.lean ====
/- The unsort call: one trip of the outer loop. It fetches a row tile of the scores, runs the inner loop over it and
   copies the finished tile out. -/
module

public import proofs.«01_k».proof.Proof.UnsortIdeal.Inner

@[expose] public section

noncomputable section

namespace Cert.UnsortIdeal.Hand

open Cert.UnsortIdeal Cert.UnsortIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]
variable (m : (ℓ : Loc nD τ sig) → Buf (Elt F) ℓ)
variable (d : Dev nD) (L : grid0.Coords)

theorem bound_zero : grid0.bound 0 = 2 := rfl
theorem bound_one : grid0.bound 1 = 16 := rfl
/-- The number of a task. -/
abbrev wL (L : grid0.Coords) : Fin 32 := wk (Fin.cast bound_zero (L 0)) (Fin.cast bound_one (L 1))

/-- The row tile a trip of the outer loop does. -/
def rowOf (L : grid0.Coords) (t : Fin k0_t1_loop.trips) : Fin 96 :=
  ⟨3 * (wL L).val + t.val, by have := trips1 t; have := (wL L).isLt; omega⟩

theorem rowOf_off (t : Fin k0_t1_loop.trips) : 48 * (L 0).val + 3 * (L 1).val + t.val = (rowOf L t).val := by
  show _ = 3 * (16 * (L 0).val + (L 1).val) + t.val
  omega

abbrev aRow (t : Fin k0_t1_loop.trips) : Memref sig .scVector .hbm S40x8x128 .f32 :=
  (aW.slice (Rect.unit (s := S41x96x8x128) (k0_off1 L t) S40x1x8x128.size (k0_off1_inb L t)) (fun _ => rfl)).squeeze S40x8x128 squeezes_S40x1x8x128_S40x8x128
abbrev oRow (t : Fin k0_t1_loop.trips) : Memref sig .scVector .hbm S40x8x128 .f32 :=
  (oW.slice (Rect.unit (s := S96x40x8x128) (k0_off11 L t) S1x40x8x128.size (k0_off11_inb L t)) (fun _ => rfl)).squeeze S40x8x128 squeezes_S1x40x8x128_S40x8x128

/-- An index of the tile, in the shape the scores' slice has. -/
theorem squeeze_a (h : S40x8x128.numel = S40x1x8x128.numel) (j : S40x8x128.Idx) :
    Shape.reshapeEquiv h j = (ix4 (j 0) (0 : Fin 1) (j 1) (j 2) : S40x1x8x128.Idx) :=
  Shape.reshapeEquiv_eq_of_rowMajor h (by
    rw [Shape.rowMajor_val_four, Shape.rowMajor_val_three]
    show (((j 0).val * 1 + 0) * 8 + (j 1).val) * 128 + (j 2).val = ((j 0).val * 8 + (j 1).val) * 128 + (j 2).val
    omega)

/-- An index of the tile, in the shape the result's slice has. -/
theorem squeeze_o (h : S40x8x128.numel = S1x40x8x128.numel) (j : S40x8x128.Idx) :
    Shape.reshapeEquiv h j = (ix4 (0 : Fin 1) (j 0) (j 1) (j 2) : S1x40x8x128.Idx) :=
  Shape.reshapeEquiv_eq_of_rowMajor h (by
    rw [Shape.rowMajor_val_four, Shape.rowMajor_val_three]
    show ((0 * 40 + (j 0).val) * 8 + (j 1).val) * 128 + (j 2).val = ((j 0).val * 8 + (j 1).val) * 128 + (j 2).val
    omega)

theorem aRow_emb (t : Fin k0_t1_loop.trips) (j : S40x8x128.Idx) :
    ((aRow L t).view.emb j : S41x96x8x128.Idx) = ix4 ⟨(j 0).val, Nat.lt_of_lt_of_le (j 0).isLt (by decide)⟩ (rowOf L t) (j 1) (j 2) := by
  show (aW.view.slice (Rect.unit (s := S41x96x8x128) (k0_off1 L t) S40x1x8x128.size (k0_off1_inb L t))).emb (Shape.reshapeEquiv squeezes_S40x1x8x128_S40x8x128.numel_eq j) = _
  rw [squeeze_a]
  funext a
  apply Fin.ext
  match a with
  | 0 =>
    have h : k0_off1 L t 0 = 0 := by rw [k0_off1_eq]; rfl
    show k0_off1 L t 0 + 1 * (j 0).val = (j 0).val
    omega
  | 1 =>
    have h : k0_off1 L t 1 = 48 * (L 0).val + 3 * (L 1).val + t.val := by rw [k0_off1_eq]; rfl
    show k0_off1 L t 1 + 1 * 0 = (rowOf L t).val
    rw [← rowOf_off]; omega
  | 2 =>
    have h : k0_off1 L t 2 = 0 := by rw [k0_off1_eq]; rfl
    show k0_off1 L t 2 + 1 * (j 1).val = (j 1).val
    omega
  | 3 =>
    have h : k0_off1 L t 3 = 0 := by rw [k0_off1_eq]; rfl
    show k0_off1 L t 3 + 1 * (j 2).val = (j 2).val
    omega

theorem oRow_emb (t : Fin k0_t1_loop.trips) (j : S40x8x128.Idx) :
    ((oRow L t).view.emb j : S96x40x8x128.Idx) = ix4 (rowOf L t) (j 0) (j 1) (j 2) := by
  show (oW.view.slice (Rect.unit (s := S96x40x8x128) (k0_off11 L t) S1x40x8x128.size (k0_off11_inb L t))).emb (Shape.reshapeEquiv squeezes_S1x40x8x128_S40x8x128.numel_eq j) = _
  rw [squeeze_o]
  funext a
  apply Fin.ext
  match a with
  | 0 =>
    have h : k0_off11 L t 0 = 48 * (L 0).val + 3 * (L 1).val + t.val := by rw [k0_off11_eq]; rfl
    show k0_off11 L t 0 + 1 * 0 = (rowOf L t).val
    rw [← rowOf_off]; omega
  | 1 =>
    have h : k0_off11 L t 1 = 0 := by rw [k0_off11_eq]; rfl
    show k0_off11 L t 1 + 1 * (j 0).val = (j 0).val
    omega
  | 2 =>
    have h : k0_off11 L t 2 = 0 := by rw [k0_off11_eq]; rfl
    show k0_off11 L t 2 + 1 * (j 1).val = (j 1).val
    omega
  | 3 =>
    have h : k0_off11 L t 3 = 0 := by rw [k0_off11_eq]; rfl
    show k0_off11 L t 3 + 1 * (j 2).val = (j 2).val
    omega

/-- What the fetch of a row tile reads. -/
theorem aRow_read (t : Fin k0_t1_loop.trips) (acc : S41x96x8x128.Idx → F .f32) :
    (aRow L t).view.read (Elt F) acc = tileOf acc (rowOf L t) := by
  funext j
  show acc ((aRow L t).view.emb j) = _
  rw [aRow_emb]
  rfl

theorem mem_oRow (t : Fin k0_t1_loop.trips) (j : S96x40x8x128.Idx) : j ∈ (oRow L t).view.set ↔ j 0 = rowOf L t := by
  constructor
  · intro h
    obtain ⟨y, -, hy⟩ := Finset.mem_map.mp h
    have hy : (oRow L t).view.emb y = j := hy
    rw [← hy, oRow_emb]
  · intro h
    refine Finset.mem_map.mpr ⟨ix3 (j 1) (j 2) (j 3), Finset.mem_univ _, ?_⟩
    show (oRow L t).view.emb _ = j
    rw [oRow_emb]
    funext a
    match a with
    | 0 => exact h.symm
    | 1 => rfl
    | 2 => rfl
    | 3 => rfl

theorem oRow_subset (t : Fin k0_t1_loop.trips) : ((oRow L t).view.set : Finset S96x40x8x128.Idx) ⊆ oSet (wL L) := by
  intro j hj
  rw [mem_oRow] at hj
  rw [mem_oSet, hj]
  have := trips1 t
  show 3 * (wL L).val ≤ 3 * (wL L).val + t.val ∧ 3 * (wL L).val + t.val < 3 * (wL L).val + 3
  omega

/-- The first `n` of the task's row tiles are done. -/
def Tiles (n : ℕ) (f : S96x40x8x128.Idx → F .f32) : Prop := ∀ j ∈ oSet (wL L), (j 0).val < 3 * (wL L).val + n → f j = X m d j

/-- Copying a finished tile out. -/
theorem tiles_step (t : Fin k0_t1_loop.trips) (f : S96x40x8x128.Idx → F .f32) (h : Tiles m d L t.val f) :
    Tiles m d L (t.val + 1)
      ((oRow L t).view.write (Elt F) f (tileVal (F := F) (m (rLoc d)) (m (nLoc d)) (tileOf (m (aLoc d)) (rowOf L t))) Finset.univ) := by
  intro j hj hlt
  by_cases hr : j 0 = rowOf L t
  · have he : j = (oRow L t).view.emb (ix3 (j 1) (j 2) (j 3)) := by
      rw [oRow_emb]
      funext a
      match a with
      | 0 => exact hr
      | 1 => rfl
      | 2 => rfl
      | 3 => rfl
    refine (congrArg _ he).trans ((View.write_emb_of_mem (Val := Elt F) (v := (oRow L t).view) f _ (Finset.mem_univ (ix3 (j 1) (j 2) (j 3)))).trans ?_)
    show tileVal _ _ _ _ = tileVal _ _ (tileOf _ (j 0)) _
    rw [hr]
    rfl
  · refine (View.write_of_not_mem (Val := Elt F) (v := (oRow L t).view) f _ (M := Finset.univ) (i := j) fun hm => hr ((mem_oRow L t j).mp hm)).trans ?_
    refine h j hj ?_
    have : (j 0).val ≠ (rowOf L t).val := fun e => hr (Fin.ext e)
    have : (rowOf L t).val = 3 * (wL L).val + t.val := rfl
    omega

theorem write_off (t : Fin k0_t1_loop.trips) (f : S96x40x8x128.Idx → F .f32) (w : S40x8x128.Idx → F .f32) (j : S96x40x8x128.Idx)
    (hj : j ∈ oSet (wL L) \ ((oRow L t).view.set : Finset S96x40x8x128.Idx)) : f j = (oRow L t).view.write (Elt F) f w Finset.univ j :=
  (View.write_of_not_mem (Val := Elt F) (v := (oRow L t).view) f w (M := Finset.univ) (i := j) fun hm => (Finset.mem_sdiff.mp hj).2 hm).symm

/-! ## The trip -/

abbrev cell4 : GSem nD τ sig := (vt d L, .dma cc0_scratch4.sem)
abbrev cellC : GSem nD τ sig := (vt d L, .dma cc0_scoped2.sem)

/-- What a task holds before trip `n` of the outer loop. -/
def outer (O : CellTallies nD τ sig (HIx 1)) (W : Waits sig (HIx 1)) (n : ℕ) (_ : PUnit) : sProp (MM F) :=
  iprop(Transfers.MayWaits (vt d L) (none : HIx 1) O
    ∗ (aW.view.loc (vt d L) ↦{xq (wL L)} m (aLoc d))
    ∗ (sR.view.loc (vt d L) ↦{fullShare} (m (rLoc d) : Buf (Elt F) (sR.view.loc (vt d L))))
    ∗ (sN.view.loc (vt d L) ↦{fullShare} (m (nLoc d) : Buf (Elt F) (sN.view.loc (vt d L))))
    ∗ (∃ g, sI.view.loc (vt d L) ↦{fullShare} g)
    ∗ (∃ g, sO.view.loc (vt d L) ↦{fullShare} g)
    ∗ (∃ f : Buf (Elt F) (oLoc d), ⌜Tiles m d L n f⌝ ∗ oPts d (wL L) f)
    ∗ semVal (cell4 d L) 0 ∗ semVal (cellC d L) 0
    ∗ ∃ W', ⌜∀ p ∈ W', p ∈ W ∨ p.2 = none⌝ ∗ owes (vt d L) O W')

/-- What the inner loop holds before its trip `n`. -/
def inner (rank len : S5120.Idx → BitVec 32) (G : S40x8x128.Idx → F .f32) (n : ℕ) (_ : PUnit) : sProp (MM F) :=
  iprop(∃ g : S40x8x128.Idx → F .f32, ⌜Done (tileVal rank len G) n 0 g⌝ ∗ scr d L rank len G g)

set_option maxHeartbeats 4000000 in
theorem outer_trip (hpre : PreOK m) (O : CellTallies nD τ sig (HIx 1)) (W : Waits sig (HIx 1)) (t : Fin k0_t1_loop.trips) :
    outer m d L O W t.val ()
      ⊢ wp frame (wpE (defs₀ (F := F)) 𝒱₀ (vt d L) none) Set.univ
          (k0_t1_body L aW (Memref.isWhole_whole _) rW (Memref.isWhole_whole _) nW (Memref.isWhole_whole _) oW (Memref.isWhole_whole _) sR (Memref.isWhole_whole _) sN (Memref.isWhole_whole _) sI (Memref.isWhole_whole _) sO (Memref.isWhole_whole _) cc0_scratch4 cc0_scoped0 cc0_scoped1 cc0_scoped2 t ())
          fun _ => outer m d L O W (t.val + 1) () := by
  unfold k0_t1_body
  dsimp only
  unfold outer
  iintro ⟨Hmw, Ha, HR, HN, ⟨%gi, HI⟩, ⟨%go, HO⟩, ⟨%f, %hf, Ho⟩, Hs4, HsC, %W', %hW', Hw⟩
  sl_exec
  have hI : View.write (Elt F) sI.view gi (outer_trip.sl.dma0 m d L t) Finset.univ = tileOf (m (aLoc d)) (rowOf L t) :=
    (View.write_whole_univ _ _ _).trans (aRow_read L t (m (aLoc d)))
  ihave HI := (Entails.of_eq (congrArg (fun g => (sI.view.loc (vt d L) ↦{fullShare} g : sProp (MM F))) hI)) $$ HI
  sl_for (inner d L (m (rLoc d)) (m (nLoc d)) (tileOf (m (aLoc d)) (rowOf L t))) $$ [HR HN HI HO]
  case region =>
    intro k _
    exact elim_ex fun g hg => trip_wp d L k _ _ _ (hpre d) g hg
  · unfold inner
    iexists go
    isplitr
    · ipureintro; exact done_zero _ _
    isplitl [HR]; · iexact HR
    isplitl [HN]; · iexact HN
    isplitl [HI]; · iexact HI
    iexact HO
  iintro %_ Hinv
  ihave Hinv := (show inner d L (m (rLoc d)) (m (nLoc d)) (tileOf (m (aLoc d)) (rowOf L t)) k0_t2_loop.trips ()
      ⊢ scr d L (m (rLoc d)) (m (nLoc d)) (tileOf (m (aLoc d)) (rowOf L t)) (tileVal (m (rLoc d)) (m (nLoc d)) (tileOf (m (aLoc d)) (rowOf L t))) from
    elim_ex fun g hg => Entails.of_eq (by rw [done_all hg])) $$ Hinv
  icases Hinv with ⟨HR, HN, HI, HO⟩
  ihave Hsp := (pointsTo_split_subset (q := fullShare) (f := f) (oRow_subset L t)).1 $$ Ho
  icases Hsp with ⟨Hout, Hrest⟩
  ihave Hout := (show (oLoc d ↦[((oRow L t).view.set : Finset S96x40x8x128.Idx)]{fullShare} f : sProp (MM F))
      ⊢ ((oRow L t).view.loc (vt d L) ↦[(oRow L t).view.set]{fullShare} f) from .rfl) $$ Hout
  sl_exec
  have hW : outer_trip.sl.dma0_1 m d L t = tileVal (F := F) (m (rLoc d)) (m (nLoc d)) (tileOf (m (aLoc d)) (rowOf L t)) := rfl
  ihave Hout := (show ((oRow L t).view.loc (vt d L) ↦[(oRow L t).view.set]{fullShare} (oRow L t).view.writes (Elt F) f [⟨Rect.whole S40x8x128, outer_trip.sl.dma0_1 m d L t⟩] : sProp (MM F))
      ⊢ (oLoc d ↦[((oRow L t).view.set : Finset S96x40x8x128.Idx)]{fullShare} ((oRow L t).view.write (Elt F) f
        (tileVal (F := F) (m (rLoc d)) (m (nLoc d)) (tileOf (m (aLoc d)) (rowOf L t))) Finset.univ) : sProp (MM F)) from
    Entails.of_eq (congrArg (fun g => (oLoc d ↦[((oRow L t).view.set : Finset S96x40x8x128.Idx)]{fullShare} g : sProp (MM F)))
      (View.write_univ_eq_writes_whole (oRow L t).view f [] (tileVal (F := F) (m (rLoc d)) (m (nLoc d)) (tileOf (m (aLoc d)) (rowOf L t)))).symm)) $$ Hout
  ihave Hrest := (Entails.of_eq (pointsTo_congr (q := fullShare) (ℓ := oLoc d) (write_off (F := F) L t f
      (tileVal (F := F) (m (rLoc d)) (m (nLoc d)) (tileOf (m (aLoc d)) (rowOf L t)))))) $$ Hrest
  ihave Ho := (pointsTo_split_subset (q := fullShare) (ℓ := oLoc d) (f := (oRow L t).view.write (Elt F) f
      (tileVal (F := F) (m (rLoc d)) (m (nLoc d)) (tileOf (m (aLoc d)) (rowOf L t))) Finset.univ) (oRow_subset L t)).2 $$ [Hout Hrest]
  · isplitl [Hout] <;> iassumption
  sl_step
  isplitl [Hmw]; · iexact Hmw
  isplitl [Ha]; · iexact Ha
  isplitl [HR]; · iexact HR
  isplitl [HN]; · iexact HN
  isplitl [HI]; · iexists _; iexact HI
  isplitl [HO]; · iexists _; iexact HO
  isplitl [Ho]
  · iexists _
    isplitr
    swap; · iexact Ho
    ipureintro; exact tiles_step m d L t f hf
  isplitl [Hs4]; · iexact Hs4
  isplitl [HsC]; · iexact HsC
  iexists _; isplitr
  swap; · iexact Hw
  ipureintro; intro p hp
  rcases Finset.mem_insert.mp hp with hp | hp; · exact .inr (hp ▸ rfl)
  rcases Finset.mem_insert.mp hp with hp | hp; · exact .inr (hp ▸ rfl)
  exact hW' p hp

end Cert.UnsortIdeal.Hand

end
-- ==== Proof.UnsortIdeal.Run.lean ====
/- The unsort call: a task from its operands to its band of the result, the launch, and the program's run. -/
module

public import proofs.«01_k».proof.Proof.UnsortIdeal.Outer

@[expose] public section

noncomputable section

namespace Cert.UnsortIdeal.Hand

open Cert.UnsortIdeal Cert.UnsortIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]
variable (m : (ℓ : Loc nD τ sig) → Buf (Elt F) ℓ) (ρ : Dev nD → PrngReg)

/-! ## The task -/

section Tile

variable (d : Dev nD) (L : grid0.Coords)

abbrev cellA : GSem nD τ sig := (vt d L, .dma cc0_scoped0.sem)
abbrev cellB : GSem nD τ sig := (vt d L, .dma cc0_scoped1.sem)

omit [FloatOps F] in
/-- The four semaphores a task uses are among the subcore's own. -/
theorem ownSems0_V : (ownSems0 (vt d L) : sProp (MM F)) = iprop(semVal (cellA d L) 0 ∗ semVal (cellB d L) 0 ∗ semVal (cell4 d L) 0 ∗ semVal (cellC d L) 0 ∗ bigSep (((((ownCells (vt d L)).erase (cellA d L)).erase (cellB d L)).erase (cell4 d L)).erase (cellC d L)) fun g => semVal g 0) := by
  unfold SparseCore.Cfg.ownSems0
  rw [SparseCore.bigSep_erase' ((mem_ownCells (g := cellA d L)).mpr ⟨rfl, by show (SemLoc.dma cc0_scoped0.sem : SemLoc sig).isScoped .scVector = true; decide⟩),
    SparseCore.bigSep_erase' (Finset.mem_erase.mpr ⟨fun e => absurd (congrArg Prod.snd e) (show (SemLoc.dma cc0_scoped1.sem : SemLoc sig) ≠ SemLoc.dma cc0_scoped0.sem by decide), (mem_ownCells (g := cellB d L)).mpr ⟨rfl, by show (SemLoc.dma cc0_scoped1.sem : SemLoc sig).isScoped .scVector = true; decide⟩⟩),
    SparseCore.bigSep_erase' (Finset.mem_erase.mpr ⟨fun e => absurd (congrArg Prod.snd e) (show (SemLoc.dma cc0_scratch4.sem : SemLoc sig) ≠ SemLoc.dma cc0_scoped1.sem by decide), Finset.mem_erase.mpr ⟨fun e => absurd (congrArg Prod.snd e) (show (SemLoc.dma cc0_scratch4.sem : SemLoc sig) ≠ SemLoc.dma cc0_scoped0.sem by decide), (mem_ownCells (g := cell4 d L)).mpr ⟨rfl, by show (SemLoc.dma cc0_scratch4.sem : SemLoc sig).isScoped .scVector = true; decide⟩⟩⟩),
    SparseCore.bigSep_erase' (Finset.mem_erase.mpr ⟨fun e => absurd (congrArg Prod.snd e) (show (SemLoc.dma cc0_scoped2.sem : SemLoc sig) ≠ SemLoc.dma cc0_scratch4.sem by decide), Finset.mem_erase.mpr ⟨fun e => absurd (congrArg Prod.snd e) (show (SemLoc.dma cc0_scoped2.sem : SemLoc sig) ≠ SemLoc.dma cc0_scoped1.sem by decide), Finset.mem_erase.mpr ⟨fun e => absurd (congrArg Prod.snd e) (show (SemLoc.dma cc0_scoped2.sem : SemLoc sig) ≠ SemLoc.dma cc0_scoped0.sem by decide), (mem_ownCells (g := cellC d L)).mpr ⟨rfl, by show (SemLoc.dma cc0_scoped2.sem : SemLoc sig).isScoped .scVector = true; decide⟩⟩⟩⟩)]

omit [FloatOps F] in
/-- The four scratches are among the subcore's own. -/
theorem ownBufs_V : (ownBufs (vt d L) : sProp (MM F)) = iprop((∃ f, (vt d L).loc cc0_scratch0 ↦{fullShare} f) ∗ (∃ f, (vt d L).loc cc0_scratch1 ↦{fullShare} f) ∗ (∃ f, (vt d L).loc cc0_scratch2 ↦{fullShare} f) ∗ (∃ f, (vt d L).loc cc0_scratch3 ↦{fullShare} f) ∗ bigSep (((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩)]

set_option maxHeartbeats 4000000 in
/-- The task: the ranks and the lengths fetched, three trips of the outer loop, and its band of the result is done. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goP m d (wL L)
        ∗ scopedBufs (vt d L) ∗ scopedSems0 (vt d L) ∗ owes (vt d L) O W)
      ⊢ wp frame (wpE (defs₀ (F := F)) 𝒱₀ (vt d L) none) Set.univ
          (cc0_unsort L aW (Memref.isWhole_whole _) rW (Memref.isWhole_whole _) nW (Memref.isWhole_whole _) oW (Memref.isWhole_whole _) sR (Memref.isWhole_whole _) sN (Memref.isWhole_whole _) sI (Memref.isWhole_whole _) sO (Memref.isWhole_whole _) cc0_scratch4 cc0_scoped0 cc0_scoped1 cc0_scoped2)
          fun _ => iprop(tdP m d (wL L) ∗ scopedBufs (vt d L) ∗ scopedSems0 (vt d L)
            ∗ ∃ W', ⌜∀ p ∈ W', p ∈ W ∨ p.2 = none⌝ ∗ owes (vt d L) O W') := by
  simp only [cc0_unsort_eq_skeleton]; unfold cc0_unsort_skel
  rw [(K (F := F)).scopedBufs_V hF d (cV L) (jV L), SparseCore.Cfg.scopedSems0_V (Val := Elt F) d (cV L) (jV L), ownSems0_V, ownBufs_V]
  iintro ⟨#Hlv, -, ⟨Ha, Hr, Hn, Ho⟩, ⟨⟨%f0, HR⟩, ⟨%f1, HN⟩, ⟨%f2, HI⟩, ⟨%f3, HO⟩, Hbufs⟩, ⟨HsA, HsB, Hs4, HsC, Hsems⟩, Hw⟩
  ihave Hmw := (show levAts (K (F := F)).L (K (F := F)).lev ⊢ Transfers.MayWaits (vt d L) (none : HIx 1) O from
    (K (F := F)).mayWaits_none (thr := vt d L) hO) $$ Hlv
  ihave Ha := (show (aPts m d (wL L) : sProp (MM F)) ⊢ (aW.view.loc (vt d L) ↦{xq (wL L)} m (aLoc d)) from .rfl) $$ Ha
  ihave Hr := (show (rPts m d (wL L) : sProp (MM F)) ⊢ (rW.view.loc (vt d L) ↦{xq (wL L)} m (rLoc d)) from .rfl) $$ Hr
  ihave Hn := (show (nPts m d (wL L) : sProp (MM F)) ⊢ (nW.view.loc (vt d L) ↦{xq (wL L)} m (nLoc d)) from .rfl) $$ Hn
  ihave HR := (show ((vt d L).loc cc0_scratch0 ↦{fullShare} f0 : sProp (MM F)) ⊢ (sR.view.loc (vt d L) ↦{fullShare} f0) from .rfl) $$ HR
  ihave HN := (show ((vt d L).loc cc0_scratch1 ↦{fullShare} f1 : sProp (MM F)) ⊢ (sN.view.loc (vt d L) ↦{fullShare} f1) from .rfl) $$ HN
  sl_exec
  have hR : View.write (Elt F) sR.view f0 (tile_body.sl.dma0 m d) Finset.univ = m (rLoc d) := View.write_whole_univ _ _ _
  have hN : View.write (Elt F) sN.view f1 (tile_body.sl.dma0_1 m d) Finset.univ = m (nLoc d) := View.write_whole_univ _ _ _
  ihave HR := (Entails.of_eq (congrArg (fun g => (sR.view.loc (vt d L) ↦{fullShare} g : sProp (MM F))) hR)) $$ HR
  ihave HN := (Entails.of_eq (congrArg (fun g => (sN.view.loc (vt d L) ↦{fullShare} g : sProp (MM F))) hN)) $$ HN
  sl_for (outer m d L O W) $$ [Hmw Ha HR HN HI HO Ho Hs4 HsC Hw]
  case region =>
    intro k _
    exact outer_trip m d L hpre O W k
  · unfold outer
    isplitl [Hmw]; · iexact Hmw
    isplitl [Ha]; · iexact Ha
    isplitl [HR]; · iexact HR
    isplitl [HN]; · iexact HN
    isplitl [HI]; · iexists f2; iexact HI
    isplitl [HO]; · iexists f3; iexact HO
    isplitl [Ho]
    · iexists _
      isplitr
      swap; · iexact Ho
      ipureintro; intro j hj hlt
      have := (mem_oSet _ _).mp hj
      omega
    isplitl [Hs4]; · iexact Hs4
    isplitl [HsC]; · iexact HsC
    iexists _; isplitr
    swap; · iexact Hw
    ipureintro; intro p hp
    rcases Finset.mem_insert.mp hp with hp | hp; · exact .inr (hp ▸ rfl)
    rcases Finset.mem_insert.mp hp with hp | hp; · exact .inr (hp ▸ rfl)
    exact .inl hp
  iintro %_ Hinv
  unfold outer
  icases Hinv with ⟨-, Ha, HR, HN, ⟨%gi, HI⟩, ⟨%go, HO⟩, ⟨%f, %hf, Ho⟩, Hs4, HsC, %W', %hW', Hw⟩
  have hdone : ∀ j ∈ oSet (wL L), f j = X m d j := fun j hj =>
    hf j hj (by have := (mem_oSet _ _).mp hj; have h3 : Scf.trips k0_t1_loop.lb k0_t1_loop.ub k0_t1_loop.st = 3 := by decide +kernel
                omega)
  ihave Ho := (Entails.of_eq (pointsTo_congr (q := fullShare) (ℓ := oLoc d) hdone)) $$ Ho
  sl_exec
  sl_step
  isplitl [Ha Hr Hn Ho]
  · isplitl [Ha]; · iexact Ha
    isplitl [Hr]; · iexact Hr
    isplitl [Hn]; · iexact Hn
    iexact Ho
  isplitl [HR HN HI HO Hbufs]
  · isplitl [HR]; · iexists _; iexact HR
    isplitl [HN]; · iexists _; iexact HN
    isplitl [HI]; · iexists _; iexact HI
    isplitl [HO]; · iexists _; iexact HO
    iexact Hbufs
  isplitl [HsA HsB Hs4 HsC Hsems]
  · isplitl [HsA]; · iexact HsA
    isplitl [HsB]; · iexact HsB
    isplitl [Hs4]; · iexact Hs4
    isplitl [HsC]; · iexact HsC
    iexact Hsems
  iexists W'; isplitr
  · ipureintro; exact hW'
  · iexact Hw

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_unsort (coordsV c s) aW (Memref.isWhole_whole _) rW (Memref.isWhole_whole _) nW (Memref.isWhole_whole _) oW (Memref.isWhole_whole _) sR (Memref.isWhole_whole _) sN (Memref.isWhole_whole _) sI (Memref.isWhole_whole _) sO (Memref.isWhole_whole _) cc0_scratch4 cc0_scoped0 cc0_scoped1 cc0_scoped2) ⟨⟩ c s := rfl

omit [FloatOps F] in
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

/-! ## The launch -/

def u₀ : UU := (initOf (K (F := F)).hsCells (K (F := F)).hsToks, 1)

omit [FloatOps F] in
theorem bigSep_emp' {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The main thread -/

omit [FloatOps F] in
theorem unscopedBufs_eq (d : Dev nD) (W : (b : Ref sig .tc) → Buf (Elt F) ((d.tc : Thread nD τ).loc b)) :
    (unscopedBufs d W : sProp (MM F))
      = iprop((aLoc d ↦{fullShare} W main_arg0) ∗ (rLoc d ↦{fullShare} W main_arg1) ∗ (nLoc d ↦{fullShare} W main_arg2) ∗ oLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

abbrev FIN (d : Dev nD) : sProp (MM F) :=
  iprop((aLoc d ↦{fullShare} m (aLoc d)) ∗ (rLoc d ↦{fullShare} m (rLoc d)) ∗ (nLoc d ↦{fullShare} m (nLoc d)) ∗ (oLoc d ↦{fullShare} X m d))

/-- The main thread: the one call, from the three operands and the result's buffer; back come the operands and the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hr, Hn, Ho⟩, Hts, -⟩, -⟩
  iapply ((K (F := F)).wp_run (D (F := F)) 𝒱 (EH := EH) (P := P m) κ d 0) $$ [Hst Ha Hr Hn Ho Hb Hts]
  isplitr; · iexact Hctx
  isplitl [Hst]; · iexact Hst
  isplitl [Ha Hr Hn Ho]
  · rw [st0_eq]
    isplitl [Ha]; · iexact Ha
    isplitl [Hr]; · iexact Hr
    isplitl [Hn]; · iexact Hn
    iexact Ho
  iintro ⟨Hst, Hdn⟩
  ihave Hdn' := (Entails.of_eq (dn0_eq m d)) $$ Hdn
  imodintro
  isplitl [Hst]; · iexact Hst
  isplitr [Hb Hts]; · iexact Hdn'
  isplitl [Hb] <;> iassumption

def fq (d : Dev nD) (s' : Phys nD τ sig (Elt F)) : Prop :=
  s'.mem.mem (aLoc d) = m (aLoc d) ∧ s'.mem.mem (rLoc d) = m (rLoc d) ∧ s'.mem.mem (nLoc d) = m (nLoc d) ∧ s'.mem.mem (oLoc d) = X m d

set_option maxRecDepth 16384 in
theorem hfin (d : Dev nD) (s' : Phys nD τ sig (Elt F)) : iprop(FIN m d ∗ SI s') ⊢ (⌜fq m d s'⌝ : sProp (MM F)) := by
  iintro ⟨⟨Ha, Hr, Hn, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := rLoc d) (I := Finset.univ) (q := fullShare) (f := m (rLoc d)))) $$ [HSI Hr]
  · isplitl [HSI] <;> iassumption
  icases H with ⟨%h2, HSI, -⟩
  ihave H := (persistent_entails_right (SI_pointsTo_agree (st := s') (ℓ := nLoc d) (I := Finset.univ) (q := fullShare) (f := m (nLoc d)))) $$ [HSI Hn]
  · isplitl [HSI] <;> iassumption
  icases H with ⟨%h3, HSI, -⟩
  ihave H := (SI_pointsTo_agree (st := s') (ℓ := oLoc d) (I := Finset.univ) (q := fullShare) (f := X m d)) $$ [HSI Ho]
  · isplitl [HSI] <;> iassumption
  icases H with %h4
  ipureintro
  exact ⟨funext fun i => h1 i (Finset.mem_univ i), funext fun i => h2 i (Finset.mem_univ i), funext fun i => h3 i (Finset.mem_univ i),
    funext fun i => h4 i (Finset.mem_univ i)⟩

/-! ## The program's run -/

def QC : PUnit × MemSt nD τ sig (Elt F) → Prop := fun r =>
  (∀ c : Dev nD, r.2.mem (aLoc c) = m (aLoc c) ∧ r.2.mem (rLoc c) = m (rLoc c) ∧ r.2.mem (nLoc c) = m (nLoc c) ∧ r.2.mem (oLoc c) = X m c)
    ∧ r.2.sem = fun _ => 0

theorem run_main [∀ e, Nonempty (Elt F e)] (hpre : PreOK m) :
    θ_run (Cert.UnsortIdeal.defs (F := F)) (Cert.UnsortIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.UnsortIdeal.Hand

end
-- ==== Proof.UnsortDocs.lean ====
/- The unsort call: its frames, and its ideal reading computing what the plain reference computes. -/
module

public import proofs.«01_k».proof.Proof.Unsort.Run
public import proofs.«01_k».proof.Proof.UnsortIdeal.Run
public import proofs.«01_k».proof.Proof.Gen.UnsortReferenceIdeal
public import proofs.«01_k».proof.Proof.Gen.UnsortReferenceIdeal.Run
public import proofs.«01_k».proof.Proof.Gen.UnsortReferenceIdeal.Read
public import proofs.«01_k».proof.Proof.Gen.Pre_rank_ok
public import Idealize.ShloMosaic.Lib.ValueLayout

@[expose] public section

noncomputable section

namespace Cert.UnsortDocs

open Idealize.ShloMosaic Idealize.SL.Sem
open Idealize.ShloMosaic.ValueIdx

/-! ## The precondition -/

theorem ofBool_one (b : Bool) (h : BitVec.ofBool b = 1#1) : b = true := by
  cases b
  · exact absurd h (by decide)
  · rfl

theorem andi_one (x y : BitVec 1) (h : IntOp.andi x y = 1#1) : x = 1#1 ∧ y = 1#1 := by
  revert x y; decide

/-- A rank from 0 up to 5119, read signed, is one of the 5120 places. -/
theorem rank_lt (v : BitVec 32) (e : IntOp.andi (IntOp.cmpi .sge v 0#32) (IntOp.cmpi .slt v 5120#32) = 1#1) : v.toNat < 5120 := by
  obtain ⟨e1, e2⟩ := andi_one _ _ e
  have h1 := ofBool_one _ e1
  have h2 := ofBool_one _ e2
  simp only [BitVec.sle_eq_decide, BitVec.slt_eq_decide, decide_eq_true_eq, BitVec.toInt_eq_toNat_cond, BitVec.toNat_ofNat, Nat.reducePow, Nat.reduceMod] at h1 h2
  omega

theorem ranks_ok {F : FTy → Type} [FloatOps F] (a : FVec F Cert.Pre_rank_ok.S41x96x8x128 .f32) (r n : IVec Cert.Pre_rank_ok.S5120 32)
    (h : @Cert.Pre_rank_ok.fn Cert.Pre_rank_ok.Gen.facts F _ a r n = fun _ => 1#1) (j : Cert.Pre_rank_ok.S5120.Idx) : (r j).toNat < 5120 := by
  refine rank_lt (r j) ?_
  have e := congrFun h j
  simpa only [Cert.Pre_rank_ok.fn, andi, cmpi, broadcastInDim, constantI] using e

/-! ## The frames -/

theorem frame : Cert.quiescent_Unsort (hUnsort := Cert.Unsort.Gen.facts) (hPre_rank_ok := Cert.Pre_rank_ok.Gen.facts) := fun m ρ hp =>
  (θ_run (Cert.Unsort.defs (F := Bits)) _ _).mono (fun _ h => ⟨fun c => ⟨(h.1 c).1, (h.1 c).2.1, (h.1 c).2.2.1⟩, h.2⟩)
    (Cert.Unsort.Hand.run_main (F := Bits) m ρ fun d j => ranks_ok _ _ _ (hp d) j)

theorem frame_ideal : Cert.quiescent_UnsortIdeal (hUnsortIdeal := Cert.UnsortIdeal.Gen.facts) (hPre_rank_ok := Cert.Pre_rank_ok.Gen.facts) := fun m ρ hp =>
  (θ_run (Cert.UnsortIdeal.defs (F := Ideal)) _ _).mono (fun _ h => ⟨fun c => ⟨(h.1 c).1, (h.1 c).2.1, (h.1 c).2.2.1⟩, h.2⟩)
    (Cert.UnsortIdeal.Hand.run_main (F := Ideal) m ρ fun d j => ranks_ok _ _ _ (hp d) j)

theorem ref_frame : Cert.quiescent_UnsortReferenceIdeal (hUnsortReferenceIdeal := Cert.UnsortReferenceIdeal.Gen.facts) := fun m ρ _ =>
  (θ_run (Cert.UnsortReferenceIdeal.defs (F := Ideal)) _ _).mono (fun _ h => ⟨fun c => (h c).2, sem_eq_zero_of_no_sems (by decide) _⟩)
    (Cert.UnsortReferenceIdeal.Value.run (F := Ideal) m ρ)

theorem ref_frame_pre : Cert.quiescent_UnsortReferenceIdeal_pre_rank_ok (hUnsortReferenceIdeal := Cert.UnsortReferenceIdeal.Gen.facts)
    (hPre_rank_ok := Cert.Pre_rank_ok.Gen.facts) := fun m ρ _ =>
  (θ_run (Cert.UnsortReferenceIdeal.defs (F := Ideal)) _ _).mono (fun _ h => ⟨fun c => (h c).2, sem_eq_zero_of_no_sems (by decide) _⟩)
    (Cert.UnsortReferenceIdeal.Value.run (F := Ideal) m ρ)

/-! ## The reference's result at an index -/

section Ref
open Cert.UnsortReferenceIdeal Cert.UnsortReferenceIdeal.Gen Cert.UnsortReferenceIdeal.Read

/-- The reference's gather: the score of a row at the rank the index table holds, clamped into range. -/
theorem gather_apply {α : Type} (x : S96x8x5248.Idx → α) (idx : IVec S5120x1 32) (y : S96x8x5120.Idx) :
    Host.gather gather_S96x8x5248_S5120x1_S96x8x5120_01_2_n_n_2_1_9681 x idx y
      = x (ix3 (y 0) (y 1) ⟨min (idx (ix2 (y 2) 0)).toInt.toNat 5247, by omega⟩) := by
  unfold Host.gather
  congr 1
  funext a
  refine Fin.ext ?_
  match a with
  | ⟨0, _⟩ =>
    show GatherDims.start gather_S96x8x5248_S5120x1_S96x8x5120_01_2_n_n_2_1_9681 y idx 0 + GatherDims.batchCoord gather_S96x8x5248_S5120x1_S96x8x5120_01_2_n_n_2_1_9681 y 0 + GatherDims.offCoord gather_S96x8x5248_S5120x1_S96x8x5120_01_2_n_n_2_1_9681 y 0 = _
    rw [GatherDims.batchCoord_eq_zero _ _ _ List.not_mem_nil]
    unfold GatherDims.start
    rw [dif_neg (show (0 : Fin 3) ∉ gather_S96x8x5248_S5120x1_S96x8x5120_01_2_n_n_2_1_9681.startIndexMap from fun e => absurd (List.mem_singleton.mp e) (by decide))]
    unfold GatherDims.offCoord
    rw [dif_pos ((GatherDims.mem_sKept _ _).mpr ⟨fun e => absurd (List.mem_singleton.mp e) (by decide), List.not_mem_nil⟩)]
    simp only [Nat.zero_add]
    rfl
  | ⟨1, _⟩ =>
    show GatherDims.start gather_S96x8x5248_S5120x1_S96x8x5120_01_2_n_n_2_1_9681 y idx 1 + GatherDims.batchCoord gather_S96x8x5248_S5120x1_S96x8x5120_01_2_n_n_2_1_9681 y 1 + GatherDims.offCoord gather_S96x8x5248_S5120x1_S96x8x5120_01_2_n_n_2_1_9681 y 1 = _
    rw [GatherDims.batchCoord_eq_zero _ _ _ List.not_mem_nil]
    unfold GatherDims.start
    rw [dif_neg (show (1 : Fin 3) ∉ gather_S96x8x5248_S5120x1_S96x8x5120_01_2_n_n_2_1_9681.startIndexMap from fun e => absurd (List.mem_singleton.mp e) (by decide))]
    unfold GatherDims.offCoord
    rw [dif_pos ((GatherDims.mem_sKept _ _).mpr ⟨fun e => absurd (List.mem_singleton.mp e) (by decide), List.not_mem_nil⟩)]
    simp only [Nat.zero_add]
    rfl
  | ⟨2, _⟩ =>
    show GatherDims.start gather_S96x8x5248_S5120x1_S96x8x5120_01_2_n_n_2_1_9681 y idx 2 + GatherDims.batchCoord _ y 2 + GatherDims.offCoord _ y 2 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gather_S96x8x5248_S5120x1_S96x8x5120_01_2_n_n_2_1_9681.startIndexMap from List.mem_singleton.mpr rfl)]
    have hsi : gather_S96x8x5248_S5120x1_S96x8x5120_01_2_n_n_2_1_9681.siIdx y
        ⟨List.idxOf (2 : Fin 3) gather_S96x8x5248_S5120x1_S96x8x5120_01_2_n_n_2_1_9681.startIndexMap,
          List.idxOf_lt_length_iff.2 (List.mem_singleton.mpr rfl)⟩ = ix2 (y 2) 0 := by
      funext b; refine Fin.ext ?_
      match b with
      | ⟨0, _⟩ => rfl
      | ⟨1, _⟩ => rfl
    rw [hsi]
    rfl

/-- A rank in range is not wrapped. -/
theorem wrapped_apply (x1 : S5120.Idx → BitVec 32) (p : S5120.Idx) (h : (x1 p).toNat < 5120) : val_main_v6 (F := Ideal) x1 p = x1 p := by
  rw [val_main_v6_apply, val_main_v3_apply, val_main_v2_apply, val_main_c_apply]
  have e : IntOp.cmpi .slt (x1 p) 0#32 = 0#1 := by
    have : (x1 p).slt 0#32 = false := by
      simp only [BitVec.slt_eq_decide, decide_eq_false_iff_not, BitVec.toInt_eq_toNat_cond, BitVec.toNat_ofNat, Nat.reducePow, Nat.reduceMod]
      omega
    show BitVec.ofBool ((x1 p).slt 0#32) = 0#1
    rw [this]; rfl
  rw [e]; rfl

/-- The score the reference picks for a token: its row's at the token's rank. -/
theorem best_apply (x0 : S41x96x8x128.Idx → EReal) (x1 : S5120.Idx → BitVec 32) (t : Fin 96) (s : Fin 8) (p : Fin 5120)
    (h : (x1 (ix1 p)).toNat < 5120) :
    val_main_v8 (F := Ideal) x0 x1 (ix3 t s p)
      = x0 (ix4 ⟨(x1 (ix1 p)).toNat / 128, by omega⟩ t s ⟨(x1 (ix1 p)).toNat % 128, Nat.mod_lt _ (by decide)⟩) := by
  unfold val_main_v8
  rw [gather_apply, val_main_v1_apply, val_main_v0_apply]
  have e7 : val_main_v7 (F := Ideal) x1 (ix2 p 0) = x1 (ix1 p) := by
    rw [val_main_v7_apply]
    have ei : idx_main_v7 (ix2 p 0) = ix1 p := by
      funext a; match a with | ⟨0, _⟩ => rfl
    rw [ei]; exact wrapped_apply x1 _ h
  have hv : min (val_main_v7 (F := Ideal) x1 (ix2 p 0)).toInt.toNat 5247 = (x1 (ix1 p)).toNat := by
    rw [e7, BitVec.toInt_eq_toNat_cond]
    simp only [Nat.reducePow]
    omega
  have ht := t.isLt
  have hs := s.isLt
  congr 1
  funext a
  refine Fin.ext ?_
  match a with
  | ⟨0, _⟩ =>
    show ((t.val * 8 + s.val) * 5248 + min (val_main_v7 (F := Ideal) x1 (ix2 p 0)).toInt.toNat 5247) / 128 % 41 = (x1 (ix1 p)).toNat / 128
    rw [hv]; omega
  | ⟨1, _⟩ =>
    show ((t.val * 8 + s.val) * 5248 + min (val_main_v7 (F := Ideal) x1 (ix2 p 0)).toInt.toNat 5247) / 41984 = t.val
    rw [hv]; omega
  | ⟨2, _⟩ =>
    show ((t.val * 8 + s.val) * 5248 + min (val_main_v7 (F := Ideal) x1 (ix2 p 0)).toInt.toNat 5247) / 5248 % 8 = s.val
    rw [hv]; omega
  | ⟨3, _⟩ =>
    show ((t.val * 8 + s.val) * 5248 + min (val_main_v7 (F := Ideal) x1 (ix2 p 0)).toInt.toNat 5247) % 128 = (x1 (ix1 p)).toNat % 128
    rw [hv]; omega

/-- The reference's value for one token of one row. -/
theorem doc_apply (x0 : S41x96x8x128.Idx → EReal) (x1 x2 : S5120.Idx → BitVec 32) (t : Fin 96) (s : Fin 8) (p : Fin 5120)
    (h : (x1 (ix1 p)).toNat < 5120) :
    val_main_v15 (F := Ideal) x0 x1 x2 (ix3 t s p)
      = Cert.UnsortIdeal.Hand.elt (F := Ideal) (x2 (ix1 p))
          (x0 (ix4 ⟨(x1 (ix1 p)).toNat / 128, by omega⟩ t s ⟨(x1 (ix1 p)).toNat % 128, Nat.mod_lt _ (by decide)⟩)) := by
  have ei : idx_main_call0_v1 (ix3 t s p) = ix1 p := by
    funext a; match a with | ⟨0, _⟩ => rfl
  rw [val_main_v15_apply, val_main_call0_v1_apply, ei, val_main_v10_apply, val_main_v9_apply, val_main_c_1_apply, val_main_call0_v2_apply,
    val_main_call0_v0_apply, val_main_cst_3_apply, val_main_v14_apply, val_main_v12_apply, best_apply x0 x1 t s p h, val_main_v11_apply,
    val_main_cst_apply, val_main_v13_apply, val_main_cst_2_apply]
  rfl

/-- The reference's result is the kernel's. -/
theorem ref_apply (x0 : S41x96x8x128.Idx → EReal) (x1 x2 : S5120.Idx → BitVec 32) (h : ∀ p, (x1 p).toNat < 5120) (t : Fin 96) (b : Fin 40)
    (s : Fin 8) (l : Fin 128) :
    val_main_v17 (F := Ideal) x0 x1 x2 (ix4 t b s l) = Cert.UnsortIdeal.Hand.out (F := Ideal) x0 x1 x2 (ix4 t b s l) := by
  rw [val_main_v17_apply, val_main_v16_apply]
  have ht := t.isLt
  have hb := b.isLt
  have hs := s.isLt
  have hl := l.isLt
  have ei : idx_main_v16 (idx_main_v17 (ix4 t b s l)) = ix3 t s (Cert.UnsortIdeal.Hand.tok b l) := by
    funext a
    refine Fin.ext ?_
    match a with
    | ⟨0, _⟩ => show (((t.val * 8 + s.val) * 40 + b.val) * 128 + l.val) / 40960 = t.val; omega
    | ⟨1, _⟩ => show (((t.val * 8 + s.val) * 40 + b.val) * 128 + l.val) / 5120 % 8 = s.val; omega
    | ⟨2, _⟩ => show (((t.val * 8 + s.val) * 40 + b.val) * 128 + l.val) % 5120 = 128 * b.val + l.val; omega
  rw [ei, doc_apply x0 x1 x2 t s _ (h _)]
  unfold Cert.UnsortIdeal.Hand.out Cert.UnsortIdeal.Hand.tileVal Cert.UnsortIdeal.Hand.tileOf
  have hr := h (ix1 (Cert.UnsortIdeal.Hand.tok b l))
  refine congrArg (Cert.UnsortIdeal.Hand.elt (F := Ideal) (x2 (ix1 (Cert.UnsortIdeal.Hand.tok b l)))) ?_
  refine congrArg x0 (funext fun a => Fin.ext ?_)
  match a with
  | ⟨0, _⟩ =>
    show (x1 (ix1 (Cert.UnsortIdeal.Hand.tok b l))).toNat / 128 = (x1 (ix1 (Cert.UnsortIdeal.Hand.tok b l))).toNat / 128 % 40
    omega
  | ⟨1, _⟩ => rfl
  | ⟨2, _⟩ => rfl
  | ⟨3, _⟩ => rfl

end Ref

/-! ## The equation -/

/-- The algebraic claim of the unsort call. -/
theorem algebraic : Cert.algebraic_UnsortIdeal_UnsortReferenceIdeal (hUnsortIdeal := Cert.UnsortIdeal.Gen.facts)
    (hUnsortReferenceIdeal := Cert.UnsortReferenceIdeal.Gen.facts) (hPre_rank_ok := Cert.Pre_rank_ok.Gen.facts) := by
  intro m g m' g' hp hA
  have hr : ∀ d j, (m (Cert.UnsortIdeal.Hand.rLoc d) j).toNat < 5120 := fun d j => ranks_ok _ _ _ (hp d) j
  refine ⟨fun c => Cert.UnsortIdeal.Hand.X (F := Ideal) m c, ?_, ?_⟩
  · exact (θ_run (Cert.UnsortIdeal.defs (F := Ideal)) _ _).mono
      (fun _ h c => ⟨(h.1 c).2.2.2, (h.1 c).1, (h.1 c).2.1, (h.1 c).2.2.1⟩) (Cert.UnsortIdeal.Hand.run_main (F := Ideal) m g hr)
  refine (θ_run (Cert.UnsortReferenceIdeal.defs (F := Ideal)) _ _).mono (fun r h c => ?_) (Cert.UnsortReferenceIdeal.Value.run (F := Ideal) m' g')
  obtain rfl : c = 0 := Subsingleton.elim _ _
  refine ⟨?_, (h 0).2⟩
  have hv := ((h 0).1).trans (Cert.UnsortReferenceIdeal.Read.val_main_v17_eq (F := Ideal) _ _ _)
  rw [(hA 0).1, (hA 0).2.1, (hA 0).2.2] at hv
  refine hv.trans (funext fun i => ?_)
  have ei : i = ix4 (i 0) (i 1) (i 2) (i 3) := by
    funext a
    fin_cases a <;> rfl
  have e := ref_apply (m (Cert.UnsortIdeal.Hand.aLoc 0)) (m (Cert.UnsortIdeal.Hand.rLoc 0)) (m (Cert.UnsortIdeal.Hand.nLoc 0)) (hr 0) (i 0) (i 1) (i 2) (i 3)
  rw [ei]
  exact e

end Cert.UnsortDocs

end
-- ==== Proof.lean ====
/- The proof of the claims. -/
module

public import proofs.«01_k».proof.Defs
public import proofs.«01_k».proof.Proof.Gen.Pre_tables_ok

public import proofs.«01_k».proof.Proof.Kernel.Pre
public import proofs.«01_k».proof.Proof.KernelIdeal.Pre
public import proofs.«01_k».proof.Proof.Reference
public import proofs.«01_k».proof.Proof.Gen.Sums.Frame
public import proofs.«01_k».proof.Proof.Gen.On_doc_blocks
public import proofs.«01_k».proof.Proof.Equation
public import proofs.«01_k».proof.Proof.SumRows
public import proofs.«01_k».proof.Proof.CodeWords
public import proofs.«01_k».proof.Proof.UnsortDocs

@[expose] public section

namespace Cert.Proof

/-- The claims, for the scores, for the unsort and for the sums: the frames of each call, its ideal reading and its reference, the ideal
    reading's preservation, and the algebraic equation. For the ranking, the frames and the packed words, bit for bit. -/
theorem claim : Cert.Claim :=
  ⟨Cert.Kernel.Gen.facts, Cert.KernelIdeal.Gen.facts, Cert.ReferenceIdeal.Gen.facts, Cert.Ranks.Gen.facts, Cert.RanksReference.Gen.facts, Cert.Unsort.Gen.facts, Cert.UnsortIdeal.Gen.facts, Cert.UnsortReferenceIdeal.Gen.facts, Cert.Sums.Gen.facts, Cert.SumsIdeal.Gen.facts, Cert.SumsReferenceIdeal.Gen.facts, Cert.Pre_tables_ok.Gen.facts, Cert.Pre_rank_ok.Gen.facts, Cert.On_doc_blocks.Gen.facts, Cert.On_words_only.Gen.facts,
    fun m ρ h => have hG := Cert.Tables.good_of_fn _ _ _ _ (h 0)
      Cert.Kernel.Hand.frame m ρ (Cert.Kernel.Hand.ok_of m hG) (Cert.Kernel.Hand.hyps_of m hG _) (Cert.Kernel.Hand.proc_zero m hG),
    fun m ρ h => have hG := Cert.Tables.good_of_fn _ _ _ _ (h 0)
      Cert.KernelIdeal.Hand.frame m ρ (Cert.KernelIdeal.Hand.ok_of m hG) (Cert.KernelIdeal.Hand.hyps_of m hG _) (Cert.KernelIdeal.Hand.proc_zero m hG),
    fun m ρ _ => Cert.ReferenceIdeal.Gen.frame m ρ,
    fun m ρ _ => Cert.ReferenceIdeal.Gen.frame m ρ,
    fun m ρ _ => Cert.Ranks.Gen.frame m ρ,
    fun m ρ _ => Cert.RanksReference.Gen.frame m ρ,
    Cert.UnsortDocs.frame,
    Cert.UnsortDocs.frame_ideal,
    Cert.UnsortDocs.ref_frame,
    Cert.UnsortDocs.ref_frame_pre,
    fun m ρ _ => Cert.Sums.Gen.frame m ρ,
    fun m ρ _ => Cert.SumsIdeal.Gen.frame m ρ,
    Cert.SumRows.ref_frame,
    trivial,
    Cert.Equation.algebraic,
    Cert.CodeWords.bitexact,
    trivial,
    Cert.UnsortDocs.algebraic,
    trivial,
    Cert.SumRows.algebraic⟩

end Cert.Proof
